-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 32, 64]⟩ ⟨4, ![2, 2048, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x32x64 : Shape := ⟨4, ![2, 256, 32, 64]⟩
abbrev S256x512 : Shape := ⟨2, ![256, 512]⟩
abbrev S2x256x2048 : Shape := ⟨3, ![2, 256, 2048]⟩
abbrev S_ : Shape := ⟨0, ![]⟩
abbrev S2x384x256 : Shape := ⟨3, ![2, 384, 256]⟩
abbrev S8x2x32x512 : Shape := ⟨4, ![8, 2, 32, 512]⟩
abbrev S8x2 : Shape := ⟨2, ![8, 2]⟩
abbrev S2x2 : Shape := ⟨2, ![2, 2]⟩
abbrev S8 : Shape := ⟨1, ![8]⟩
abbrev S1x1 : Shape := ⟨2, ![1, 1]⟩
abbrev S2x256x256 : Shape := ⟨3, ![2, 256, 256]⟩
abbrev S2x128x256 : Shape := ⟨3, ![2, 128, 256]⟩
abbrev S1x256x512 : Shape := ⟨3, ![1, 256, 512]⟩
abbrev S256x256 : Shape := ⟨2, ![256, 256]⟩
abbrev S256x384 : Shape := ⟨2, ![256, 384]⟩
abbrev S256x64 : Shape := ⟨2, ![256, 64]⟩
abbrev S1x384x64 : Shape := ⟨3, ![1, 384, 64]⟩
abbrev S384x64 : Shape := ⟨2, ![384, 64]⟩
abbrev S256 : Shape := ⟨1, ![256]⟩
abbrev S256x1 : Shape := ⟨2, ![256, 1]⟩
abbrev S1 : Shape := ⟨1, ![1]⟩
abbrev S1x2x32x512 : Shape := ⟨4, ![1, 2, 32, 512]⟩
abbrev S2x32x512 : Shape := ⟨3, ![2, 32, 512]⟩

abbrev nBuf : Space → Nat
  | .hbm => 36
  | .vmem => 11
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x32x64, .f32⟩
  | .hbm, ⟨3, _⟩ => ⟨S2x256x32x64, .f32⟩
  | .hbm, ⟨4, _⟩ => ⟨S256x512, .f32⟩
  | .hbm, ⟨5, _⟩ => ⟨S2x256x2048, .f32⟩
  | .hbm, ⟨6, _⟩ => ⟨S_, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S2x256x2048, .f32⟩
  | .hbm, ⟨14, _⟩ => ⟨S2x256x2048, .f32⟩
  | .hbm, ⟨15, _⟩ => ⟨S_, .f32⟩
  | .hbm, ⟨16, _⟩ => ⟨S2x256x2048, .f32⟩
  | .hbm, ⟨17, _⟩ => ⟨S2x256x2048, .f32⟩
  | .hbm, ⟨18, _⟩ => ⟨S2x256x2048, .i32⟩
  | .hbm, ⟨19, _⟩ => ⟨S2x256x2048, .i8⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S2x256x2048, .f32⟩
  | .hbm, ⟨29, _⟩ => ⟨S2x256x2048, .f32⟩
  | .hbm, ⟨30, _⟩ => ⟨S_, .f32⟩
  | .hbm, ⟨31, _⟩ => ⟨S2x256x2048, .f32⟩
  | .hbm, ⟨32, _⟩ => ⟨S2x256x2048, .f32⟩
  | .hbm, ⟨33, _⟩ => ⟨S2x256x2048, .i32⟩
  | .hbm, ⟨34, _⟩ => ⟨S2x256x2048, .i8⟩
  | .hbm, ⟨35, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S2x256x2048, .i8⟩
  | .local _ .vmem, ⟨3, _⟩ => ⟨S2x256x2048, .i8⟩
  | .local _ .vmem, ⟨4, _⟩ => ⟨S256x512, .f32⟩
  | .local _ .vmem, ⟨5, _⟩ => ⟨S2x256x512, .f32⟩
  | .local _ .vmem, ⟨6, _⟩ => ⟨S2x384x256, .i8⟩
  | .local _ .vmem, ⟨7, _⟩ => ⟨S2x384x256, .i8⟩
  | .local _ .vmem, ⟨8, _⟩ => ⟨S2x256x512, .bf16⟩
  | .local _ .vmem, ⟨9, _⟩ => ⟨S8x2x32x512, .bf16⟩
  | .local _ .vmem, ⟨10, _⟩ => ⟨S8x2x32x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_c_3 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_29 : BitVec 32 := 0#32
  let v32 : BitVec 1 := Scalar.cmpi .eq v2 c0_i32_29
  let v33 : BitVec 32 := Scalar.extui v32
  let c0_i32_30 : BitVec 32 := 0#32
  let v34 : BitVec 1 := Scalar.cmpi .ne v33 c0_i32_30
  v34

def k0_dev8 : Nat :=
  let c0_i32_286 : BitVec 32 := 0#32
  let c1_i32_284 : BitVec 32 := 1#32
  let c1_i32_285 : BitVec 32 := 1#32
  let v450 : BitVec 32 := Scalar.muli c1_i32_284 c1_i32_285
  let v451 : BitVec 32 := Scalar.addi c0_i32_286 v450
  v451.toNat
def k0_dev9 : Nat :=
  let c0_i32_298 : BitVec 32 := 0#32
  let c1_i32_296 : BitVec 32 := 1#32
  let c1_i32_297 : BitVec 32 := 1#32
  let v458 : BitVec 32 := Scalar.muli c1_i32_296 c1_i32_297
  let v459 : BitVec 32 := Scalar.addi c0_i32_298 v458
  v459.toNat
def k0_dev10 : Nat :=
  let c0_i32_311 : BitVec 32 := 0#32
  let c2_i32_309 : BitVec 32 := 2#32
  let c1_i32_310 : BitVec 32 := 1#32
  let v466 : BitVec 32 := Scalar.muli c2_i32_309 c1_i32_310
  let v467 : BitVec 32 := Scalar.addi c0_i32_311 v466
  v467.toNat
def k0_dev11 : Nat :=
  let c0_i32_323 : BitVec 32 := 0#32
  let c2_i32_321 : BitVec 32 := 2#32
  let c1_i32_322 : BitVec 32 := 1#32
  let v474 : BitVec 32 := Scalar.muli c2_i32_321 c1_i32_322
  let v475 : BitVec 32 := Scalar.addi c0_i32_323 v474
  v475.toNat
def k0_dev12 : Nat :=
  let c0_i32_336 : BitVec 32 := 0#32
  let c3_i32_334 : BitVec 32 := 3#32
  let c1_i32_335 : BitVec 32 := 1#32
  let v482 : BitVec 32 := Scalar.muli c3_i32_334 c1_i32_335
  let v483 : BitVec 32 := Scalar.addi c0_i32_336 v482
  v483.toNat
def k0_dev13 : Nat :=
  let c0_i32_348 : BitVec 32 := 0#32
  let c3_i32_346 : BitVec 32 := 3#32
  let c1_i32_347 : BitVec 32 := 1#32
  let v490 : BitVec 32 := Scalar.muli c3_i32_346 c1_i32_347
  let v491 : BitVec 32 := Scalar.addi c0_i32_348 v490
  v491.toNat
def k0_dev14 : Nat :=
  let c0_i32_361 : BitVec 32 := 0#32
  let c4_i32_359 : BitVec 32 := 4#32
  let c1_i32_360 : BitVec 32 := 1#32
  let v498 : BitVec 32 := Scalar.muli c4_i32_359 c1_i32_360
  let v499 : BitVec 32 := Scalar.addi c0_i32_361 v498
  v499.toNat
def k0_dev15 : Nat :=
  let c0_i32_373 : BitVec 32 := 0#32
  let c4_i32_371 : BitVec 32 := 4#32
  let c1_i32_372 : BitVec 32 := 1#32
  let v506 : BitVec 32 := Scalar.muli c4_i32_371 c1_i32_372
  let v507 : BitVec 32 := Scalar.addi c0_i32_373 v506
  v507.toNat
def k0_dev16 : Nat :=
  let c0_i32_386 : BitVec 32 := 0#32
  let c5_i32_384 : BitVec 32 := 5#32
  let c1_i32_385 : BitVec 32 := 1#32
  let v514 : BitVec 32 := Scalar.muli c5_i32_384 c1_i32_385
  let v515 : BitVec 32 := Scalar.addi c0_i32_386 v514
  v515.toNat
def k0_dev17 : Nat :=
  let c0_i32_398 : BitVec 32 := 0#32
  let c5_i32_396 : BitVec 32 := 5#32
  let c1_i32_397 : BitVec 32 := 1#32
  let v522 : BitVec 32 := Scalar.muli c5_i32_396 c1_i32_397
  let v523 : BitVec 32 := Scalar.addi c0_i32_398 v522
  v523.toNat
def k0_dev18 : Nat :=
  let c0_i32_411 : BitVec 32 := 0#32
  let c6_i32_409 : BitVec 32 := 6#32
  let c1_i32_410 : BitVec 32 := 1#32
  let v530 : BitVec 32 := Scalar.muli c6_i32_409 c1_i32_410
  let v531 : BitVec 32 := Scalar.addi c0_i32_411 v530
  v531.toNat
def k0_dev19 : Nat :=
  let c0_i32_423 : BitVec 32 := 0#32
  let c6_i32_421 : BitVec 32 := 6#32
  let c1_i32_422 : BitVec 32 := 1#32
  let v538 : BitVec 32 := Scalar.muli c6_i32_421 c1_i32_422
  let v539 : BitVec 32 := Scalar.addi c0_i32_423 v538
  v539.toNat
def k0_dev20 : Nat :=
  let c0_i32_436 : BitVec 32 := 0#32
  let c7_i32_434 : BitVec 32 := 7#32
  let c1_i32_435 : BitVec 32 := 1#32
  let v546 : BitVec 32 := Scalar.muli c7_i32_434 c1_i32_435
  let v547 : BitVec 32 := Scalar.addi c0_i32_436 v546
  v547.toNat
def k0_dev21 : Nat :=
  let c0_i32_448 : BitVec 32 := 0#32
  let c7_i32_446 : BitVec 32 := 7#32
  let c1_i32_447 : BitVec 32 := 1#32
  let v554 : BitVec 32 := Scalar.muli c7_i32_446 c1_i32_447
  let v555 : BitVec 32 := Scalar.addi c0_i32_448 v554
  v555.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v35 : BitVec 1 := Scalar.cmpi .eq v2 c1_i32_31
  let v36 : BitVec 32 := Scalar.extui v35
  let c0_i32_32 : BitVec 32 := 0#32
  let v37 : BitVec 1 := Scalar.cmpi .ne v36 c0_i32_32
  v37

def k0_dev22 : Nat :=
  let c0_i32_286 : BitVec 32 := 0#32
  let c0_i32_284 : BitVec 32 := 0#32
  let c1_i32_285 : BitVec 32 := 1#32
  let v450 : BitVec 32 := Scalar.muli c0_i32_284 c1_i32_285
  let v451 : BitVec 32 := Scalar.addi c0_i32_286 v450
  v451.toNat
def k0_dev23 : Nat :=
  let c0_i32_298 : BitVec 32 := 0#32
  let c0_i32_296 : BitVec 32 := 0#32
  let c1_i32_297 : BitVec 32 := 1#32
  let v458 : BitVec 32 := Scalar.muli c0_i32_296 c1_i32_297
  let v459 : BitVec 32 := Scalar.addi c0_i32_298 v458
  v459.toNat
def k0_dev24 : Nat :=
  let c0_i32_311 : BitVec 32 := 0#32
  let c2_i32_309 : BitVec 32 := 2#32
  let c1_i32_310 : BitVec 32 := 1#32
  let v466 : BitVec 32 := Scalar.muli c2_i32_309 c1_i32_310
  let v467 : BitVec 32 := Scalar.addi c0_i32_311 v466
  v467.toNat
def k0_dev25 : Nat :=
  let c0_i32_323 : BitVec 32 := 0#32
  let c2_i32_321 : BitVec 32 := 2#32
  let c1_i32_322 : BitVec 32 := 1#32
  let v474 : BitVec 32 := Scalar.muli c2_i32_321 c1_i32_322
  let v475 : BitVec 32 := Scalar.addi c0_i32_323 v474
  v475.toNat
def k0_dev26 : Nat :=
  let c0_i32_336 : BitVec 32 := 0#32
  let c3_i32_334 : BitVec 32 := 3#32
  let c1_i32_335 : BitVec 32 := 1#32
  let v482 : BitVec 32 := Scalar.muli c3_i32_334 c1_i32_335
  let v483 : BitVec 32 := Scalar.addi c0_i32_336 v482
  v483.toNat
def k0_dev27 : Nat :=
  let c0_i32_348 : BitVec 32 := 0#32
  let c3_i32_346 : BitVec 32 := 3#32
  let c1_i32_347 : BitVec 32 := 1#32
  let v490 : BitVec 32 := Scalar.muli c3_i32_346 c1_i32_347
  let v491 : BitVec 32 := Scalar.addi c0_i32_348 v490
  v491.toNat
def k0_dev28 : Nat :=
  let c0_i32_361 : BitVec 32 := 0#32
  let c4_i32_359 : BitVec 32 := 4#32
  let c1_i32_360 : BitVec 32 := 1#32
  let v498 : BitVec 32 := Scalar.muli c4_i32_359 c1_i32_360
  let v499 : BitVec 32 := Scalar.addi c0_i32_361 v498
  v499.toNat
def k0_dev29 : Nat :=
  let c0_i32_373 : BitVec 32 := 0#32
  let c4_i32_371 : BitVec 32 := 4#32
  let c1_i32_372 : BitVec 32 := 1#32
  let v506 : BitVec 32 := Scalar.muli c4_i32_371 c1_i32_372
  let v507 : BitVec 32 := Scalar.addi c0_i32_373 v506
  v507.toNat
def k0_dev30 : Nat :=
  let c0_i32_386 : BitVec 32 := 0#32
  let c5_i32_384 : BitVec 32 := 5#32
  let c1_i32_385 : BitVec 32 := 1#32
  let v514 : BitVec 32 := Scalar.muli c5_i32_384 c1_i32_385
  let v515 : BitVec 32 := Scalar.addi c0_i32_386 v514
  v515.toNat
def k0_dev31 : Nat :=
  let c0_i32_398 : BitVec 32 := 0#32
  let c5_i32_396 : BitVec 32 := 5#32
  let c1_i32_397 : BitVec 32 := 1#32
  let v522 : BitVec 32 := Scalar.muli c5_i32_396 c1_i32_397
  let v523 : BitVec 32 := Scalar.addi c0_i32_398 v522
  v523.toNat
def k0_dev32 : Nat :=
  let c0_i32_411 : BitVec 32 := 0#32
  let c6_i32_409 : BitVec 32 := 6#32
  let c1_i32_410 : BitVec 32 := 1#32
  let v530 : BitVec 32 := Scalar.muli c6_i32_409 c1_i32_410
  let v531 : BitVec 32 := Scalar.addi c0_i32_411 v530
  v531.toNat
def k0_dev33 : Nat :=
  let c0_i32_423 : BitVec 32 := 0#32
  let c6_i32_421 : BitVec 32 := 6#32
  let c1_i32_422 : BitVec 32 := 1#32
  let v538 : BitVec 32 := Scalar.muli c6_i32_421 c1_i32_422
  let v539 : BitVec 32 := Scalar.addi c0_i32_423 v538
  v539.toNat
def k0_dev34 : Nat :=
  let c0_i32_436 : BitVec 32 := 0#32
  let c7_i32_434 : BitVec 32 := 7#32
  let c1_i32_435 : BitVec 32 := 1#32
  let v546 : BitVec 32 := Scalar.muli c7_i32_434 c1_i32_435
  let v547 : BitVec 32 := Scalar.addi c0_i32_436 v546
  v547.toNat
def k0_dev35 : Nat :=
  let c0_i32_448 : BitVec 32 := 0#32
  let c7_i32_446 : BitVec 32 := 7#32
  let c1_i32_447 : BitVec 32 := 1#32
  let v554 : BitVec 32 := Scalar.muli c7_i32_446 c1_i32_447
  let v555 : BitVec 32 := Scalar.addi c0_i32_448 v554
  v555.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_159 : BitVec 32 := 0#32
  let v278 : BitVec 1 := Scalar.cmpi .ne v2 c0_i32_159
  let v279 : BitVec 32 := Scalar.extui v278
  let c0_i32_160 : BitVec 32 := 0#32
  let v280 : BitVec 1 := Scalar.cmpi .ne v279 c0_i32_160
  v280

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev36 : Nat :=
  let c0_i32_283 : BitVec 32 := 0#32
  let c0_i32_281 : BitVec 32 := 0#32
  let c1_i32_282 : BitVec 32 := 1#32
  let v450 : BitVec 32 := Scalar.muli c0_i32_281 c1_i32_282
  let v451 : BitVec 32 := Scalar.addi c0_i32_283 v450
  v451.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_161 : BitVec 32 := 1#32
  let v281 : BitVec 1 := Scalar.cmpi .ne v2 c1_i32_161
  let v282 : BitVec 32 := Scalar.extui v281
  let c0_i32_162 : BitVec 32 := 0#32
  let v283 : BitVec 1 := Scalar.cmpi .ne v282 c0_i32_162
  v283

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev37 : Nat :=
  let c0_i32_283 : BitVec 32 := 0#32
  let c1_i32_281 : BitVec 32 := 1#32
  let c1_i32_282 : BitVec 32 := 1#32
  let v450 : BitVec 32 := Scalar.muli c1_i32_281 c1_i32_282
  let v451 : BitVec 32 := Scalar.addi c0_i32_283 v450
  v451.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_163 : BitVec 32 := 2#32
  let v284 : BitVec 1 := Scalar.cmpi .ne v2 c2_i32_163
  let v285 : BitVec 32 := Scalar.extui v284
  let c0_i32_164 : BitVec 32 := 0#32
  let v286 : BitVec 1 := Scalar.cmpi .ne v285 c0_i32_164
  v286

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev38 : Nat :=
  let c0_i32_283 : BitVec 32 := 0#32
  let c2_i32_281 : BitVec 32 := 2#32
  let c1_i32_282 : BitVec 32 := 1#32
  let v450 : BitVec 32 := Scalar.muli c2_i32_281 c1_i32_282
  let v451 : BitVec 32 := Scalar.addi c0_i32_283 v450
  v451.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v287 : BitVec 1 := Scalar.cmpi .ne v2 c3_i32_165
  let v288 : BitVec 32 := Scalar.extui v287
  let c0_i32_166 : BitVec 32 := 0#32
  let v289 : BitVec 1 := Scalar.cmpi .ne v288 c0_i32_166
  v289

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev39 : Nat :=
  let c0_i32_283 : BitVec 32 := 0#32
  let c3_i32_281 : BitVec 32 := 3#32
  let c1_i32_282 : BitVec 32 := 1#32
  let v450 : BitVec 32 := Scalar.muli c3_i32_281 c1_i32_282
  let v451 : BitVec 32 := Scalar.addi c0_i32_283 v450
  v451.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_167 : BitVec 32 := 4#32
  let v290 : BitVec 1 := Scalar.cmpi .ne v2 c4_i32_167
  let v291 : BitVec 32 := Scalar.extui v290
  let c0_i32_168 : BitVec 32 := 0#32
  let v292 : BitVec 1 := Scalar.cmpi .ne v291 c0_i32_168
  v292

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev40 : Nat :=
  let c0_i32_283 : BitVec 32 := 0#32
  let c4_i32_281 : BitVec 32 := 4#32
  let c1_i32_282 : BitVec 32 := 1#32
  let v450 : BitVec 32 := Scalar.muli c4_i32_281 c1_i32_282
  let v451 : BitVec 32 := Scalar.addi c0_i32_283 v450
  v451.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_169 : BitVec 32 := 5#32
  let v293 : BitVec 1 := Scalar.cmpi .ne v2 c5_i32_169
  let v294 : BitVec 32 := Scalar.extui v293
  let c0_i32_170 : BitVec 32 := 0#32
  let v295 : BitVec 1 := Scalar.cmpi .ne v294 c0_i32_170
  v295

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev41 : Nat :=
  let c0_i32_283 : BitVec 32 := 0#32
  let c5_i32_281 : BitVec 32 := 5#32
  let c1_i32_282 : BitVec 32 := 1#32
  let v450 : BitVec 32 := Scalar.muli c5_i32_281 c1_i32_282
  let v451 : BitVec 32 := Scalar.addi c0_i32_283 v450
  v451.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_171 : BitVec 32 := 6#32
  let v296 : BitVec 1 := Scalar.cmpi .ne v2 c6_i32_171
  let v297 : BitVec 32 := Scalar.extui v296
  let c0_i32_172 : BitVec 32 := 0#32
  let v298 : BitVec 1 := Scalar.cmpi .ne v297 c0_i32_172
  v298

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev42 : Nat :=
  let c0_i32_283 : BitVec 32 := 0#32
  let c6_i32_281 : BitVec 32 := 6#32
  let c1_i32_282 : BitVec 32 := 1#32
  let v450 : BitVec 32 := Scalar.muli c6_i32_281 c1_i32_282
  let v451 : BitVec 32 := Scalar.addi c0_i32_283 v450
  v451.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_173 : BitVec 32 := 7#32
  let v299 : BitVec 1 := Scalar.cmpi .ne v2 c7_i32_173
  let v300 : BitVec 32 := Scalar.extui v299
  let c0_i32_174 : BitVec 32 := 0#32
  let v301 : BitVec 1 := Scalar.cmpi .ne v300 c0_i32_174
  v301

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev43 : Nat :=
  let c0_i32_283 : BitVec 32 := 0#32
  let c7_i32_281 : BitVec 32 := 7#32
  let c1_i32_282 : BitVec 32 := 1#32
  let v450 : BitVec 32 := Scalar.muli c7_i32_281 c1_i32_282
  let v451 : BitVec 32 := Scalar.addi c0_i32_283 v450
  v451.toNat
def k0_off17 (d0 : Dev nD) : Fin 3 → Nat :=
  let c0_175 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v302 : BitVec 32 := Scalar.muli v2 c32_i32
  let v303 : Index := Scalar.indexCast v302
  let c0_176 : Index := 0#32
  ![0, v303.toNat, 0]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v305 : Index := Scalar.indexCast v2
  let c0_177 : Index := 0#32
  let c0_178 : Index := 0#32
  let c0_179 : Index := 0#32
  ![v305.toNat, 0, 0, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_228 : BitVec 32 := 0#32
  let v372 : BitVec 1 := Scalar.cmpi .ne v2 c0_i32_228
  let v373 : BitVec 32 := Scalar.extui v372
  let c0_i32_229 : BitVec 32 := 0#32
  let v374 : BitVec 1 := Scalar.cmpi .ne v373 c0_i32_229
  v374

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev44 : Nat :=
  let c0_i32_283 : BitVec 32 := 0#32
  let c0_i32_281 : BitVec 32 := 0#32
  let c1_i32_282 : BitVec 32 := 1#32
  let v450 : BitVec 32 := Scalar.muli c0_i32_281 c1_i32_282
  let v451 : BitVec 32 := Scalar.addi c0_i32_283 v450
  v451.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_230 : BitVec 32 := 1#32
  let v375 : BitVec 1 := Scalar.cmpi .ne v2 c1_i32_230
  let v376 : BitVec 32 := Scalar.extui v375
  let c0_i32_231 : BitVec 32 := 0#32
  let v377 : BitVec 1 := Scalar.cmpi .ne v376 c0_i32_231
  v377

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev45 : Nat :=
  let c0_i32_283 : BitVec 32 := 0#32
  let c1_i32_281 : BitVec 32 := 1#32
  let c1_i32_282 : BitVec 32 := 1#32
  let v450 : BitVec 32 := Scalar.muli c1_i32_281 c1_i32_282
  let v451 : BitVec 32 := Scalar.addi c0_i32_283 v450
  v451.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_232 : BitVec 32 := 2#32
  let v378 : BitVec 1 := Scalar.cmpi .ne v2 c2_i32_232
  let v379 : BitVec 32 := Scalar.extui v378
  let c0_i32_233 : BitVec 32 := 0#32
  let v380 : BitVec 1 := Scalar.cmpi .ne v379 c0_i32_233
  v380

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev46 : Nat :=
  let c0_i32_283 : BitVec 32 := 0#32
  let c2_i32_281 : BitVec 32 := 2#32
  let c1_i32_282 : BitVec 32 := 1#32
  let v450 : BitVec 32 := Scalar.muli c2_i32_281 c1_i32_282
  let v451 : BitVec 32 := Scalar.addi c0_i32_283 v450
  v451.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_234 : BitVec 32 := 3#32
  let v381 : BitVec 1 := Scalar.cmpi .ne v2 c3_i32_234
  let v382 : BitVec 32 := Scalar.extui v381
  let c0_i32_235 : BitVec 32 := 0#32
  let v383 : BitVec 1 := Scalar.cmpi .ne v382 c0_i32_235
  v383

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev47 : Nat :=
  let c0_i32_283 : BitVec 32 := 0#32
  let c3_i32_281 : BitVec 32 := 3#32
  let c1_i32_282 : BitVec 32 := 1#32
  let v450 : BitVec 32 := Scalar.muli c3_i32_281 c1_i32_282
  let v451 : BitVec 32 := Scalar.addi c0_i32_283 v450
  v451.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_236 : BitVec 32 := 4#32
  let v384 : BitVec 1 := Scalar.cmpi .ne v2 c4_i32_236
  let v385 : BitVec 32 := Scalar.extui v384
  let c0_i32_237 : BitVec 32 := 0#32
  let v386 : BitVec 1 := Scalar.cmpi .ne v385 c0_i32_237
  v386

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev48 : Nat :=
  let c0_i32_283 : BitVec 32 := 0#32
  let c4_i32_281 : BitVec 32 := 4#32
  let c1_i32_282 : BitVec 32 := 1#32
  let v450 : BitVec 32 := Scalar.muli c4_i32_281 c1_i32_282
  let v451 : BitVec 32 := Scalar.addi c0_i32_283 v450
  v451.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_238 : BitVec 32 := 5#32
  let v387 : BitVec 1 := Scalar.cmpi .ne v2 c5_i32_238
  let v388 : BitVec 32 := Scalar.extui v387
  let c0_i32_239 : BitVec 32 := 0#32
  let v389 : BitVec 1 := Scalar.cmpi .ne v388 c0_i32_239
  v389

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev49 : Nat :=
  let c0_i32_283 : BitVec 32 := 0#32
  let c5_i32_281 : BitVec 32 := 5#32
  let c1_i32_282 : BitVec 32 := 1#32
  let v450 : BitVec 32 := Scalar.muli c5_i32_281 c1_i32_282
  let v451 : BitVec 32 := Scalar.addi c0_i32_283 v450
  v451.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_240 : BitVec 32 := 6#32
  let v390 : BitVec 1 := Scalar.cmpi .ne v2 c6_i32_240
  let v391 : BitVec 32 := Scalar.extui v390
  let c0_i32_241 : BitVec 32 := 0#32
  let v392 : BitVec 1 := Scalar.cmpi .ne v391 c0_i32_241
  v392

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev50 : Nat :=
  let c0_i32_283 : BitVec 32 := 0#32
  let c6_i32_281 : BitVec 32 := 6#32
  let c1_i32_282 : BitVec 32 := 1#32
  let v450 : BitVec 32 := Scalar.muli c6_i32_281 c1_i32_282
  let v451 : BitVec 32 := Scalar.addi c0_i32_283 v450
  v451.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_242 : BitVec 32 := 7#32
  let v393 : BitVec 1 := Scalar.cmpi .ne v2 c7_i32_242
  let v394 : BitVec 32 := Scalar.extui v393
  let c0_i32_243 : BitVec 32 := 0#32
  let v395 : BitVec 1 := Scalar.cmpi .ne v394 c0_i32_243
  v395

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_284 : BitVec 32 := 0#32
  let c0_i32_285 : BitVec 32 := 0#32
  let c0_i32_286 : BitVec 32 := 0#32
  ![v2.toNat, 0, 0, 0]
def k0_dev51 : Nat :=
  let c0_i32_283 : BitVec 32 := 0#32
  let c7_i32_281 : BitVec 32 := 7#32
  let c1_i32_282 : BitVec 32 := 1#32
  let v450 : BitVec 32 := Scalar.muli c7_i32_281 c1_i32_282
  let v451 : BitVec 32 := Scalar.addi c0_i32_283 v450
  v451.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_264 : BitVec 32 := 0#32
  let v426 : BitVec 1 := Scalar.cmpi .ne v2 c0_i32_264
  let v427 : BitVec 32 := Scalar.extui v426
  let c0_i32_265 : BitVec 32 := 0#32
  let v428 : BitVec 1 := Scalar.cmpi .ne v427 c0_i32_265
  v428

def k0_off35 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let c0_i32_287 : BitVec 32 := 0#32
  let c0_i32_288 : BitVec 32 := 0#32
  ![v2.toNat, 0, 0, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_266 : BitVec 32 := 1#32
  let v429 : BitVec 1 := Scalar.cmpi .ne v2 c1_i32_266
  let v430 : BitVec 32 := Scalar.extui v429
  let c0_i32_267 : BitVec 32 := 0#32
  let v431 : BitVec 1 := Scalar.cmpi .ne v430 c0_i32_267
  v431

def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let c0_i32_287 : BitVec 32 := 0#32
  let c0_i32_288 : BitVec 32 := 0#32
  ![v2.toNat, 0, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_268 : BitVec 32 := 2#32
  let v432 : BitVec 1 := Scalar.cmpi .ne v2 c2_i32_268
  let v433 : BitVec 32 := Scalar.extui v432
  let c0_i32_269 : BitVec 32 := 0#32
  let v434 : BitVec 1 := Scalar.cmpi .ne v433 c0_i32_269
  v434

def k0_off37 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_285 : BitVec 32 := 0#32
  let c0_i32_286 : BitVec 32 := 0#32
  let c0_i32_287 : BitVec 32 := 0#32
  ![v2.toNat, 0, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_270 : BitVec 32 := 3#32
  let v435 : BitVec 1 := Scalar.cmpi .ne v2 c3_i32_270
  let v436 : BitVec 32 := Scalar.extui v435
  let c0_i32_271 : BitVec 32 := 0#32
  let v437 : BitVec 1 := Scalar.cmpi .ne v436 c0_i32_271
  v437

def k0_off38 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_285 : BitVec 32 := 0#32
  let c0_i32_286 : BitVec 32 := 0#32
  let c0_i32_287 : BitVec 32 := 0#32
  ![v2.toNat, 0, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_272 : BitVec 32 := 4#32
  let v438 : BitVec 1 := Scalar.cmpi .ne v2 c4_i32_272
  let v439 : BitVec 32 := Scalar.extui v438
  let c0_i32_273 : BitVec 32 := 0#32
  let v440 : BitVec 1 := Scalar.cmpi .ne v439 c0_i32_273
  v440

def k0_off39 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_286 : BitVec 32 := 0#32
  let c0_i32_287 : BitVec 32 := 0#32
  let c0_i32_288 : BitVec 32 := 0#32
  ![v2.toNat, 0, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_274 : BitVec 32 := 5#32
  let v441 : BitVec 1 := Scalar.cmpi .ne v2 c5_i32_274
  let v442 : BitVec 32 := Scalar.extui v441
  let c0_i32_275 : BitVec 32 := 0#32
  let v443 : BitVec 1 := Scalar.cmpi .ne v442 c0_i32_275
  v443

def k0_off40 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_285 : BitVec 32 := 0#32
  let c0_i32_286 : BitVec 32 := 0#32
  let c0_i32_287 : BitVec 32 := 0#32
  ![v2.toNat, 0, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_276 : BitVec 32 := 6#32
  let v444 : BitVec 1 := Scalar.cmpi .ne v2 c6_i32_276
  let v445 : BitVec 32 := Scalar.extui v444
  let c0_i32_277 : BitVec 32 := 0#32
  let v446 : BitVec 1 := Scalar.cmpi .ne v445 c0_i32_277
  v446

def k0_off41 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_285 : BitVec 32 := 0#32
  let c0_i32_286 : BitVec 32 := 0#32
  let c0_i32_287 : BitVec 32 := 0#32
  ![v2.toNat, 0, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_278 : BitVec 32 := 7#32
  let v447 : BitVec 1 := Scalar.cmpi .ne v2 c7_i32_278
  let v448 : BitVec 32 := Scalar.extui v447
  let c0_i32_279 : BitVec 32 := 0#32
  let v449 : BitVec 1 := Scalar.cmpi .ne v448 c0_i32_279
  v449

def k0_off42 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_285 : BitVec 32 := 0#32
  let c0_i32_286 : BitVec 32 := 0#32
  let c0_i32_287 : BitVec 32 := 0#32
  ![v2.toNat, 0, 0, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x256x512 : Shape := ⟨3, ![2, 256, 512]⟩
abbrev S512x2048 : Shape := ⟨2, ![512, 2048]⟩
abbrev S2x2048x32x64 : Shape := ⟨4, ![2, 2048, 32, 64]⟩
abbrev S2048x512 : Shape := ⟨2, ![2048, 512]⟩
abbrev S_ : Shape := ⟨0, ![]⟩
abbrev S2x256x2048 : Shape := ⟨3, ![2, 256, 2048]⟩
abbrev S2x256x32x64 : Shape := ⟨4, ![2, 256, 32, 64]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S2x32x256x2048 : Shape := ⟨4, ![2, 32, 256, 2048]⟩
abbrev S1x1x256x2048 : Shape := ⟨4, ![1, 1, 256, 2048]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 90
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x2048, .f32⟩
  | .hbm, ⟨2, _⟩ => ⟨S2x2048x32x64, .f32⟩
  | .hbm, ⟨3, _⟩ => ⟨S2x2048x32x64, .f32⟩
  | .hbm, ⟨4, _⟩ => ⟨S2048x512, .f32⟩
  | .hbm, ⟨5, _⟩ => ⟨S_, .f32⟩
  | .hbm, ⟨6, _⟩ => ⟨S2x2048x32x64, .f32⟩
  | .hbm, ⟨7, _⟩ => ⟨S2x2048x32x64, .f32⟩
  | .hbm, ⟨8, _⟩ => ⟨S2x2048x32x64, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S2x2048x32x64, .f32⟩
  | .hbm, ⟨13, _⟩ => ⟨S2x2048x32x64, .f32⟩
  | .hbm, ⟨14, _⟩ => ⟨S_, .f32⟩
  | .hbm, ⟨15, _⟩ => ⟨S2x2048x32x64, .f32⟩
  | .hbm, ⟨16, _⟩ => ⟨S2x2048x32x64, .f32⟩
  | .hbm, ⟨17, _⟩ => ⟨S_, .f32⟩
  | .hbm, ⟨18, _⟩ => ⟨S2x2048x32x64, .f32⟩
  | .hbm, ⟨19, _⟩ => ⟨S2x2048x32x64, .f32⟩
  | .hbm, ⟨20, _⟩ => ⟨S_, .f32⟩
  | .hbm, ⟨21, _⟩ => ⟨S2x2048x32x64, .f32⟩
  | .hbm, ⟨22, _⟩ => ⟨S2x2048x32x64, .f32⟩
  | .hbm, ⟨23, _⟩ => ⟨S2x2048x32x64, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S2x2048x32x64, .f32⟩
  | .hbm, ⟨28, _⟩ => ⟨S2x2048x32x64, .f32⟩
  | .hbm, ⟨29, _⟩ => ⟨S_, .f32⟩
  | .hbm, ⟨30, _⟩ => ⟨S2x2048x32x64, .f32⟩
  | .hbm, ⟨31, _⟩ => ⟨S2x2048x32x64, .f32⟩
  | .hbm, ⟨32, _⟩ => ⟨S_, .f32⟩
  | .hbm, ⟨33, _⟩ => ⟨S2x2048x32x64, .f32⟩
  | .hbm, ⟨34, _⟩ => ⟨S2x2048x32x64, .f32⟩
  | .hbm, ⟨35, _⟩ => ⟨S2x256x2048, .f32⟩
  | .hbm, ⟨36, _⟩ => ⟨S2x256x32x64, .f32⟩
  | .hbm, ⟨37, _⟩ => ⟨S256, .i32⟩
  | .hbm, ⟨38, _⟩ => ⟨S256x1, .i32⟩
  | .hbm, ⟨39, _⟩ => ⟨S2048, .i32⟩
  | .hbm, ⟨40, _⟩ => ⟨S1x2048, .i32⟩
  | .hbm, ⟨41, _⟩ => ⟨S256x2048, .i32⟩
  | .hbm, ⟨42, _⟩ => ⟨S256x2048, .i32⟩
  | .hbm, ⟨43, _⟩ => ⟨S256x2048, .i32⟩
  | .hbm, ⟨44, _⟩ => ⟨S256x2048, .i32⟩
  | .hbm, ⟨45, _⟩ => ⟨S_, .i32⟩
  | .hbm, ⟨46, _⟩ => ⟨S256x2048, .i32⟩
  | .hbm, ⟨47, _⟩ => ⟨S256x2048, .i1⟩
  | .hbm, ⟨48, _⟩ => ⟨S2x32x256x2048, .f32⟩
  | .hbm, ⟨49, _⟩ => ⟨S_, .f32⟩
  | .hbm, ⟨50, _⟩ => ⟨S2x32x256x2048, .f32⟩
  | .hbm, ⟨51, _⟩ => ⟨S2x32x256x2048, .f32⟩
  | .hbm, ⟨52, _⟩ => ⟨S1x1x256x2048, .i1⟩
  | .hbm, ⟨53, _⟩ => ⟨S_, .f32⟩
  | .hbm, ⟨54, _⟩ => ⟨S_, .f32⟩
  | .hbm, ⟨55, _⟩ => ⟨S2x32x256x2048, .i1⟩
  | .hbm, ⟨56, _⟩ => ⟨S2x32x256x2048, .f32⟩
  | .hbm, ⟨57, _⟩ => ⟨S2x32x256x2048, .f32⟩
  | .hbm, ⟨58, _⟩ => ⟨S_, .f32⟩
  | .hbm, ⟨59, _⟩ => ⟨S2x32x256, .f32⟩
  | .hbm, ⟨60, _⟩ => ⟨S2x32x256x1, .f32⟩
  | .hbm, ⟨61, _⟩ => ⟨S2x32x256x2048, .f32⟩
  | .hbm, ⟨62, _⟩ => ⟨S2x32x256x2048, .f32⟩
  | .hbm, ⟨63, _⟩ => ⟨S2x32x256x2048, .f32⟩
  | .hbm, ⟨64, _⟩ => ⟨S_, .i1⟩
  | .hbm, ⟨65, _⟩ => ⟨S256, .i1⟩
  | .hbm, ⟨66, _⟩ => ⟨S1x1x256x1, .i1⟩
  | .hbm, ⟨67, _⟩ => ⟨S_, .f32⟩
  | .hbm, ⟨68, _⟩ => ⟨S2x32x256, .f32⟩
  | .hbm, ⟨69, _⟩ => ⟨S2x32x256x1, .f32⟩
  | .hbm, ⟨70, _⟩ => ⟨S_, .f32⟩
  | .hbm, ⟨71, _⟩ => ⟨S_, .f32⟩
  | .hbm, ⟨72, _⟩ => ⟨S2x32x256x1, .i1⟩
  | .hbm, ⟨73, _⟩ => ⟨S2x32x256x1, .f32⟩
  | .hbm, ⟨74, _⟩ => ⟨S2x32x256x1, .f32⟩
  | .hbm, ⟨75, _⟩ => ⟨S_, .f32⟩
  | .hbm, ⟨76, _⟩ => ⟨S2x32x256x1, .f32⟩
  | .hbm, ⟨77, _⟩ => ⟨S2x32x256x1, .f32⟩
  | .hbm, ⟨78, _⟩ => ⟨S2x32x256x2048, .f32⟩
  | .hbm, ⟨79, _⟩ => ⟨S2x32x256x2048, .f32⟩
  | .hbm, ⟨80, _⟩ => ⟨S1x1x256x1, .i1⟩
  | .hbm, ⟨81, _⟩ => ⟨S_, .f32⟩
  | .hbm, ⟨82, _⟩ => ⟨S_, .f32⟩
  | .hbm, ⟨83, _⟩ => ⟨S2x32x256x2048, .i1⟩
  | .hbm, ⟨84, _⟩ => ⟨S2x32x256x2048, .f32⟩
  | .hbm, ⟨85, _⟩ => ⟨S2x32x256x2048, .f32⟩
  | .hbm, ⟨86, _⟩ => ⟨S2x32x64x256, .f32⟩
  | .hbm, ⟨87, _⟩ => ⟨S2x256x32x64, .f32⟩
  | .hbm, ⟨88, _⟩ => ⟨S2x256x2048, .f32⟩
  | .hbm, ⟨89, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_c_4 : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_v9 : Ref sig .tc := ⟨.hbm, 31, rfl⟩
abbrev main_cst_5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_7 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_8 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_v28 : Ref sig .tc := ⟨.hbm, 57, rfl⟩
abbrev main_cst_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_10 : Ref sig .tc := ⟨.hbm, 64, rfl⟩
abbrev main_v34 : Ref sig .tc := ⟨.hbm, 65, rfl⟩
abbrev main_v35 : Ref sig .tc := ⟨.hbm, 66, rfl⟩
abbrev main_cst_11 : Ref sig .tc := ⟨.hbm, 67, rfl⟩
abbrev main_v36 : Ref sig .tc := ⟨.hbm, 68, rfl⟩
abbrev main_v37 : Ref sig .tc := ⟨.hbm, 69, rfl⟩
abbrev main_cst_12 : Ref sig .tc := ⟨.hbm, 70, rfl⟩
abbrev main_call5_v0 : Ref sig .tc := ⟨.hbm, 71, rfl⟩
abbrev main_call5_v1 : Ref sig .tc := ⟨.hbm, 72, rfl⟩
abbrev main_call5_v2 : Ref sig .tc := ⟨.hbm, 73, rfl⟩
abbrev main_v38 : Ref sig .tc := ⟨.hbm, 74, rfl⟩
abbrev main_cst_13 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_14 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩

abbrev nD : Nat := 1
abbrev τ : Topo := Topo.v7x

variable {F : FTy → Type} [FloatOps F]
-- ==== Proof.I.Geo.lean ====
/-
  The buffers, slices, semaphores and buffer contents of the kernel, by name: which region of which
  scratch buffer each copy reads and writes, and what every scratch buffer holds once the copies into
  it have landed, as a function of the arguments of all eight devices.
-/
module

public import proofs.«01_k».proof.Proof.Gen.KernelIdeal.Frame
public import Idealize.ShloMosaic.Lib.Rounds
public import Idealize.ShloMosaic.Lib.Pointwise

@[expose] public section

set_option maxRecDepth 16384

noncomputable section

namespace Cert.KernelIdeal.Hand

open Idealize.ShloMosaic
open Idealize.ShloMosaic.TcCoe
open Idealize.SL
open Cert.KernelIdeal Cert.KernelIdeal.Gen

variable {F : FTy → Type} [FloatOps F] [Named F]

/-! ## The memrefs the body addresses -/

abbrev xM : Memref sig .tc .vmem S2x256x512 .f32 := Memref.whole cc0_stg0_0
abbrev wqM : Memref sig .tc .vmem S512x256 .f32 := Memref.whole cc0_stg1_0
abbrev kfM : Memref sig .tc .vmem S2x256x2048 .i8 := Memref.whole cc0_stg2_0
abbrev vfM : Memref sig .tc .vmem S2x256x2048 .i8 := Memref.whole cc0_stg3_0
abbrev woM : Memref sig .tc .vmem S256x512 .f32 := Memref.whole cc0_stg4_0
abbrev oM : Memref sig .tc .vmem S2x256x512 .f32 := Memref.whole cc0_stg5_0
abbrev kM : Memref sig .tc .vmem S2x384x256 .i8 := Memref.whole cc0_scratch0
abbrev vM : Memref sig .tc .vmem S2x384x256 .i8 := Memref.whole cc0_scratch1
abbrev pM : Memref sig .tc .vmem S2x256x512 .bf16 := Memref.whole cc0_scratch2
abbrev rM : Memref sig .tc .vmem S8x2x32x512 .bf16 := Memref.whole cc0_scratch3
abbrev gM : Memref sig .tc .vmem S8x2x32x512 .bf16 := Memref.whole cc0_scratch4

/-! ## The slices the copies move -/

theorem src0_inb (d : Dev nD) : ∀ a, (![0, 0, 256 * d.val] : Fin 3 → Nat) a + S2x256x256.size a ≤ S2x256x2048.size a := by
  revert d; decide
theorem src1_inb (d : Dev nD) : ∀ a, (![0, 0, 256 * d.val] : Fin 3 → Nat) a + S2x128x256.size a ≤ S2x256x2048.size a := by
  revert d; decide
theorem chunk_inb (d : Dev nD) : ∀ a, (![0, 32 * d.val, 0] : Fin 3 → Nat) a + S2x32x512.size a ≤ S2x256x512.size a := by
  revert d; decide
theorem slot_inb (d : Dev nD) : ∀ a, (![d.val, 0, 0, 0] : Fin 4 → Nat) a + S1x2x32x512.size a ≤ S8x2x32x512.size a := by
  revert d; decide

abbrev src0R (d : Dev nD) : Rect S2x256x2048 := Rect.unit (s := S2x256x2048) ![0, 0, 256 * d.val] S2x256x256.size (src0_inb d)
abbrev src1R (d : Dev nD) : Rect S2x256x2048 := Rect.unit (s := S2x256x2048) ![0, 0, 256 * d.val] S2x128x256.size (src1_inb d)
abbrev dst0R : Rect S2x384x256 := Rect.unit (s := S2x384x256) ![0, 0, 0] S2x256x256.size inb_S2x384x256_S2x256x256_0_0_0
abbrev dst1R : Rect S2x384x256 := Rect.unit (s := S2x384x256) ![0, 256, 0] S2x128x256.size inb_S2x384x256_S2x128x256_0_256_0
abbrev chunkR (d : Dev nD) : Rect S2x256x512 := Rect.unit (s := S2x256x512) ![0, 32 * d.val, 0] S2x32x512.size (chunk_inb d)
abbrev slotR (d : Dev nD) : Rect S8x2x32x512 := Rect.unit (s := S8x2x32x512) ![d.val, 0, 0, 0] S1x2x32x512.size (slot_inb d)

/-- Key slice `d` (its 256 lanes) of the staged keys, all 256 rows. -/
abbrev src0 (M : Memref sig .tc .vmem S2x256x2048 .i8) (d : Dev nD) : Memref sig .tc .vmem S2x256x256 .i8 := M.slice (src0R d) (fun _ => rfl)
/-- Key slice `d` of the staged keys, the first 128 rows. -/
abbrev src1 (M : Memref sig .tc .vmem S2x256x2048 .i8) (d : Dev nD) : Memref sig .tc .vmem S2x128x256 .i8 := M.slice (src1R d) (fun _ => rfl)
/-- Rows 0..255 of a gathered buffer. -/
abbrev dst0 (M : Memref sig .tc .vmem S2x384x256 .i8) : Memref sig .tc .vmem S2x256x256 .i8 := M.slice dst0R (fun _ => rfl)
/-- Rows 256..383 of a gathered buffer. -/
abbrev dst1 (M : Memref sig .tc .vmem S2x384x256 .i8) : Memref sig .tc .vmem S2x128x256 .i8 := M.slice dst1R (fun _ => rfl)
/-- The 32 query rows device `d` reduces, of the partial output. -/
abbrev chunk (d : Dev nD) : Memref sig .tc .vmem S2x32x512 .bf16 := pM.slice (chunkR d) (fun _ => rfl)
/-- Slot `j` of an eight-slot exchange buffer, its leading axis dropped. -/
abbrev slot (M : Memref sig .tc .vmem S8x2x32x512 .bf16) (j : Dev nD) : Memref sig .tc .vmem S2x32x512 .bf16 :=
  (M.slice (slotR j) (fun _ => rfl)).squeeze S2x32x512 squeezes_S1x2x32x512_S2x32x512

/-! ## The semaphores -/

abbrev kvS (d : Dev nD) (t : Fin 2) : DmaSem sig := ⟨6 + 2 * d.val + t.val, by revert d t; decide⟩
abbrev kvR (s t : Fin 2) : DmaSem sig := ⟨22 + 2 * s.val + t.val, by revert s t; decide⟩
abbrev rsS (d : Dev nD) : DmaSem sig := ⟨26 + d.val, by revert d; decide⟩
abbrev rsR (j : Dev nD) : DmaSem sig := ⟨34 + j.val, by revert j; decide⟩
abbrev agS (d : Dev nD) : DmaSem sig := ⟨42 + d.val, by revert d; decide⟩
abbrev agR (j : Dev nD) : DmaSem sig := ⟨50 + j.val, by revert j; decide⟩

/-! ## What the buffers hold -/

/-- What the windows of the kernel stage on every device. -/
structure In (F : FTy → Type) where
  x : Dev nD → S2x256x512.Idx → Elt F .f32
  wq : Dev nD → S512x256.Idx → Elt F .f32
  kf : Dev nD → S2x256x2048.Idx → Elt F .i8
  vf : Dev nD → S2x256x2048.Idx → Elt F .i8
  wo : Dev nD → S256x512.Idx → Elt F .f32

variable (A : In F)

/-- A staged key or value array at the natural-number coordinates of an element. -/
def kvAt {α : Type} (f : S2x256x2048.Idx → α) (b q e : ℕ) : α :=
  f (ix3 ⟨b % 2, Nat.mod_lt _ (by decide)⟩ ⟨q % 256, Nat.mod_lt _ (by decide)⟩ ⟨e % 2048, Nat.mod_lt _ (by decide)⟩)

/-- The 384 gathered rows on device `c`: rows 0..255 from device 0's array, rows 256..383 from device 1's, the lanes of
    device `c`'s heads. -/
def gath {α : Type} (f : Dev nD → S2x256x2048.Idx → α) (c : Dev nD) : S2x384x256.Idx → α := fun i =>
  if (i 1).val < 256 then kvAt (f 0) (i 0).val (i 1).val (256 * c.val + (i 2).val)
  else kvAt (f 1) (i 0).val ((i 1).val - 256) (256 * c.val + (i 2).val)

abbrev KB (c : Dev nD) : S2x384x256.Idx → Elt F .i8 := gath A.kf c
abbrev VB (c : Dev nD) : S2x384x256.Idx → Elt F .i8 := gath A.vf c

abbrev xld0 (c : Dev nD) : Vec F S1x256x512 .f32 := xM.view.readAt (Elt F) (Rect.unit (s := S2x256x512) ![0, 0, 0] S1x256x512.size inb_S2x256x512_S1x256x512_0_0_0).toLoadRect (A.x c)
abbrev xld1 (c : Dev nD) : Vec F S1x256x512 .f32 := xM.view.readAt (Elt F) (Rect.unit (s := S2x256x512) ![1, 0, 0] S1x256x512.size inb_S2x256x512_S1x256x512_1_0_0).toLoadRect (A.x c)
abbrev wqld (c : Dev nD) : Vec F S512x256 .f32 := wqM.view.readAt (Elt F) (Rect.unit (s := S512x256) ![0, 0] S512x256.size inb_S512x256_S512x256_0_0).toLoadRect (A.wq c)
abbrev wold (c : Dev nD) : Vec F S256x512 .f32 := woM.view.readAt (Elt F) (Rect.unit (s := S256x512) ![0, 0] S256x512.size inb_S256x512_S256x512_0_0).toLoadRect (A.wo c)

end Cert.KernelIdeal.Hand

end
-- ==== Proof.I.Contents.lean ====
/-
  What every scratch buffer holds once the copies into it have landed, and the equations between what a copy or a
  store writes and those contents.
-/
module

public import proofs.«01_k».proof.Proof.I.Geo
public import proofs.«01_k».proof.Proof.Gen.KernelIdeal.Skeleton
public import Idealize.ShloMosaic.Lib.ValueLayout

@[expose] public section

set_option maxRecDepth 16384

noncomputable section

namespace Cert.KernelIdeal.Hand

open Idealize.ShloMosaic
open Idealize.ShloMosaic.TcCoe
open Idealize.SL
open Cert.KernelIdeal Cert.KernelIdeal.Gen

variable {F : FTy → Type} [FloatOps F] [Named F]

variable (A : In F)

/-! ## The two partial outputs -/

abbrev kvR00 : Rect S2x384x256 := Rect.unit (s := S2x384x256) ![0, 0, 0] S1x384x64.size inb_S2x384x256_S1x384x64_0_0_0
abbrev kvR01 : Rect S2x384x256 := Rect.unit (s := S2x384x256) ![0, 0, 64] S1x384x64.size inb_S2x384x256_S1x384x64_0_0_64
abbrev kvR02 : Rect S2x384x256 := Rect.unit (s := S2x384x256) ![0, 0, 128] S1x384x64.size inb_S2x384x256_S1x384x64_0_0_128
abbrev kvR03 : Rect S2x384x256 := Rect.unit (s := S2x384x256) ![0, 0, 192] S1x384x64.size inb_S2x384x256_S1x384x64_0_0_192
abbrev kvR10 : Rect S2x384x256 := Rect.unit (s := S2x384x256) ![1, 0, 0] S1x384x64.size inb_S2x384x256_S1x384x64_1_0_0
abbrev kvR11 : Rect S2x384x256 := Rect.unit (s := S2x384x256) ![1, 0, 64] S1x384x64.size inb_S2x384x256_S1x384x64_1_0_64
abbrev kvR12 : Rect S2x384x256 := Rect.unit (s := S2x384x256) ![1, 0, 128] S1x384x64.size inb_S2x384x256_S1x384x64_1_0_128
abbrev kvR13 : Rect S2x384x256 := Rect.unit (s := S2x384x256) ![1, 0, 192] S1x384x64.size inb_S2x384x256_S1x384x64_1_0_192

/-- The keys and the values of one head of one batch on device `c`: 384 rows of 64 lanes. -/
abbrev kld (c : Dev nD) (r : Rect S2x384x256) : r.shape.Idx → Elt F .i8 := kM.view.readAt (Elt F) r.toLoadRect (KB A c)
abbrev vld (c : Dev nD) (r : Rect S2x384x256) : r.shape.Idx → Elt F .i8 := vM.view.readAt (Elt F) r.toLoadRect (VB A c)

/-- The projected queries of the two batches. -/
abbrev q0 (c : Dev nD) : FVec F S256x256 .bf16 := k0_pay5 (xld0 A c) (wqld A c)
abbrev q1 (c : Dev nD) : FVec F S256x256 .bf16 := k0_pay6 (xld1 A c) (wqld A c)

/-- Batch 0 of device `c`'s partial output: its four heads' contexts times its rows of the output projection. -/
def tile0 (c : Dev nD) : FVec F S1x256x512 .bf16 :=
  k0_pay16 (k0_pay15 (q0 A c) k0_pay7 (k0_pay8 (q0 A c) (kld A c kvR00) (vld A c kvR00))
    (k0_pay11 k0_pay7 (k0_pay9 (q0 A c)) (k0_pay10 (kld A c kvR01)) (vld A c kvR01))
    (k0_pay12 (vld A c kvR02)) (k0_pay13 (q0 A c) k0_pay7 (kld A c kvR02)) (k0_pay14 (q0 A c) k0_pay7 (kld A c kvR02))
    (kld A c kvR03) (vld A c kvR03) (wold A c))

/-- Batch 1 of device `c`'s partial output. -/
def tile1 (c : Dev nD) : FVec F S1x256x512 .bf16 :=
  k0_pay24 k0_pay7 (k0_pay17 (q1 A c) k0_pay7 (kld A c kvR10) (vld A c kvR10))
    (k0_pay21 k0_pay7 (k0_pay18 (vld A c kvR11)) (k0_pay19 (q1 A c) (kld A c kvR11)) k0_pay20)
    (k0_pay22 (q1 A c) k0_pay7 (kld A c kvR12) (vld A c kvR12)) (k0_pay23 (q1 A c)) (kld A c kvR13) (vld A c kvR13) (wold A c)

/-- Device `c`'s partial output, both batches. -/
def PART (c : Dev nD) : S2x256x512.Idx → Elt F .bf16 := fun i =>
  if (i 0).val = 0 then tile0 A c (ix3 0 (i 1) (i 2)) else tile1 A c (ix3 0 (i 1) (i 2))

/-- Row `r` of chunk `j`, as a row of 256. -/
def rowOf (j : Dev nD) (r : Fin 32) : Fin 256 := ⟨32 * j.val + r.val, by revert j r; decide⟩

/-- The eight devices' rows of chunk `c` of the partial output, one device to a slot. -/
def RS (c : Dev nD) : S8x2x32x512.Idx → Elt F .bf16 := fun i =>
  PART A (i 0) (ix3 (i 1) (rowOf c (i 2)) (i 3))

abbrev rld (c j : Dev nD) : Vec F S1x2x32x512 .bf16 := rM.view.readAt (Elt F) (slotR j).toLoadRect (RS A c)

/-- Chunk `c` of the result: the sum of the eight partial outputs. -/
def TILE (c : Dev nD) : FVec F S2x32x512 .f32 :=
  k0_pay28 (k0_pay26 (rld A c 0) (rld A c 1)) (k0_pay27 (rld A c 2)) (rld A c 3) (rld A c 4) (rld A c 5) (rld A c 6) (rld A c 7)
/-- The same, rounded to the exchange's type. -/
def TILEB (c : Dev nD) : FVec F S1x2x32x512 .bf16 :=
  k0_pay29 (k0_pay26 (rld A c 0) (rld A c 1)) (k0_pay27 (rld A c 2)) (rld A c 3) (rld A c 4) (rld A c 5) (rld A c 6) (rld A c 7)

/-- The eight rounded chunks, chunk `j` in slot `j`: the same on every device. -/
def AG : S8x2x32x512.Idx → Elt F .bf16 := fun i => TILEB A (i 0) (ix4 0 (i 1) (i 2) (i 3))

abbrev gld (j : Dev nD) : Vec F S1x2x32x512 .bf16 := gM.view.readAt (Elt F) (slotR j).toLoadRect (AG A)

/-- The chunk and the row within it of a row of 256. -/
def chOf (q : Fin 256) : Dev nD := ⟨q.val / 32, by revert q; decide⟩
def inCh (q : Fin 256) : Fin 32 := ⟨q.val % 32, Nat.mod_lt _ (by decide)⟩

/-- The result on device `c`: its own chunk as summed, every other chunk as received. -/
def OUT (c : Dev nD) : S2x256x512.Idx → Elt F .f32 := fun i =>
  if chOf (i 1) = c then TILE A c (ix3 (i 0) (inCh (i 1)) (i 2))
  else k0_pay30 (gld A (chOf (i 1))) (ix3 (i 0) (inCh (i 1)) (i 2))

/-! ## Views and the elements they address -/

theorem slot_set (M : Memref sig .tc .vmem S8x2x32x512 .bf16) (j : Dev nD) :
    (slot M j).view.set = (M.view.slice (slotR j)).set := Memref.set_view_squeeze ..

/-- Contents that read through a view as `w` are, on the view's elements, what writing `w` leaves. -/
theorem write_eq_of_read {sp : Space} {s : Shape} {e : EltTy} (v : View sig .tc sp s e) (f G : v.ty.Contents (Elt F))
    (w : s.Idx → Elt F e) (h : v.read (Elt F) G = w) : ∀ i ∈ v.set, v.write (Elt F) f w Finset.univ i = G i := by
  intro i hi
  obtain ⟨x, -, rfl⟩ := Finset.mem_map.mp hi
  rw [View.write_emb_of_mem _ _ (Finset.mem_univ x), ← h, View.read_apply, cast_cast, cast_eq]

theorem emb_mem {s : Shape} (r : Rect s) (x : r.shape.Idx) : r.emb x ∈ r.set := by
  rw [← Rect.map_emb_univ]; exact Finset.mem_map_of_mem _ (Finset.mem_univ x)

theorem mem_slot {j : Dev nD} {i : S8x2x32x512.Idx} : i ∈ (slotR j).set ↔ (i 0).val = j.val := by
  rw [Rect.mem_set_unit]
  constructor
  · intro h
    have h0 := h 0
    simp at h0
    omega
  · intro h a
    have := (i a).isLt
    fin_cases a <;> simp at this ⊢ <;> omega

theorem mem_chunk {j : Dev nD} {i : S2x256x512.Idx} : i ∈ (chunkR j).set ↔ chOf (i 1) = j := by
  rw [Rect.mem_set_unit, Fin.ext_iff]
  constructor
  · intro h
    have h1 := h 1
    simp [chOf] at h1 ⊢
    omega
  · intro h a
    have := (i a).isLt
    simp [chOf] at h
    fin_cases a <;> simp at this ⊢ <;> omega

theorem mem_src0 {j : Dev nD} {i : S2x256x2048.Idx} : i ∈ (src0R j).set ↔ (i 2).val / 256 = j.val := by
  rw [Rect.mem_set_unit]
  constructor
  · intro h
    have h2 := h 2
    simp at h2
    omega
  · intro h a
    have := (i a).isLt
    fin_cases a <;> simp at this ⊢ <;> omega

theorem mem_src1 {j : Dev nD} {i : S2x256x2048.Idx} : i ∈ (src1R j).set ↔ (i 1).val < 128 ∧ (i 2).val / 256 = j.val := by
  rw [Rect.mem_set_unit]
  constructor
  · intro h
    have h1 := h 1
    have h2 := h 2
    simp at h1 h2
    omega
  · intro h a
    have := (i a).isLt
    fin_cases a <;> simp at this ⊢ <;> omega

theorem mem_dst0 {i : S2x384x256.Idx} : i ∈ dst0R.set ↔ (i 1).val < 256 := by
  rw [Rect.mem_set_unit]
  constructor
  · intro h
    have h1 := h 1
    simp at h1
    omega
  · intro h a
    have := (i a).isLt
    fin_cases a <;> simp at this ⊢ <;> omega

theorem mem_dst1 {i : S2x384x256.Idx} : i ∈ dst1R.set ↔ ¬ (i 1).val < 256 := by
  rw [Rect.mem_set_unit]
  constructor
  · intro h
    have h1 := h 1
    simp at h1
    omega
  · intro h a
    have := (i a).isLt
    fin_cases a <;> simp at this ⊢ <;> omega

/-! ## What lands equals what the contents say -/

theorem gath_dst0 {α : Type} (f : Dev nD → S2x256x2048.Idx → α) (d : Dev nD) (x : S2x256x256.Idx) :
    gath f d (dst0R.emb x) = f 0 ((src0R d).emb x) := by
  have h1 : ((dst0R.emb x) 1).val < 256 := mem_dst0.mp (emb_mem dst0R x)
  unfold gath kvAt
  rw [if_pos h1]
  refine congrArg (f 0) (funext fun a => Fin.ext ?_)
  have := (x a).isLt
  have hd : d.val < 8 := d.isLt
  fin_cases a <;> simp [Rect.emb_apply] at this ⊢ <;> omega

theorem gath_dst1 {α : Type} (f : Dev nD → S2x256x2048.Idx → α) (d : Dev nD) (x : S2x128x256.Idx) :
    gath f d (dst1R.emb x) = f 1 ((src1R d).emb x) := by
  have h1 : ¬ ((dst1R.emb x) 1).val < 256 := mem_dst1.mp (emb_mem dst1R x)
  unfold gath kvAt
  rw [if_neg h1]
  refine congrArg (f 1) (funext fun a => Fin.ext ?_)
  have := (x a).isLt
  have hd : d.val < 8 := d.isLt
  fin_cases a <;> simp [Rect.emb_apply] at this ⊢ <;> omega

/-- A key copy from device 0 leaves the gathered keys' rows 0..255 on the device it goes to, -/
theorem read_K0 (d : Dev nD) : (dst0 kM).view.read (Elt F) (KB A d) = (src0 kfM d).view.read (Elt F) (A.kf 0) :=
  funext fun x => gath_dst0 A.kf d x
theorem read_V0 (d : Dev nD) : (dst0 vM).view.read (Elt F) (VB A d) = (src0 vfM d).view.read (Elt F) (A.vf 0) :=
  funext fun x => gath_dst0 A.vf d x
/-- and one from device 1 rows 256..383. -/
theorem read_K1 (d : Dev nD) : (dst1 kM).view.read (Elt F) (KB A d) = (src1 kfM d).view.read (Elt F) (A.kf 1) :=
  funext fun x => gath_dst1 A.kf d x
theorem read_V1 (d : Dev nD) : (dst1 vM).view.read (Elt F) (VB A d) = (src1 vfM d).view.read (Elt F) (A.vf 1) :=
  funext fun x => gath_dst1 A.vf d x

/-- Device `j`'s rows of chunk `d` are slot `j` of what device `d` gathers. -/
theorem read_RS (d j : Dev nD) : (slot rM j).view.read (Elt F) (RS A d) = (chunk d).view.read (Elt F) (PART A j) := by
  refine (Memref.read_squeeze_slice rM (slotR j) (fun _ => rfl) squeezes_S1x2x32x512_S2x32x512
    shapeCasts_S1x2x32x512_S2x32x512 (RS A d)).trans (funext fun x => ?_)
  rw [eq_ix3 x]
  refine (ValueIdx.shapeCast_1abc_abc_apply _ _ _ _ _).trans ?_
  show RS A d ((slotR j).emb (ix4 (0 : Fin 1) (x 0) (x 1) (x 2))) = PART A j ((chunkR d).emb (ix3 (x 0) (x 1) (x 2)))
  unfold RS
  have e0 : (slotR j).emb (ix4 (0 : Fin 1) (x 0) (x 1) (x 2)) 0 = j := Fin.ext (by simp [Rect.emb_apply])
  rw [e0]
  refine congrArg (PART A j) (funext fun a => Fin.ext ?_)
  fin_cases a <;> simp [Rect.emb_apply, rowOf]

/-! ## What the local stores write equals what the contents say -/

theorem store_K0 : (kM.access dst0R).read (Elt F) (KB A 0) = k0_pay1 (F := F) (kfM.view.readAt (Elt F) (src0R 0).toLoadRect (A.kf 0)) := by
  unfold k0_pay1
  simp only [shapeCast_self]
  exact funext fun x => gath_dst0 A.kf 0 x
theorem store_V0 : (vM.access dst0R).read (Elt F) (VB A 0) = k0_pay2 (F := F) (vfM.view.readAt (Elt F) (src0R 0).toLoadRect (A.vf 0)) := by
  unfold k0_pay2
  simp only [shapeCast_self]
  exact funext fun x => gath_dst0 A.vf 0 x
theorem store_K1 : (kM.access dst1R).read (Elt F) (KB A 1) = k0_pay3 (F := F) (kfM.view.readAt (Elt F) (src1R 1).toLoadRect (A.kf 1)) := by
  unfold k0_pay3
  simp only [shapeCast_self]
  exact funext fun x => gath_dst1 A.kf 1 x
theorem store_V1 : (vM.access dst1R).read (Elt F) (VB A 1) = k0_pay4 (F := F) (vfM.view.readAt (Elt F) (src1R 1).toLoadRect (A.vf 1)) := by
  unfold k0_pay4
  simp only [shapeCast_self]
  exact funext fun x => gath_dst1 A.vf 1 x

abbrev pR0 : Rect S2x256x512 := Rect.unit (s := S2x256x512) ![0, 0, 0] S1x256x512.size inb_S2x256x512_S1x256x512_0_0_0
abbrev pR1 : Rect S2x256x512 := Rect.unit (s := S2x256x512) ![1, 0, 0] S1x256x512.size inb_S2x256x512_S1x256x512_1_0_0

theorem store_P0 (c : Dev nD) : (pM.access pR0).read (Elt F) (PART A c) = tile0 A c := by
  funext x
  show PART A c (pR0.emb x) = _
  have e0 : (pR0.emb x 0).val = 0 := by have := (x 0).isLt; simp [Rect.emb_apply] at this ⊢; omega
  unfold PART
  rw [if_pos e0]
  refine congrArg (tile0 A c) (funext fun a => Fin.ext ?_)
  have := (x a).isLt
  fin_cases a <;> simp [Rect.emb_apply] at this ⊢ <;> omega

theorem store_P1 (c : Dev nD) : (pM.access pR1).read (Elt F) (PART A c) = tile1 A c := by
  funext x
  show PART A c (pR1.emb x) = _
  have e0 : ¬ (pR1.emb x 0).val = 0 := by simp [Rect.emb_apply]
  unfold PART
  rw [if_neg e0]
  refine congrArg (tile1 A c) (funext fun a => Fin.ext ?_)
  have := (x a).isLt
  fin_cases a <;> simp [Rect.emb_apply] at this ⊢ <;> omega

theorem mem_pR0 {i : S2x256x512.Idx} : i ∈ pR0.set ↔ (i 0).val = 0 := by
  rw [Rect.mem_set_unit]
  constructor
  · intro h
    have h1 := h 0
    simp at h1
    omega
  · intro h a
    have := (i a).isLt
    fin_cases a <;> simp at this ⊢ <;> omega

theorem mem_pR1 {i : S2x256x512.Idx} : i ∈ pR1.set ↔ ¬ (i 0).val = 0 := by
  rw [Rect.mem_set_unit]
  constructor
  · intro h
    have h1 := h 0
    simp at h1
    omega
  · intro h a
    have := (i a).isLt
    fin_cases a <;> simp at this ⊢ <;> omega

/-- The two stores of the partial output leave all of it. -/
theorem store_PART (c : Dev nD) (f : pM.view.ty.Contents (Elt F)) :
    (pM.access pR1).write (Elt F) ((pM.access pR0).write (Elt F) f (tile0 A c) Finset.univ) (tile1 A c) Finset.univ = PART A c := by
  funext i
  by_cases h : (i 0).val = 0
  · have h1 : i ∉ (pM.access pR1).setOn Finset.univ := by
      intro hi
      exact mem_pR1.mp ((View.set_slice_whole cc0_scratch2 pR1).le hi) h
    rw [View.write_of_not_mem _ _ _ h1]
    refine write_eq_of_read (pM.access pR0) _ _ _ (store_P0 A c) i ?_
    rw [show (pM.access pR0).set = pR0.set from View.set_slice_whole cc0_scratch2 pR0]
    exact mem_pR0.mpr h
  · refine write_eq_of_read (pM.access pR1) _ _ _ (store_P1 A c) i ?_
    rw [show (pM.access pR1).set = pR1.set from View.set_slice_whole cc0_scratch2 pR1]
    exact mem_pR1.mpr h

theorem store_RS (c : Dev nD) : (rM.access (slotR c)).read (Elt F) (RS A c) = k0_pay25 (F := F) (pM.view.readAt (Elt F) (chunkR c).toLoadRect (PART A c)) := by
  unfold k0_pay25
  funext x
  rw [eq_ix4 x]
  refine Eq.trans ?_ (ValueIdx.shapeCast_abc_1abc_apply _ _ _ _ _ _).symm
  show RS A c ((slotR c).emb (ix4 (x 0) (x 1) (x 2) (x 3))) = PART A c ((chunkR c).emb (ix3 (x 1) (x 2) (x 3)))
  unfold RS
  have e0 : (slotR c).emb (ix4 (x 0) (x 1) (x 2) (x 3)) 0 = c := Fin.ext (by have := (x 0).isLt; simp [Rect.emb_apply] at this ⊢; omega)
  rw [e0]
  refine congrArg (PART A c) (funext fun a => Fin.ext ?_)
  fin_cases a <;> simp [Rect.emb_apply, rowOf]

theorem store_AG (c : Dev nD) : (gM.access (slotR c)).read (Elt F) (AG A) = TILEB A c := by
  funext x
  show AG A ((slotR c).emb x) = _
  unfold AG
  have h0 := (x 0).isLt
  have e0 : (slotR c).emb x 0 = c := Fin.ext (by simp [Rect.emb_apply] at h0 ⊢; omega)
  rw [e0]
  refine congrArg (TILEB A c) (funext fun a => Fin.ext ?_)
  fin_cases a <;> simp [Rect.emb_apply] at h0 ⊢ <;> omega

theorem chOf_emb (j : Dev nD) (x : S2x32x512.Idx) : chOf ((chunkR j).emb x 1) = j := mem_chunk.mp (emb_mem (chunkR j) x)

theorem ix3_emb (j : Dev nD) (x : S2x32x512.Idx) :
    ix3 ((chunkR j).emb x 0) (inCh ((chunkR j).emb x 1)) ((chunkR j).emb x 2) = x := by
  funext a
  refine Fin.ext ?_
  have := (x a).isLt
  fin_cases a <;> simp [Rect.emb_apply, inCh] at this ⊢ <;> omega

theorem store_OUT_self (c : Dev nD) : (oM.access (chunkR c)).read (Elt F) (OUT A c) = TILE A c := by
  funext x
  show OUT A c ((chunkR c).emb x) = _
  unfold OUT
  rw [if_pos (chOf_emb c x)]
  exact congrArg (TILE A c) (ix3_emb c x)

theorem store_OUT_other (c j : Dev nD) (h : c ≠ j) : (oM.access (chunkR j)).read (Elt F) (OUT A c) = k0_pay30 (gld A j) := by
  funext x
  show OUT A c ((chunkR j).emb x) = _
  unfold OUT
  rw [chOf_emb, if_neg (fun e => h e.symm)]
  exact congrArg (k0_pay30 (gld A j)) (ix3_emb j x)

end Cert.KernelIdeal.Hand

end
-- ==== Proof.I.Proto.lean ====
/-
  THE PROTOCOL of the kernel: for each semaphore who signals it or copies onto it, how much, and what each payment hands over.
  All cells have one round.

    barrier of device e      each other device d signals 1: d's slots e of the two exchange buffers (any contents), that round 0 of
                             d's receive cells of those slots is open, and, to device 0 or 1, the same of d's key and value rows
    kv send (d, t) of s      paid by the copy of slice d of the keys (t = 0) or values (t = 1) of s ∈ {0, 1} to d: the source back
    kv receive (s, t) of e   paid by the copy from device s: its rows, holding what device s staged
    rs send d of c           paid by the copy of chunk d of c's partial output to d: the source back
    rs receive j of e        paid by the copy from j: slot j, holding j's rows of chunk e
    ag send d of c           paid by the copy of c's reduced chunk to d: the share of the source lent to it
    ag receive j of e        paid by the copy from j: slot j, holding j's reduced chunk
-/
module

public import proofs.«01_k».proof.Proof.I.Contents
public import Idealize.ShloMosaic.Lib.Pipeline.Regions
public import Idealize.ShloMosaic.Lib.Pipeline.Kit
public import Idealize.ShloMosaic.Lib.Pipeline.RegionTalk
public import Idealize.ShloMosaic.Lib.Ring.FamCut
public import Idealize.ShloMosaic.Lib.Transfers
public import Idealize.ShloMosaic.Lib.Tactic

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- The pipeline library's resource, and the protocol's. -/
abbrev UU : Type := URounds (GSem nD τ sig) Unit × URounds (GSem nD τ sig) (Dev nD)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Dev nD)) (MT nD τ sig Unit (Elt F) ℕ UU ℕ) := embR

/-! ## Semaphores by role -/

inductive Kd where
  | bar
  | kvS (d : Dev nD) (t : Fin 2)
  | kvR (s t : Fin 2)
  | rsS (d : Dev nD)
  | rsR (j : Dev nD)
  | agS (d : Dev nD)
  | agR (j : Dev nD)
  | no
deriving DecidableEq

def m8 (n : ℕ) : Dev nD := ⟨n % 8, Nat.mod_lt _ (by decide)⟩
def m2 (n : ℕ) : Fin 2 := ⟨n % 2, Nat.mod_lt _ (by decide)⟩

def kindN (n : ℕ) : Kd :=
  if n < 6 then .no else if n < 22 then .kvS (m8 ((n - 6) / 2)) (m2 (n - 6)) else if n < 26 then .kvR (m2 ((n - 22) / 2)) (m2 (n - 22))
  else if n < 34 then .rsS (m8 (n - 26)) else if n < 42 then .rsR (m8 (n - 34)) else if n < 50 then .agS (m8 (n - 42)) else .agR (m8 (n - 50))

def kind : SemLoc sig → Kd
  | .reg _ => .bar
  | .dma n => kindN n.val

theorem kind_bar : kind (.reg barrier0) = .bar := rfl
theorem kind_kvS (d : Dev nD) (t : Fin 2) : kind (.dma (kvS d t)) = .kvS d t := by revert d t; decide
theorem kind_kvR (s t : Fin 2) : kind (.dma (kvR s t)) = .kvR s t := by revert s t; decide
theorem kind_rsS (d : Dev nD) : kind (.dma (rsS d)) = .rsS d := by revert d; decide
theorem kind_rsR (d : Dev nD) : kind (.dma (rsR d)) = .rsR d := by revert d; decide
theorem kind_agS (d : Dev nD) : kind (.dma (agS d)) = .agS d := by revert d; decide
theorem kind_agR (d : Dev nD) : kind (.dma (agR d)) = .agR d := by revert d; decide

/-- Device number of a sender of keys and values. -/
abbrev dv (s : Fin 2) : Dev nD := ⟨s.val, by have := s.isLt; show s.val < 8; omega⟩

/-- Whether the cell of this role is used on device `e` (roles other than the barrier). -/
def act (e : Dev nD) : Kd → Bool
  | .bar => false
  | .kvS d _ => decide (e.val < 2 ∧ e ≠ d)
  | .kvR s _ => decide (e ≠ dv s)
  | .rsS d => decide (e ≠ d)
  | .rsR j => decide (e ≠ j)
  | .agS d => decide (e ≠ d)
  | .agR j => decide (e ≠ j)
  | .no => false

/-! ## Amounts -/

def N0 : ℕ := (dst0 kM).view.dmaCredit
def N1 : ℕ := (dst1 kM).view.dmaCredit
def N2 : ℕ := (slot rM 0).view.dmaCredit
theorem N0_pos : 0 < N0 := View.dmaCredit_pos _ (by decide)
theorem N1_pos : 0 < N1 := View.dmaCredit_pos _ (by decide)
theorem N2_pos : 0 < N2 := View.dmaCredit_pos _ (by decide)

theorem credit_kM0 : (dst0 kM).view.dmaCredit = N0 := rfl
theorem credit_vM0 : (dst0 vM).view.dmaCredit = N0 := by unfold N0; rfl
theorem credit_kM1 : (dst1 kM).view.dmaCredit = N1 := rfl
theorem credit_vM1 : (dst1 vM).view.dmaCredit = N1 := by unfold N1; rfl
theorem credit_kf0 (d : Dev nD) : (src0 kfM d).view.dmaCredit = N0 := by unfold N0; revert d; decide
theorem credit_vf0 (d : Dev nD) : (src0 vfM d).view.dmaCredit = N0 := by unfold N0; revert d; decide
theorem credit_kf1 (d : Dev nD) : (src1 kfM d).view.dmaCredit = N1 := by unfold N1; revert d; decide
theorem credit_vf1 (d : Dev nD) : (src1 vfM d).view.dmaCredit = N1 := by unfold N1; revert d; decide
theorem credit_rM (d : Dev nD) : (slot rM d).view.dmaCredit = N2 := by unfold N2; revert d; decide
theorem credit_gM (d : Dev nD) : (slot gM d).view.dmaCredit = N2 := by unfold N2; revert d; decide
theorem credit_chunk (d : Dev nD) : (chunk d).view.dmaCredit = N2 := by unfold N2; revert d; decide

def amt (e : Dev nD) : Kd → ℕ
  | .bar => 1
  | .kvS _ _ => if e.val = 0 then N0 else N1
  | .kvR s _ => if s.val = 0 then N0 else N1
  | .rsS _ => N2
  | .rsR _ => N2
  | .agS _ => N2
  | .agR _ => N2
  | .no => 1

theorem amt_pos (e : Dev nD) (k : Kd) : 0 < amt e k := by
  have h0 := N0_pos
  have h1 := N1_pos
  have h2 := N2_pos
  cases k <;> simp only [amt] <;> (try split) <;> omega

/-! ## The kernel's own semaphores, by role -/

abbrev KK : Type := (Dev nD × Fin 2) ⊕ (Fin 2 × Fin 2) ⊕ Dev nD ⊕ Dev nD ⊕ Dev nD ⊕ Dev nD

def kdOf : KK → Kd
  | .inl (d, t) => .kvS d t
  | .inr (.inl (s, t)) => .kvR s t
  | .inr (.inr (.inl d)) => .rsS d
  | .inr (.inr (.inr (.inl d))) => .rsR d
  | .inr (.inr (.inr (.inr (.inl d)))) => .agS d
  | .inr (.inr (.inr (.inr (.inr d)))) => .agR d

abbrev osem : KK → SemLoc sig
  | .inl (d, t) => .dma (kvS d t)
  | .inr (.inl (s, t)) => .dma (kvR s t)
  | .inr (.inr (.inl d)) => .dma (rsS d)
  | .inr (.inr (.inr (.inl d))) => .dma (rsR d)
  | .inr (.inr (.inr (.inr (.inl d)))) => .dma (agS d)
  | .inr (.inr (.inr (.inr (.inr d)))) => .dma (agR d)

theorem kind_osem (k : KK) : kind (osem k) = kdOf k := by
  rcases k with ⟨d, t⟩ | ⟨s, t⟩ | d | d | d | d
  · exact kind_kvS d t
  · exact kind_kvR s t
  · exact kind_rsS d
  · exact kind_rsR d
  · exact kind_agS d
  · exact kind_agR d

theorem kdOf_inj : Function.Injective kdOf := by
  rintro (⟨d, t⟩ | ⟨s, t⟩ | d | d | d | d) (⟨d', t'⟩ | ⟨s', t'⟩ | d' | d' | d' | d') h <;> simp_all [kdOf]

theorem osem_inj : Function.Injective osem := fun a b h => kdOf_inj (by rw [← kind_osem, ← kind_osem, h])

abbrev barCell (c : Dev nD) : GSem nD τ sig := ((c : Thread nD τ), .reg barrier0)
abbrev cell (c : Dev nD) (sm : SemLoc sig) : GSem nD τ sig := ((c : Thread nD τ), sm)

/-! ## Points-tos through a memref -/

abbrev pt (c : Dev nD) {s : Shape} {e : EltTy} (v : Memref sig .tc .vmem s e) (q : PosShare TreeShare)
    (f : Buf (Elt F) (v.view.loc (c : Thread nD τ))) : sProp 𝕄 :=
  v.view.loc (c : Thread nD τ) ↦[v.view.set]{q} f

abbrev anyPt (c : Dev nD) {s : Shape} {e : EltTy} (v : Memref sig .tc .vmem s e) : sProp 𝕄 :=
  iprop(∃ f, pt (F := F) c v fullShare f)

variable (A : In F)

/-! ## What is handed over -/

/-- The part of device `c`'s landing buffers that device `e` copies into. -/
def Share (c e : Dev nD) : sProp 𝕄 :=
  iprop(anyPt (F := F) c (slot rM e) ∗ anyPt (F := F) c (slot gM e)
    ∗ (if e.val = 0 then iprop(anyPt (F := F) c (dst0 kM) ∗ anyPt (F := F) c (dst0 vM))
       else if e.val = 1 then iprop(anyPt (F := F) c (dst1 kM) ∗ anyPt (F := F) c (dst1 vM)) else iprop(emp)))

instance anyPt_storable (c : Dev nD) {s : Shape} {e : EltTy} (v : Memref sig .tc .vmem s e) :
    BI.Storable (upEmb : UEmb _ 𝕄) (anyPt (F := F) c v) := by unfold anyPt; infer_instance
set_option synthInstance.maxHeartbeats 400000 in
instance Share_storable (c e : Dev nD) : BI.Storable (upEmb : UEmb _ 𝕄) (Share (F := F) c e) := by
  unfold Share; (repeat' split) <;> infer_instance

/-- Every cell of device `c` other than the barrier is open. -/
def reachAll (c : Dev nD) : sProp 𝕄 := bigSep Finset.univ fun k : KK => reached ER (cell c (osem k)) 0
instance reachAll_persistent (c : Dev nD) : BI.Persistent (reachAll (F := F) c) := by unfold reachAll; infer_instance

instance reachAll_storable (c : Dev nD) : BI.Storable (upEmb : UEmb _ 𝕄) (reachAll (F := F) c) := by unfold reachAll; infer_instance

/-- Paid to device `e`'s barrier by device `d`. -/
def barPay (e d : Dev nD) : sProp 𝕄 := iprop(Share (F := F) d e ∗ reachAll (F := F) d)

instance barPay_storable (e d : Dev nD) : BI.Storable (upEmb : UEmb _ 𝕄) (barPay (F := F) e d) := by unfold barPay; infer_instance

def kvSPay (e d : Dev nD) (t : Fin 2) : sProp 𝕄 :=
  if e.val = 0 then (if t.val = 0 then pt e (src0 kfM d) fullShare (A.kf e) else pt e (src0 vfM d) fullShare (A.vf e))
  else (if t.val = 0 then pt e (src1 kfM d) fullShare (A.kf e) else pt e (src1 vfM d) fullShare (A.vf e))

def kvRPay (e : Dev nD) (s t : Fin 2) : sProp 𝕄 :=
  if s.val = 0 then (if t.val = 0 then pt e (dst0 kM) fullShare (KB A e) else pt e (dst0 vM) fullShare (VB A e))
  else (if t.val = 0 then pt e (dst1 kM) fullShare (KB A e) else pt e (dst1 vM) fullShare (VB A e))

/-- The share of its reduced chunk device `c` lends the copy to device `d`. -/
abbrev lent (c d : Dev nD) : PosShare TreeShare := Transfers.dealOf fullShare (Finset.univ.erase c) d

def pay (e : Dev nD) (k : Kd) (d : Dev nD) : sProp 𝕄 :=
  match k with
  | .bar => barPay (F := F) e d
  | .kvS d t => kvSPay A e d t
  | .kvR s t => kvRPay A e s t
  | .rsS d => pt e (chunk d) fullShare (PART A e)
  | .rsR j => pt e (slot rM j) fullShare (RS A e)
  | .agS d => pt e (slot gM e) (lent e d) (AG A)
  | .agR j => pt e (slot gM j) fullShare (AG A)
  | .no => iprop(emp)

instance pay_storable (e : Dev nD) (k : Kd) (d : Dev nD) : BI.Storable (upEmb : UEmb _ 𝕄) (pay A e k d) := by
  cases k <;> simp only [pay, kvSPay, kvRPay] <;> (repeat' split) <;> infer_instance

def dutiesOf (e : Dev nD) (k : Kd) : Finset (Dev nD) :=
  match k with
  | .bar => Finset.univ.erase e
  | k => if act e k then {0} else ∅

def sched : Rounds.Schedule (GSem nD τ sig) (Dev nD) 𝕄 where
  duties g r := if r = 0 ∧ g.1.2 = .tc then dutiesOf g.1.1 (kind g.2) else ∅
  unitless _ := False
  amount g _ _ := amt g.1.1 (kind g.2)
  payload g _ d := pay A g.1.1 (kind g.2) d
  amount_pos _ _ _ _ := amt_pos _ _

instance sched_storable (g : GSem nD τ sig) (r : ℕ) (d : Dev nD) :
    BI.Storable (upEmb : UEmb _ 𝕄) ((sched A).payload g r d) := pay_storable A _ _ _

theorem duties_bar (e : Dev nD) : (sched A).duties (barCell e) 0 = Finset.univ.erase e := by
  dsimp only [sched]
  rw [if_pos ⟨rfl, rfl⟩]; rfl

theorem duties_act (e : Dev nD) (n : DmaSem sig) {k : Kd} (hk : kind (.dma n) = k) (h : act e k = true) :
    (sched A).duties (cell e (.dma n)) 0 = {0} := by
  dsimp only [sched]
  rw [if_pos ⟨rfl, rfl⟩]
  show dutiesOf e (kind (.dma n)) = _
  rw [hk]
  cases k <;> simp_all [dutiesOf, act]

theorem duties_inact (e : Dev nD) (k : KK) (h : act e (kdOf k) = false) (r : ℕ) :
    (sched A).duties (cell e (osem k)) r = ∅ := by
  show (if r = 0 ∧ _ then dutiesOf e (kind (osem k)) else _) = _
  rw [kind_osem]
  have hb : kdOf k ≠ .bar := by rcases k with ⟨d, t⟩ | ⟨s, t⟩ | d | d | d | d <;> simp [kdOf]
  have : dutiesOf e (kdOf k) = ∅ := by
    revert h hb; generalize kdOf k = k'; intro h hb
    cases k' <;> simp_all [dutiesOf]
  rw [this, ite_self]

theorem duties_later (g : GSem nD τ sig) (r : ℕ) (h : 1 ≤ r) : (sched A).duties g r = ∅ := if_neg fun h' => by omega

theorem payload_eq (e : Dev nD) (sm : SemLoc sig) {k : Kd} (hk : kind sm = k) (r : ℕ) (d : Dev nD) :
    (sched A).payload (cell e sm) r d = pay A e k d := by
  show pay A e (kind sm) d = _
  rw [hk]

theorem amount_eq (e : Dev nD) (sm : SemLoc sig) {k : Kd} (hk : kind sm = k) (r : ℕ) (d : Dev nD) :
    (sched A).amount (cell e sm) r d = amt e k := by
  show amt e (kind sm) = _
  rw [hk]

theorem expect_bar (e : Dev nD) : (sched A).expect (barCell e) 0 = 7 := by
  unfold Schedule.expect Schedule.amountOf
  rw [duties_bar]
  show ∑ _d ∈ Finset.univ.erase e, 1 = 7
  revert e; decide

theorem expect_act (e : Dev nD) (n : DmaSem sig) {k : Kd} (hk : kind (.dma n) = k) (h : act e k = true) :
    (sched A).expect (cell e (.dma n)) 0 = amt e k := by
  unfold Schedule.expect Schedule.amountOf
  rw [duties_act A e n hk h, Finset.sum_singleton, amount_eq A e _ hk]

theorem rest_act (e : Dev nD) (n : DmaSem sig) {k : Kd} (hk : kind (.dma n) = k) (h : act e k = true) :
    bigSep ((sched A).duties (cell e (.dma n)) 0 \ ∅) (fun u => (sched A).payload (cell e (.dma n)) 0 u) = pay A e k 0 := by
  rw [Finset.sdiff_empty, duties_act A e n hk h, bigSep_singleton, payload_eq A e _ hk]

theorem rest_bar (e : Dev nD) :
    bigSep ((sched A).duties (barCell e) 0 \ ∅) (fun u => (sched A).payload (barCell e) 0 u)
      = bigSep (Finset.univ.erase e) fun d => barPay (F := F) e d := by
  rw [Finset.sdiff_empty, duties_bar]
  exact bigSep_congr fun d _ => payload_eq A e _ kind_bar 0 d

/-! ## Levels, and what a device still owes -/

def L (g : GSem nD τ sig) : Finset Unit := if g.1.2 = .tc then {()} else ∅
def lvK : Kd → ℕ
  | .bar => 1
  | .kvR _ _ => 2
  | .rsR _ => 3
  | .agR _ => 4
  | _ => 0
def lv (g : GSem nD τ sig) (_ : Unit) : ℕ := lvK (kind g.2)

theorem L_of_ne (g : GSem nD τ sig) (h : g.1.2 ≠ .tc) : L g = ∅ := if_neg h

/-- Everything in `O` is owed to cells above level `b`. -/
def Above (b : ℕ) (O : CellTallies nD τ sig Unit) : Prop := ∀ g u, 0 < O g u → g.1.2 = .tc ∧ b < lv g u

theorem above_zero (b : ℕ) : Above b 0 := fun _ _ h => absurd h (Nat.lt_irrefl 0)
theorem above_add {b : ℕ} {O O' : CellTallies nD τ sig Unit} (h : Above b O) (h' : Above b O') : Above b (O + O') := fun g u hg => by
  rw [Pi.add_apply, Finsupp.add_apply] at hg
  rcases Nat.add_pos_iff_pos_or_pos.mp hg with hg | hg
  · exact h g u hg
  · exact h' g u hg
theorem above_tally {b : ℕ} (e : Dev nD) (sm : SemLoc sig) (n : ℕ) (h : b < lvK (kind sm)) : Above b (tallyAt (cell e sm) () n) :=
  fun g u hg => by
    rw [tallyAt_apply] at hg
    split at hg
    · next h' => rw [h'.1]; exact ⟨rfl, h⟩
    · exact absurd hg (Nat.lt_irrefl 0)
theorem above_sum {b : ℕ} {ι : Type} (s : Finset ι) (T : ι → CellTallies nD τ sig Unit) (h : ∀ i, Above b (T i)) : Above b (∑ i ∈ s, T i) := by
  classical
  induction s using Finset.induction_on with
  | empty => rw [Finset.sum_empty]; exact above_zero b
  | insert a s ha ih => rw [Finset.sum_insert ha]; exact above_add (h a) ih
theorem above_mono {b b' : ℕ} {O : CellTallies nD τ sig Unit} (h : Above b' O) (hb : b ≤ b') : Above b O :=
  fun g u hg => ⟨(h g u hg).1, lt_of_le_of_lt hb (h g u hg).2⟩

theorem mayWait (c : Dev nD) (sm : SemLoc sig) (O : CellTallies nD τ sig Unit) (h : Above (lvK (kind sm)) O) :
    (levAts L lv : sProp 𝕄) ⊢ MayWait (c : Thread nD τ) sm () O :=
  MayOwe.of_cut (L := L) (lev := lv) (lvK (kind sm))
    (fun p hp => by rw [Finset.mem_singleton.mp hp]; exact (Finset.mem_singleton_self ()))
    (fun g u hg => by unfold L; rw [if_pos (h g u hg).1]; exact Finset.mem_singleton_self _)
    (fun p hp => by rw [Finset.mem_singleton.mp hp]; exact le_refl _)
    (fun g u hg => (h g u hg).2)

def Tbar (c d : Dev nD) : CellTallies nD τ sig Unit := if c = d then 0 else tallyAt (barCell d) () 1
def Tkv (c : Dev nD) (t : Fin 2) (d : Dev nD) : CellTallies nD τ sig Unit :=
  if c.val = 0 then (if c = d then 0 else tallyAt (cell d (.dma (kvR 0 t))) () N0)
  else if c.val = 1 then (if c = d then 0 else tallyAt (cell d (.dma (kvR 1 t))) () N1) else 0
def Trs (c d : Dev nD) : CellTallies nD τ sig Unit := if c = d then 0 else tallyAt (cell d (.dma (rsR c))) () N2
def Tag (c d : Dev nD) : CellTallies nD τ sig Unit := if c = d then 0 else tallyAt (cell d (.dma (agR c))) () N2

/-- The terms of a family from the `k`-th on. -/
def rem (T : Dev nD → CellTallies nD τ sig Unit) (k : ℕ) : CellTallies nD τ sig Unit := ∑ d ∈ Finset.univ.filter fun d : Dev nD => k ≤ d.val, T d

theorem rem_step (T : Dev nD → CellTallies nD τ sig Unit) (d : Dev nD) : rem T d.val = T d + rem T (d.val + 1) := by
  unfold rem
  rw [show (Finset.univ.filter fun e : Dev nD => d.val ≤ e.val) = insert d (Finset.univ.filter fun e : Dev nD => d.val + 1 ≤ e.val) from by
    ext e; simp only [Finset.mem_filter, Finset.mem_univ, true_and, Finset.mem_insert, Fin.ext_iff]; omega]
  exact Finset.sum_insert (by simp)

theorem rem_last (T : Dev nD → CellTallies nD τ sig Unit) : rem T 8 = 0 := by
  unfold rem
  rw [Finset.filter_false_of_mem fun d _ => by have : d.val < 8 := d.isLt; omega, Finset.sum_empty]

theorem rem_zero (T : Dev nD → CellTallies nD τ sig Unit) : rem T 0 = ∑ d, T d := by
  unfold rem
  rw [Finset.filter_true_of_mem fun d _ => Nat.zero_le _]

theorem above_Tkv (c : Dev nD) (t : Fin 2) (d : Dev nD) : Above 1 (Tkv c t d) := by
  unfold Tkv
  repeat' split
  all_goals first | exact above_zero _ | exact above_tally _ _ _ (by rw [kind_kvR]; simp [lvK])
theorem above_Trs (c d : Dev nD) : Above 2 (Trs c d) := by
  unfold Trs
  split
  · exact above_zero _
  · exact above_tally _ _ _ (by rw [kind_rsR]; simp [lvK])
theorem above_Tag (c d : Dev nD) : Above 3 (Tag c d) := by
  unfold Tag
  split
  · exact above_zero _
  · exact above_tally _ _ _ (by rw [kind_agR]; simp [lvK])

/-- What device `c` owes at launch. -/
def O₀ (c : Dev nD) : CellTallies nD τ sig Unit :=
  rem (fun k => Tbar c (c + k)) 0 + (rem (Tkv c 0) 0 + (rem (Tkv c 1) 0 + (rem (Trs c) 0 + rem (Tag c) 0)))

end Cert.KernelIdeal.Hand

end
-- ==== Proof.I.Steps.lean ====
/-
  ONE STEP OF THE BODY at a time: what a send, a wait, a load and a store of the kernel take and give back, the two branches of
  a conditional block, and families of eight resources consumed one device at a time.
-/
module

public import proofs.«01_k».proof.Proof.I.Proto

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev 𝒱₀ : Variants := Variants.none

/-- The weakest precondition of a program of the TensorCore of device `c`. -/
@[irreducible] def WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_eq (c : Dev nD) {α : Type} (p : Prog (TpuEff nD τ sig (Elt F) Λ₀ .tc) α) (Q : α → sProp 𝕄) :
    WP c p Q = wp frame (wpE (defs₀ (F := F)) 𝒱₀ (c : Thread nD τ) none) Set.univ p Q := by unfold WP; rfl

theorem WP_bind (c : Dev nD) {α β : Type} (p : Prog (TpuEff nD τ sig (Elt F) Λ₀ .tc) α) (k : α → Prog (TpuEff nD τ sig (Elt F) Λ₀ .tc) β)
    (Q : β → sProp 𝕄) : WP c (p >>= k) Q = WP c p (fun a => WP c (k a) Q) := by
  rw [WP_eq, WP_eq, wp_bind]
  exact congrArg _ (funext fun a => (WP_eq c (k a) Q).symm)

variable (A : In F) (κ : GSem nD τ sig → ℕ)

/-- What a device owes, whatever it has waited on so far. -/
def owesX (c : Dev nD) (O : CellTallies nD τ sig Unit) : sProp 𝕄 := iprop(∃ W, owes (c : Thread nD τ) O W)

/-- The cells of the protocol, and the order in which they may be waited on. -/
def Ctx : sProp 𝕄 :=
  iprop((bigSep Finset.univ fun e : Dev nD => cellInv ER (sched A) (κ (barCell e)) (barCell e))
    ∗ (bigSep Finset.univ fun p : Dev nD × KK => cellInv ER (sched A) (κ (cell p.1 (osem p.2))) (cell p.1 (osem p.2)))
    ∗ (bigSep Finset.univ fun e : Dev nD => reached ER (barCell e) 0)
    ∗ levAts L lv)

instance Ctx_persistent : BI.Persistent (Ctx A κ) := by unfold Ctx; infer_instance

theorem big_at {ι : Type} [Fintype ι] {Φ : ι → sProp 𝕄} (i : ι) : bigSep Finset.univ Φ ⊢ Φ i := by
  classical exact bigSep_elim (Finset.mem_univ i)

theorem Ctx_bar (e : Dev nD) : Ctx A κ ⊢ iprop(cellInv ER (sched A) (κ (barCell e)) (barCell e) ∗ reached ER (barCell e) 0) := by
  unfold Ctx
  iintro ⟨#H1, -, #H2, -⟩
  ihave H1' := (big_at (Φ := fun e : Dev nD => (cellInv ER (sched A) (κ (barCell e)) (barCell e) : sProp 𝕄)) e) $$ H1
  ihave H2' := (big_at (Φ := fun e : Dev nD => (reached ER (barCell e) 0 : sProp 𝕄)) e) $$ H2
  isplitl [H1']; · iexact H1'
  iexact H2'

theorem Ctx_dma (e : Dev nD) (k : KK) : Ctx A κ ⊢ cellInv ER (sched A) (κ (cell e (osem k))) (cell e (osem k)) := by
  unfold Ctx
  iintro ⟨-, #H1, -, -⟩
  ihave H1' := (big_at (Φ := fun p : Dev nD × KK => (cellInv ER (sched A) (κ (cell p.1 (osem p.2))) (cell p.1 (osem p.2)) : sProp 𝕄)) (e, k)) $$ H1
  iexact H1'

theorem Ctx_lev : Ctx A κ ⊢ levAts L lv := by
  unfold Ctx
  iintro ⟨-, -, -, #H⟩; iexact H

theorem reachAll_at (e : Dev nD) (k : KK) : reachAll (F := F) e ⊢ reached ER (cell e (osem k)) 0 := by
  unfold reachAll
  exact big_at (Φ := fun k : KK => (reached ER (cell e (osem k)) 0 : sProp 𝕄)) k

/-! ## Families consumed in order -/

/-- A family of eight, its first `k` members at `Q`, the others still at `P`. -/
def prg (P Q : Dev nD → sProp 𝕄) (k : ℕ) : sProp 𝕄 := bigSep Finset.univ fun d : Dev nD => if d.val < k then Q d else P d

theorem prg_zero (P Q : Dev nD → sProp 𝕄) : prg P Q 0 = bigSep Finset.univ P := by
  unfold prg; exact bigSep_congr fun d _ => if_neg (Nat.not_lt_zero _)
theorem prg_last (P Q : Dev nD → sProp 𝕄) : prg P Q 8 = bigSep Finset.univ Q := by
  unfold prg; exact bigSep_congr fun d _ => if_pos d.isLt

theorem bigSep_take {Φ : Dev nD → sProp 𝕄} (d : Dev nD) :
    bigSep Finset.univ Φ = iprop(Φ d ∗ bigSep (Finset.univ.erase d) Φ) := by
  conv_lhs => rw [← Finset.insert_erase (Finset.mem_univ d)]
  exact bigSep_insert (Finset.notMem_erase d _)

theorem prg_step (P Q : Dev nD → sProp 𝕄) (d : Dev nD) (k k' : ℕ) (hk : d.val = k) (hk' : k + 1 = k') :
    prg P Q k ⊢ iprop(P d ∗ (Q d -∗ prg P Q k')) := by
  subst hk hk'
  unfold prg
  rw [bigSep_take d, bigSep_take (Φ := fun e : Dev nD => if e.val < d.val + 1 then Q e else P e) d, if_neg (Nat.lt_irrefl _),
    if_pos (Nat.lt_succ_self _),
    bigSep_congr (Φ := fun e : Dev nD => if e.val < d.val + 1 then Q e else P e) (Ψ := fun e : Dev nD => if e.val < d.val then Q e else P e)
      fun e he => by
        have hne : e.val ≠ d.val := fun h => (Finset.mem_erase.mp he).1 (Fin.ext h)
        by_cases h : e.val < d.val
        · rw [if_pos h, if_pos (by omega)]
        · rw [if_neg h, if_neg (by omega)]]
  iintro ⟨HP, HR⟩
  isplitl [HP]; · iexact HP
  iintro HQ
  isplitl [HQ]; · iexact HQ
  iexact HR

/-! ## The two branches of a conditional block -/

theorem wp_done {α : Type} (c : Dev nD) (x : α) (Q : α → sProp 𝕄) : Q x ⊢ WP c (.ret x) Q := by
  rw [WP_eq]
  change Q x ⊢ iprop(|={Set.univ}=> Q x)
  iintro HQ
  imodintro
  iexact HQ

theorem wp_block {C : Prop} [Decidable C] {c : Dev nD} {α : Type} {X : C → Prog (TpuEff nD τ sig (Elt F) Λ₀ .tc) α}
    {J : Prog (TpuEff nD τ sig (Elt F) Λ₀ .tc) α} {Q : α → sProp 𝕄}
    (Pre Post : sProp 𝕄) (hpos : ∀ h, iprop(Pre ∗ (Post -∗ WP c J Q)) ⊢ WP c (X h) Q) (hneg : ¬ C → Pre ⊢ Post) :
    iprop(Pre ∗ (Post -∗ WP c J Q)) ⊢ WP c (if h : C then X h else J) Q := by
  by_cases h : C
  · rw [dif_pos h]; exact hpos h
  · rw [dif_neg h]
    iintro ⟨HP, HK⟩
    iapply HK
    iapply (hneg h)
    iexact HP

/-! ## A copy to another device, and a wait -/

/-- The credit of a cell in use. -/
def crd (c : Dev nD) (k : KK) : sProp 𝕄 := if act c (kdOf k) then cred (tallyAt (cell c (osem k)) () (amt c (kdOf k))) else iprop(emp)
/-- The right to pay a cell in use. -/
def tok (c : Dev nD) (k : KK) : sProp 𝕄 := if act c (kdOf k) then dutyTok ER (cell c (osem k)) 0 0 else iprop(emp)
/-- A cell before its wait. -/
def posn (c : Dev nD) (k : KK) : sProp 𝕄 := atPos ER (cell c (osem k)) 0 ∅ 0
/-- A cell after its wait, or never in use. -/
def done (c : Dev nD) (k : KK) : sProp 𝕄 := atPos ER (cell c (osem k)) (if act c (kdOf k) then 1 else 0) ∅ 0

theorem send_gen (c d : Dev nD) (k₁ k₂ : KK) {n : Dev nD} (hn : n = d) {sS rS : SemLoc sig} (hS : sS = osem k₁) (hR : rS = osem k₂)
    (ha₁ : act c (kdOf k₁) = true) (ha₂ : act d (kdOf k₂) = true)
    {sp sp' : Space} {s : Shape} {e : EltTy} {src : Memref sig .tc sp s e} {dst : Memref sig .tc sp' s e} {hsc hw hw' ht}
    {α : Type} {K : PUnit → Prog (TpuEff nD τ sig (Elt F) Λ₀ .tc) α} {Q : α → sProp 𝕄}
    (N : ℕ) (hN : dst.view.amount (osem k₂) = N) (hN₁ : amt c (kdOf k₁) = N) (hN₂ : amt d (kdOf k₂) = N)
    (O : CellTallies nD τ sig Unit) (q : PosShare TreeShare) (fs : Buf (Elt F) (src.view.loc (c : Thread nD τ)))
    (fd : Buf (Elt F) (dst.view.loc (d : Thread nD τ)))
    (hp₁ : (src.view.loc (c : Thread nD τ) ↦[src.view.set]{q} fs : sProp 𝕄) ⊢ pay A c (kdOf k₁) 0)
    (hp₂ : (dst.view.loc (d : Thread nD τ) ↦[dst.view.set]{fullShare} dst.view.write (Elt F) fd (src.view.read (Elt F) fs) Finset.univ : sProp 𝕄)
      ⊢ pay A d (kdOf k₂) 0) :
    iprop((Ctx A κ ∗ reachAll (F := F) c ∗ reachAll (F := F) d
      ∗ (src.view.loc (c : Thread nD τ) ↦[src.view.set]{q} fs) ∗ (dst.view.loc (d : Thread nD τ) ↦[dst.view.set]{fullShare} fd)
      ∗ tok (F := F) c k₁ ∗ tok (F := F) d k₂ ∗ owesX (F := F) c (tallyAt (cell d (osem k₂)) () N + O))
      ∗ (crd (F := F) c k₁ ∗ owesX (F := F) c O -∗ WP c (K ⟨⟩) Q))
      ⊢ WP c (.op (.enqueueDma src (.remote (Dev.tc n) dst sS hsc) rS hw hw' ht) K) Q := by
  subst hn hS hR
  unfold tok crd owesX
  rw [WP_eq, WP_eq]
  rw [if_pos ha₁, if_pos ha₁, if_pos ha₂, hN₁]
  iintro ⟨⟨#HC, #Hrc, #Hrd, Hs, Hd, Ht₁, Ht₂, ⟨%W, HO⟩⟩, Hk⟩
  have hd : ∀ (e : Dev nD) (k : KK), act e (kdOf k) = true → (0 : Dev nD) ∈ (sched A).duties (cell e (osem k)) 0 := by
    intro e k h
    have : ∃ m : DmaSem sig, osem k = .dma m := by
      rcases k with ⟨d, t⟩ | ⟨s, t⟩ | d | d | d | d <;> exact ⟨_, rfl⟩
    obtain ⟨m, hm⟩ := this
    rw [hm, duties_act A e m (k := kdOf k) (by rw [← hm, kind_osem]) h]
    exact Finset.mem_singleton_self _
  iapply (Rounds.wp_send_pointsTo 𝒱₀ ER (sched A) (c : Thread nD τ) none (c' := (n : Thread nD τ)) (src := src) (dst := dst)
      (sS := osem k₁) (sem := osem k₂) (q := q) (fs := fs) (κ₁ := κ (cell c (osem k₁))) (κ₂ := κ (cell n (osem k₂)))
      (r₁ := 0) (r₂ := 0) (d₁ := 0) (d₂ := 0) (fd := fd) (hd c k₁ ha₁) (hd n k₂ ha₂) () () N hN
      ((amount_eq A c _ (kind_osem k₁) 0 0).trans hN₁) ((amount_eq A n _ (kind_osem k₂) 0 0).trans hN₂) O (add_comm _ _) (W := W)
      (by rw [payload_eq A c _ (kind_osem k₁)]; exact hp₁) (by rw [payload_eq A n _ (kind_osem k₂)]; exact hp₂)) $$ [Hs Hd HO Ht₁ Ht₂]
  · isplitr; · iapply (Ctx_dma A κ c k₁); iexact HC
    isplitr; · iapply (Ctx_dma A κ n k₂); iexact HC
    isplitl [Hs]; · iexact Hs
    isplitl [Hd]; · iexact Hd
    isplitl [HO]; · iexact HO
    isplitl [Ht₁]; · iexact Ht₁
    isplitr; · iapply (reachAll_at c k₁); iexact Hrc
    isplitl [Ht₂]; · iexact Ht₂
    iapply (reachAll_at n k₂); iexact Hrd
  iintro ⟨HcS, HO⟩
  iapply Hk
  isplitl [HcS]; · iexact HcS
  iexists W; iexact HO

theorem wait_gen (c : Dev nD) (k : KK) {n : DmaSem sig} (hn : SemLoc.dma n = osem k) (ha : act c (kdOf k) = true)
    {sp sp' : Space} {s : Shape} {e : EltTy} {src : Memref sig .tc sp s e} {dst : Memref sig .tc sp' s e} {hw hw'}
    (hc : dst.view.dmaCredit = amt c (kdOf k)) (O : CellTallies nD τ sig Unit) (hO : Above (lvK (kdOf k)) O)
    {α : Type} {K : PUnit → Prog (TpuEff nD τ sig (Elt F) Λ₀ .tc) α} {Q : α → sProp 𝕄} :
    iprop((Ctx A κ ∗ crd (F := F) c k ∗ posn (F := F) c k ∗ owesX (F := F) c O)
      ∗ (done (F := F) c k ∗ pay A c (kdOf k) 0 ∗ owesX (F := F) c O -∗ WP c (K ⟨⟩) Q))
      ⊢ WP c (.op (.waitDma2 n src dst hw hw') K) Q := by
  unfold crd posn done owesX
  rw [WP_eq, WP_eq]
  rw [if_pos ha, if_pos ha, ← hc, ← hn]
  have hk : kind (.dma n) = kdOf k := by rw [hn, kind_osem]
  iintro ⟨⟨#HC, Hcr, Hat, ⟨%W, HO⟩⟩, Hk⟩
  iapply (Rounds.wp_wait_rest_token 𝒱₀ ER (sched A) (c : Thread nD τ) none (κ := κ (cell c (osem k)))
      (wpE_waitDma2_eq (src := src) (dst := dst) 𝒱₀ (c : Thread nD τ) none Set.univ) (Set.mem_univ _) () (O := O) (W := W) (R := 0) (m := 0) (T := ∅)
      ((Nat.zero_add _).trans (hc.trans (expect_act A c n hk ha).symm))) $$ [Hcr HO Hat]
  · isplitr; · rw [hn]; iapply (Ctx_dma A κ c k); iexact HC
    isplitl [Hcr]; · iexact Hcr
    isplitl [HO]; · iexact HO
    isplitr; · iapply (mayWait c (.dma n) O (by rw [hk]; exact hO)); iapply (Ctx_lev A κ); iexact HC
    iexact Hat
  iintro ⟨HO, Hat, -, Hpay⟩
  ihave Hp := (Entails.of_eq (rest_act A c n hk ha)) $$ Hpay
  iapply Hk
  isplitl [Hat]; · iexact Hat
  isplitl [Hp]; · iexact Hp
  iexists _; iexact HO

/-! ## The standing facts, and steps in sequence -/

def reachEv : sProp 𝕄 := bigSep Finset.univ fun d : Dev nD => reachAll (F := F) d
instance reachEv_persistent : BI.Persistent (reachEv (F := F)) := by unfold reachEv; infer_instance
theorem reachEv_at (d : Dev nD) : reachEv (F := F) ⊢ reachAll (F := F) d := big_at (Φ := fun d : Dev nD => reachAll (F := F) d) d

/-- The cells, and that every cell of every device is open. -/
def CC : sProp 𝕄 := iprop(Ctx A κ ∗ reachEv (F := F))
instance CC_persistent : BI.Persistent (CC A κ) := by unfold CC; infer_instance

/-- A step that takes `P` to `P'`, before a program that needs `P'` and the rest. -/
theorem chain {C P P' Fr X Y : sProp 𝕄} [BI.Persistent C] (h : iprop((C ∗ P) ∗ (P' -∗ X)) ⊢ Y) (h' : iprop((C ∗ P') ∗ Fr) ⊢ X) :
    iprop((C ∗ P) ∗ Fr) ⊢ Y := by
  iintro ⟨⟨#HC, HP⟩, HF⟩
  iapply h
  isplitl [HP]
  · isplitr; · iexact HC
    iexact HP
  iintro HP'
  iapply h'
  isplitl [HP']
  · isplitr; · iexact HC
    iexact HP'
  iexact HF

/-- A change of the state between two steps. -/
theorem recast {P P' X : sProp 𝕄} (h : P ⊢ P') (h' : P' ⊢ X) : P ⊢ X := BI.Entails.trans h h'

/-- A change of the active part of the state between two steps. -/
theorem recastP {C P P' Fr X : sProp 𝕄} (h : P ⊢ P') (h' : iprop((C ∗ P') ∗ Fr) ⊢ X) : iprop((C ∗ P) ∗ Fr) ⊢ X := by
  iintro ⟨⟨HC, HP⟩, HF⟩
  iapply h'
  isplitl [HC HP]
  · isplitl [HC]; · iexact HC
    iapply h; iexact HP
  iexact HF

/-- The end of a part. -/
theorem chain_ret {C P : sProp 𝕄} {α : Type} {c : Dev nD} {x : α} {Q : α → sProp 𝕄} : iprop((C ∗ P) ∗ (P -∗ Q x)) ⊢ WP c (.ret x) Q := by
  iintro ⟨⟨-, HP⟩, HF⟩
  iapply (wp_done c x Q)
  iapply HF; iexact HP

/-- A part of the body, and what follows it. -/
theorem part_bind {C P P' : sProp 𝕄} {α β : Type} {c : Dev nD} {p : Prog (TpuEff nD τ sig (Elt F) Λ₀ .tc) α} {x : α}
    {k : α → Prog (TpuEff nD τ sig (Elt F) Λ₀ .tc) β} {Q : β → sProp 𝕄}
    (h : ∀ Q' : α → sProp 𝕄, iprop((C ∗ P) ∗ (P' -∗ Q' x)) ⊢ WP c p Q') :
    iprop((C ∗ P) ∗ (P' -∗ WP c (k x) Q)) ⊢ WP c (p >>= k) Q := by
  rw [WP_bind]; exact h fun a => WP c (k a) Q

/-- One copy to another device, and `J` after it. -/
abbrev sendP {α : Type} (J : Prog (TpuEff nD τ sig (Elt F) Λ₀ .tc) α) {s : Shape} {e : EltTy} (n : Dev nD) (src dst : Memref sig .tc .vmem s e) (sS rS : DmaSem sig)
    (hsc : dst.view.ref.isScScratch = false) (hw : src.view.WordExact) (hw' : dst.view.WordExact)
    (ht : (DmaTarget.remote (nD := nD) (τ := τ) (p := .tc) (Dev.tc n) dst (.dma sS) hsc).Typed .vmem (.dma rS)) :
    Prog (TpuEff nD τ sig (Elt F) Λ₀ .tc) α :=
  Prog.lift (.enqueueDma src (.remote (Dev.tc n) dst (.dma sS) hsc) (.dma rS) hw hw' ht) >>= fun _ => J

/-- One wait, and `J` after it. -/
abbrev waitP {α : Type} (J : Prog (TpuEff nD τ sig (Elt F) Λ₀ .tc) α) {s : Shape} {e : EltTy} (n : DmaSem sig) (src dst : Memref sig .tc .vmem s e)
    (hw : src.view.WordExact) (hw' : dst.view.WordExact) : Prog (TpuEff nD τ sig (Elt F) Λ₀ .tc) α :=
  Prog.lift (.waitDma2 n src dst hw hw') >>= fun _ => J

theorem pt_landed (d : Dev nD) {s : Shape} {e : EltTy} (v : Memref sig .tc .vmem s e) (f G : Buf (Elt F) (v.view.loc (d : Thread nD τ)))
    (w : s.Idx → Elt F e) (h : v.view.read (Elt F) G = w) :
    (v.view.loc (d : Thread nD τ) ↦[v.view.set]{fullShare} v.view.write (Elt F) f w Finset.univ : sProp 𝕄) ⊢ pt d v fullShare G :=
  Entails.of_eq (pointsTo_congr (write_eq_of_read v.view f G w h))

/-! ## A family of copies, one to each other device -/

/-- The copies of one exchange that device `c` sends: the one to `d` reads `v₁ d` and lands in `v₂` of `d`. -/
structure SF (c : Dev nD) (s : Shape) (e : EltTy) where
  v₁ : Dev nD → Memref sig .tc .vmem s e
  v₂ : Memref sig .tc .vmem s e
  q : Dev nD → PosShare TreeShare
  f₁ : ∀ d : Dev nD, Buf (Elt F) ((v₁ d).view.loc (c : Thread nD τ))
  f₂ : ∀ d : Dev nD, Buf (Elt F) (v₂.view.loc (d : Thread nD τ))
  k₁ : Dev nD → KK
  k₂ : KK
  N : ℕ
  hN : v₂.view.amount (osem k₂) = N
  read : ∀ d, v₂.view.read (Elt F) (f₂ d) = (v₁ d).view.read (Elt F) (f₁ d)
  act₁ : ∀ d, c ≠ d → act c (kdOf (k₁ d)) = true
  act₁' : ∀ d, c = d → act c (kdOf (k₁ d)) = false
  act₂ : ∀ d, c ≠ d → act d (kdOf k₂) = true
  amt₁ : ∀ d, amt c (kdOf (k₁ d)) = N
  amt₂ : ∀ d, amt d (kdOf k₂) = N
  pay₁ : ∀ d, c ≠ d → (pt c (v₁ d) (q d) (f₁ d) ⊢ pay A c (kdOf (k₁ d)) 0)
  pay₂ : ∀ d, c ≠ d → (pt d v₂ fullShare (f₂ d) ⊢ pay A d (kdOf k₂) 0)

variable {A}

/-- Before the copy to `d`: source, landing place, and the right to pay both cells. -/
def sPre {c : Dev nD} {s : Shape} {e : EltTy} (S : SF A c s e) (d : Dev nD) : sProp 𝕄 :=
  if c = d then iprop(emp) else iprop(pt c (S.v₁ d) (S.q d) (S.f₁ d) ∗ anyPt (F := F) d S.v₂ ∗ tok (F := F) c (S.k₁ d) ∗ tok (F := F) d S.k₂)
/-- After it: the credit of its send cell. -/
def sPost {c : Dev nD} {s : Shape} {e : EltTy} (S : SF A c s e) (d : Dev nD) : sProp 𝕄 := crd (F := F) c (S.k₁ d)
/-- What the copy to `d` owes. -/
def sT {c : Dev nD} {s : Shape} {e : EltTy} (S : SF A c s e) (d : Dev nD) : CellTallies nD τ sig Unit :=
  if c = d then 0 else tallyAt (cell d (osem S.k₂)) () S.N

theorem sPre_ne {c : Dev nD} {s : Shape} {e : EltTy} (S : SF A c s e) {d : Dev nD} (h : c ≠ d) :
    sPre S d = iprop(pt c (S.v₁ d) (S.q d) (S.f₁ d) ∗ anyPt (F := F) d S.v₂ ∗ tok (F := F) c (S.k₁ d) ∗ tok (F := F) d S.k₂) := if_neg h
theorem sT_ne {c : Dev nD} {s : Shape} {e : EltTy} (S : SF A c s e) {d : Dev nD} (h : c ≠ d) : sT S d = tallyAt (cell d (osem S.k₂)) () S.N := if_neg h
theorem sT_eq {c : Dev nD} {s : Shape} {e : EltTy} (S : SF A c s e) {d : Dev nD} (h : c = d) : sT S d = 0 := if_pos h

theorem rem_head (T : Dev nD → CellTallies nD τ sig Unit) (d : Dev nD) (k k' : ℕ) (hk : d.val = k) (hk' : k + 1 = k')
    (R : CellTallies nD τ sig Unit) : rem T k + R = T d + (rem T k' + R) := by
  subst hk hk'; rw [rem_step, add_assoc]

/-- A family passes over the device itself. -/
theorem prg_skip {c : Dev nD} {s : Shape} {e : EltTy} (S : SF A c s e) (d : Dev nD) (he : c = d) (k k' : ℕ) (hk : d.val = k) (hk' : k + 1 = k') :
    prg (sPre S) (sPost S) k ⊢ prg (sPre S) (sPost S) k' := by
  have hp : sPost S d = iprop(emp) := by
    unfold sPost crd; rw [S.act₁' d he]; rfl
  iintro HP
  ihave HP := (prg_step (sPre S) (sPost S) d k k' hk hk') $$ HP
  icases HP with ⟨-, Hback⟩
  iapply Hback
  iapply (Entails.of_eq hp.symm)
  iempintro

theorem send_core {c : Dev nD} {s : Shape} {e : EltTy} (S : SF A c s e) (d : Dev nD) (hne : c ≠ d) {n : Dev nD} (hn : n = d)
    {sS rS : DmaSem sig} (hS : SemLoc.dma sS = osem (S.k₁ d)) (hR : SemLoc.dma rS = osem S.k₂)
    {src dst : Memref sig .tc .vmem s e} (hsrc : src = S.v₁ d) (hdst : dst = S.v₂)
    {hsc hw hw' ht} (k k' : ℕ) (hk : d.val = k) (hk' : k + 1 = k') {O O' : CellTallies nD τ sig Unit} (hO : O = sT S d + O')
    {α : Type} {J : Prog (TpuEff nD τ sig (Elt F) Λ₀ .tc) α} {Q : α → sProp 𝕄} :
    iprop((CC A κ ∗ prg (sPre S) (sPost S) k ∗ owesX (F := F) c O) ∗ (prg (sPre S) (sPost S) k' ∗ owesX (F := F) c O' -∗ WP c J Q))
    ⊢ WP c (sendP J n src dst sS rS hsc hw hw' ht) Q := by
  subst hsrc hdst hO
  change _ ⊢ WP c (.op (.enqueueDma (S.v₁ d) (.remote (Dev.tc n) S.v₂ (.dma sS) hsc) (.dma rS) hw hw' ht) fun _ => J) Q
  rw [sT_ne S hne]
  unfold CC
  iintro ⟨⟨⟨#HC, #Hr⟩, HP, HO⟩, Hk⟩
  ihave HP := (prg_step (sPre S) (sPost S) d k k' hk hk') $$ HP
  icases HP with ⟨Hd, Hback⟩
  ihave Hd := (Entails.of_eq (sPre_ne S hne)) $$ Hd
  icases Hd with ⟨Hsrc, ⟨%fd, Hdst⟩, Ht₁, Ht₂⟩
  ihave #Hrc := (reachEv_at c) $$ Hr
  ihave #Hrd := (reachEv_at d) $$ Hr
  iapply (send_gen A κ c d (S.k₁ d) S.k₂ hn hS hR (S.act₁ d hne) (S.act₂ d hne) (src := S.v₁ d) (dst := S.v₂) (K := fun _ => J)
    S.N S.hN (S.amt₁ d) (S.amt₂ d) O' (S.q d) (S.f₁ d) fd (S.pay₁ d hne)
    (BI.Entails.trans (pt_landed d S.v₂ fd (S.f₂ d) _ (S.read d)) (S.pay₂ d hne))) $$ [Hsrc Hdst Ht₁ Ht₂ HO Hback Hk]
  isplitl [Hsrc Hdst Ht₁ Ht₂ HO]
  · isplitr; · iexact HC
    isplitr; · iexact Hrc
    isplitr; · iexact Hrd
    isplitl [Hsrc]; · iexact Hsrc
    isplitl [Hdst]; · iexact Hdst
    isplitl [Ht₁]; · iexact Ht₁
    isplitl [Ht₂]; · iexact Ht₂
    iexact HO
  iintro ⟨Hc, HO⟩
  iapply Hk
  isplitl [Hc Hback]
  · iapply Hback; unfold sPost; iexact Hc
  iexact HO

theorem send_if {c : Dev nD} {s : Shape} {e : EltTy} (S : SF A c s e) (d : Dev nD) {C : Prop} [Decidable C] (hC : C ↔ c ≠ d) {n : C → Dev nD} (hn : ∀ h, n h = d)
    {sS rS : C → DmaSem sig} (hS : ∀ h, SemLoc.dma (sS h) = osem (S.k₁ d)) (hR : ∀ h, SemLoc.dma (rS h) = osem S.k₂)
    {src dst : C → Memref sig .tc .vmem s e} (hsrc : ∀ h, src h = S.v₁ d) (hdst : ∀ h, dst h = S.v₂)
    {hsc : ∀ h, (dst h).view.ref.isScScratch = false} {hw : ∀ h, (src h).view.WordExact} {hw' : ∀ h, (dst h).view.WordExact}
    {ht : ∀ h, (DmaTarget.remote (nD := nD) (τ := τ) (p := .tc) (Dev.tc (n h)) (dst h) (.dma (sS h)) (hsc h)).Typed .vmem (.dma (rS h))}
    (k k' : ℕ) (hk : d.val = k) (hk' : k + 1 = k') (R : CellTallies nD τ sig Unit)
    {α : Type} {J : Prog (TpuEff nD τ sig (Elt F) Λ₀ .tc) α} {Q : α → sProp 𝕄} :
    iprop((CC A κ ∗ prg (sPre S) (sPost S) k ∗ owesX (F := F) c (rem (sT S) k + R))
      ∗ (prg (sPre S) (sPost S) k' ∗ owesX (F := F) c (rem (sT S) k' + R) -∗ WP c J Q))
    ⊢ WP c (if h : C then sendP J (n h) (src h) (dst h) (sS h) (rS h) (hsc h) (hw h) (hw' h) (ht h) else J) Q := by
  have hO := rem_head (sT S) d k k' hk hk' R
  refine wp_block _ _ (fun h => send_core κ S d (hC.mp h) (hn h) (hS h) (hR h) (hsrc h) (hdst h) k k' hk hk' hO) fun h => ?_
  have he : c = d := by by_contra hne; exact h (hC.mpr hne)
  rw [hO, sT_eq S he, zero_add]
  iintro ⟨-, HP, HO⟩
  isplitl [HP]
  · iapply (prg_skip S d he k k' hk hk'); iexact HP
  iexact HO

/-! ## Waits -/

variable (A)

/-- Before a wait on a cell: its credit and its position. -/
def wPre (c : Dev nD) (k : KK) : sProp 𝕄 := iprop(crd (F := F) c k ∗ posn (F := F) c k)
/-- After it: the position and the payload. -/
def wPost (c : Dev nD) (k : KK) : sProp 𝕄 := iprop(done (F := F) c k ∗ (if act c (kdOf k) then pay A c (kdOf k) 0 else iprop(emp)))

theorem wPost_act {c : Dev nD} {k : KK} (h : act c (kdOf k) = true) : wPost A c k = iprop(done (F := F) c k ∗ pay A c (kdOf k) 0) := by
  unfold wPost; rw [if_pos h]
theorem wPost_inact {c : Dev nD} {k : KK} (h : act c (kdOf k) = false) : wPost A c k = iprop(done (F := F) c k ∗ emp) := by
  unfold wPost; rw [h]; rfl

/-- A cell not in use is already past its wait. -/
theorem w_skip {c : Dev nD} {k : KK} (h : act c (kdOf k) = false) : wPre (F := F) c k ⊢ wPost A c k := by
  rw [wPost_inact A h]
  unfold wPre posn done
  rw [h]
  iintro ⟨-, H⟩
  isplitl [H]; · iexact H
  iempintro

theorem wait_core (c : Dev nD) (k : KK) {n : DmaSem sig} (hn : SemLoc.dma n = osem k) (ha : act c (kdOf k) = true)
    {s : Shape} {e : EltTy} {src dst : Memref sig .tc .vmem s e} {hw hw'}
    (hc : dst.view.dmaCredit = amt c (kdOf k)) {O : CellTallies nD τ sig Unit} (hO : Above (lvK (kdOf k)) O)
    {α : Type} {J : Prog (TpuEff nD τ sig (Elt F) Λ₀ .tc) α} {Q : α → sProp 𝕄} :
    iprop((CC A κ ∗ wPre (F := F) c k ∗ owesX (F := F) c O) ∗ (wPost A c k ∗ owesX (F := F) c O -∗ WP c J Q)) ⊢ WP c (waitP J n src dst hw hw') Q := by
  change _ ⊢ WP c (.op (.waitDma2 n src dst hw hw') fun _ => J) Q
  rw [wPost_act A ha]
  unfold CC wPre
  iintro ⟨⟨⟨#HC, -⟩, ⟨Hcr, Hat⟩, HO⟩, Hk⟩
  iapply (wait_gen A κ c k hn ha (src := src) (dst := dst) (K := fun _ => J) hc O hO) $$ [Hcr Hat HO Hk]
  isplitl [Hcr Hat HO]
  · isplitr; · iexact HC
    isplitl [Hcr]; · iexact Hcr
    isplitl [Hat]; · iexact Hat
    iexact HO
  iintro ⟨Hd, Hp, HO⟩
  iapply Hk
  isplitl [Hd Hp]
  · isplitl [Hd]; · iexact Hd
    iexact Hp
  iexact HO

/-- The wait for one member of a family of cells. -/
theorem wait_fam (c : Dev nD) (k : Dev nD → KK) (d : Dev nD) {n : DmaSem sig} (hn : SemLoc.dma n = osem (k d)) (ha : act c (kdOf (k d)) = true)
    {s : Shape} {e : EltTy} {src dst : Memref sig .tc .vmem s e} {hw hw'}
    (hc : dst.view.dmaCredit = amt c (kdOf (k d))) (m m' : ℕ) (hm : d.val = m) (hm' : m + 1 = m')
    {O : CellTallies nD τ sig Unit} (hO : Above (lvK (kdOf (k d))) O)
    {α : Type} {J : Prog (TpuEff nD τ sig (Elt F) Λ₀ .tc) α} {Q : α → sProp 𝕄} :
    iprop((CC A κ ∗ prg (fun d => wPre (F := F) c (k d)) (fun d => wPost A c (k d)) m ∗ owesX (F := F) c O)
      ∗ (prg (fun d => wPre (F := F) c (k d)) (fun d => wPost A c (k d)) m' ∗ owesX (F := F) c O -∗ WP c J Q)) ⊢ WP c (waitP J n src dst hw hw') Q := by
  iintro ⟨⟨#HC, HP, HO⟩, Hk⟩
  ihave HP := (prg_step (fun d => wPre (F := F) c (k d)) (fun d => wPost A c (k d)) d m m' hm hm') $$ HP
  icases HP with ⟨Hd, Hback⟩
  iapply (wait_core A κ c (k d) hn ha (src := src) (dst := dst) hc hO) $$ [Hd HO Hback Hk]
  isplitl [Hd HO]
  · isplitr; · iexact HC
    isplitl [Hd]; · iexact Hd
    iexact HO
  iintro ⟨Hd, HO⟩
  iapply Hk
  isplitl [Hd Hback]
  · iapply Hback; iexact Hd
  iexact HO

theorem wait_skip (c : Dev nD) (k : Dev nD → KK) (d : Dev nD) (ha : act c (kdOf (k d)) = false) (m m' : ℕ) (hm : d.val = m) (hm' : m + 1 = m') :
    prg (fun d => wPre (F := F) c (k d)) (fun d => wPost A c (k d)) m ⊢ prg (fun d => wPre (F := F) c (k d)) (fun d => wPost A c (k d)) m' := by
  iintro HP
  ihave HP := (prg_step (fun d => wPre (F := F) c (k d)) (fun d => wPost A c (k d)) d m m' hm hm') $$ HP
  icases HP with ⟨Hd, Hback⟩
  iapply Hback
  iapply (w_skip A ha)
  iexact Hd

/-- The wait, in a block taken when the cell is in use. -/
theorem wait_if (c : Dev nD) (k : Dev nD → KK) (d : Dev nD) {C : Prop} [Decidable C] (hC : C ↔ act c (kdOf (k d)) = true)
    {n : C → DmaSem sig} (hn : ∀ h, SemLoc.dma (n h) = osem (k d))
    {s : Shape} {e : EltTy} {src dst : C → Memref sig .tc .vmem s e} {hw : ∀ h, (src h).view.WordExact} {hw' : ∀ h, (dst h).view.WordExact}
    (hc : ∀ h, (dst h).view.dmaCredit = amt c (kdOf (k d))) (m m' : ℕ) (hm : d.val = m) (hm' : m + 1 = m')
    {O : CellTallies nD τ sig Unit} (hO : Above (lvK (kdOf (k d))) O)
    {α : Type} {J : Prog (TpuEff nD τ sig (Elt F) Λ₀ .tc) α} {Q : α → sProp 𝕄} :
    iprop((CC A κ ∗ prg (fun d => wPre (F := F) c (k d)) (fun d => wPost A c (k d)) m ∗ owesX (F := F) c O)
      ∗ (prg (fun d => wPre (F := F) c (k d)) (fun d => wPost A c (k d)) m' ∗ owesX (F := F) c O -∗ WP c J Q))
      ⊢ WP c (if h : C then waitP J (n h) (src h) (dst h) (hw h) (hw' h) else J) Q := by
  refine wp_block _ _ (fun h => wait_fam A κ c k d (hn h) (hC.mp h) (hc h) m m' hm hm' hO) fun h => ?_
  iintro ⟨-, HP, HO⟩
  isplitl [HP]
  · iapply (wait_skip A c k d (Bool.eq_false_iff.mpr fun h' => h (hC.mpr h')) m m' hm hm'); iexact HP
  iexact HO

/-! ## Loads and stores -/

/-- A load through a memref whose contents are at hand. -/
theorem wp_ld {c : Dev nD} {sp : CoreSpace} {s : Shape} {e : EltTy} {m : Memref sig .tc sp s e} {r : LoadRect s} {hl : m.view.LoadsAt r}
    {S : Finset (Idx (m.view.loc (c : Thread nD τ)))} {q : PosShare TreeShare} {f : Buf (Elt F) (m.view.loc (c : Thread nD τ))}
    {w : r.shape.Idx → Elt F e} (hS : m.view.setOn r.set ⊆ S) (hv : m.view.readAt (Elt F) r f = w) {Fr : sProp 𝕄}
    (hget : Fr ⊢ iprop((m.view.loc (c : Thread nD τ) ↦[S]{q} f) ∗ ((m.view.loc (c : Thread nD τ) ↦[S]{q} f) -∗ Fr)))
    {α : Type} {K : (r.shape.Idx → Elt F e) → Prog (TpuEff nD τ sig (Elt F) Λ₀ .tc) α} {Q : α → sProp 𝕄} (h : Fr ⊢ WP c (K w) Q) :
    Fr ⊢ WP c (Prog.lift (.load m r hl) >>= K) Q := by
  subst hv
  change _ ⊢ WP c (.op (.load m r hl) K) Q
  rw [WP_eq] at h ⊢
  iintro HF
  ihave HF := hget $$ HF
  icases HF with ⟨Hm, Hback⟩
  iapply (wp_load 𝒱₀ (c : Thread nD τ) none Set.univ (m := m) (r := r) (S := S) (q := q) (f := f) hS) $$ Hm
  iintro Hm
  iapply h
  iapply Hback
  iexact Hm

/-- A load whose contents are not known, and whose value is not used. -/
theorem wp_ld_any {c : Dev nD} {sp : CoreSpace} {s : Shape} {e : EltTy} {m : Memref sig .tc sp s e} {r : LoadRect s} {hl : m.view.LoadsAt r}
    {S : Finset (Idx (m.view.loc (c : Thread nD τ)))} {q : PosShare TreeShare} (hS : m.view.setOn r.set ⊆ S) {Fr : sProp 𝕄}
    (hget : Fr ⊢ iprop(∃ f, (m.view.loc (c : Thread nD τ) ↦[S]{q} f) ∗ ((m.view.loc (c : Thread nD τ) ↦[S]{q} f) -∗ Fr)))
    {α : Type} {K : (r.shape.Idx → Elt F e) → Prog (TpuEff nD τ sig (Elt F) Λ₀ .tc) α} {Q : α → sProp 𝕄} (h : ∀ w, Fr ⊢ WP c (K w) Q) :
    Fr ⊢ WP c (Prog.lift (.load m r hl) >>= K) Q := by
  change _ ⊢ WP c (.op (.load m r hl) K) Q
  have h' := fun f => h (m.view.readAt (Elt F) r f)
  simp only [WP_eq] at h' ⊢
  iintro HF
  ihave HF := hget $$ HF
  icases HF with ⟨%f, Hm, Hback⟩
  iapply (wp_load 𝒱₀ (c : Thread nD τ) none Set.univ (m := m) (r := r) (S := S) (q := q) (f := f) hS) $$ Hm
  iintro Hm
  iapply (h' f)
  iapply Hback
  iexact Hm

/-- A store of all of a rectangle. -/
theorem wp_st {c : Dev nD} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {S : Finset (Idx ((m.access r).loc (c : Thread nD τ)))} (hS : (m.access r).setOn Finset.univ ⊆ S) {Fr Fr' : sProp 𝕄}
    (hget : Fr ⊢ iprop(∃ f, ((m.access r).loc (c : Thread nD τ) ↦[S]{fullShare} f)
      ∗ (((m.access r).loc (c : Thread nD τ) ↦[S]{fullShare} (m.access r).write (Elt F) f w Finset.univ) -∗ Fr')))
    {α : Type} {K : PUnit → Prog (TpuEff nD τ sig (Elt F) Λ₀ .tc) α} {Q : α → sProp 𝕄} (h : Fr' ⊢ WP c (K ⟨⟩) Q) :
    Fr ⊢ WP c (Prog.lift (.store m r w Finset.univ hx hm) >>= K) Q := by
  change _ ⊢ WP c (.op (.store m r w Finset.univ hx hm) K) Q
  rw [WP_eq] at h ⊢
  iintro HF
  ihave HF := hget $$ HF
  icases HF with ⟨%f, Hm, Hback⟩
  iapply (wp_store 𝒱₀ (c : Thread nD τ) none Set.univ (m := m) (r := r) (w := w) (S := S) (f := f) hS) $$ Hm
  iintro Hm
  iapply h
  iapply Hback
  iexact Hm

end Cert.KernelIdeal.Hand

end
-- ==== Proof.I.Exch.lean ====
/-
  THE FAMILIES OF COPIES of the kernel: keys and values from devices 0 and 1, the partial outputs, and the reduced chunks; the
  slices of buffers and of semaphore arrays as the body spells them; when each conditional block is taken.
-/
module

public import proofs.«01_k».proof.Proof.I.Steps

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-! ## The slices as the body spells them -/

theorem slot_of (M : Memref sig .tc .vmem S8x2x32x512 .bf16) (j : Dev nD) (off : Fin 4 → ℕ) (h : off = ![j.val, 0, 0, 0]) (hin) :
    (M.slice (Rect.unit (s := S8x2x32x512) off S1x2x32x512.size hin) (fun _ => rfl)).squeeze S2x32x512 squeezes_S1x2x32x512_S2x32x512 = slot M j := by
  subst h; rfl
theorem chunk_of (d : Dev nD) (off : Fin 3 → ℕ) (h : off = ![0, 32 * d.val, 0]) (hin) :
    pM.slice (Rect.unit (s := S2x256x512) off S2x32x512.size hin) (fun _ => rfl) = chunk d := by
  subst h; rfl
theorem src0_of (M : Memref sig .tc .vmem S2x256x2048 .i8) (d : Dev nD) (off : Fin 3 → ℕ) (h : off = ![0, 0, 256 * d.val]) (hin) :
    M.slice (Rect.unit (s := S2x256x2048) off S2x256x256.size hin) (fun _ => rfl) = src0 M d := by
  subst h; rfl
theorem src1_of (M : Memref sig .tc .vmem S2x256x2048 .i8) (d : Dev nD) (off : Fin 3 → ℕ) (h : off = ![0, 0, 256 * d.val]) (hin) :
    M.slice (Rect.unit (s := S2x256x2048) off S2x128x256.size hin) (fun _ => rfl) = src1 M d := by
  subst h; rfl

theorem kvS_of (d : Dev nD) (t : Fin 2) (off : Fin 2 → ℕ) (h : off = ![d.val, t.val]) (hin) :
    ((cc0_scratch5.slice (Rect.unit (s := S8x2) off S1x1.size hin)).squeeze S_ squeezes_S1x1_S_).sem = kvS d t := by
  subst h; revert hin; revert d t; decide +kernel
theorem kvR_of (s t : Fin 2) (off : Fin 2 → ℕ) (h : off = ![s.val, t.val]) (hin) :
    ((cc0_scratch6.slice (Rect.unit (s := S2x2) off S1x1.size hin)).squeeze S_ squeezes_S1x1_S_).sem = kvR s t := by
  subst h; revert hin; revert s t; decide +kernel
theorem rsS_of (d : Dev nD) (off : Fin 1 → ℕ) (h : off = ![d.val]) (hin) :
    ((cc0_scratch7.slice (Rect.unit (s := S8) off S1.size hin)).squeeze S_ squeezes_S1_S_).sem = rsS d := by
  subst h; revert hin; revert d; decide +kernel
theorem rsR_of (d : Dev nD) (off : Fin 1 → ℕ) (h : off = ![d.val]) (hin) :
    ((cc0_scratch8.slice (Rect.unit (s := S8) off S1.size hin)).squeeze S_ squeezes_S1_S_).sem = rsR d := by
  subst h; revert hin; revert d; decide +kernel
theorem agS_of (d : Dev nD) (off : Fin 1 → ℕ) (h : off = ![d.val]) (hin) :
    ((cc0_scratch9.slice (Rect.unit (s := S8) off S1.size hin)).squeeze S_ squeezes_S1_S_).sem = agS d := by
  subst h; revert hin; revert d; decide +kernel
theorem agR_of (d : Dev nD) (off : Fin 1 → ℕ) (h : off = ![d.val]) (hin) :
    ((cc0_scratch10.slice (Rect.unit (s := S8) off S1.size hin)).squeeze S_ squeezes_S1_S_).sem = agR d := by
  subst h; revert hin; revert d; decide +kernel

theorem credit_of {s : Shape} {e : EltTy} {m m' : Memref sig .tc .vmem s e} {N : ℕ} (h : m = m') (h' : m'.view.dmaCredit = N) :
    m.view.dmaCredit = N := by subst h; exact h'

/-! ## When a block is taken -/

theorem cond1_iff (c : Dev nD) : k0_cond1 c = 1#1 ↔ c = 0 := by revert c; decide +kernel
theorem cond2_iff (c : Dev nD) : k0_cond2 c = 1#1 ↔ c = 1 := by revert c; decide +kernel
theorem cond5_iff (c : Dev nD) : k0_cond5 c = 1#1 ↔ c ≠ 0 := by revert c; decide +kernel
theorem cond6_iff (c : Dev nD) : k0_cond6 c = 1#1 ↔ c ≠ 1 := by revert c; decide +kernel
theorem cond7_iff (c : Dev nD) : k0_cond7 c = 1#1 ↔ c ≠ 2 := by revert c; decide +kernel
theorem cond8_iff (c : Dev nD) : k0_cond8 c = 1#1 ↔ c ≠ 3 := by revert c; decide +kernel
theorem cond9_iff (c : Dev nD) : k0_cond9 c = 1#1 ↔ c ≠ 4 := by revert c; decide +kernel
theorem cond10_iff (c : Dev nD) : k0_cond10 c = 1#1 ↔ c ≠ 5 := by revert c; decide +kernel
theorem cond11_iff (c : Dev nD) : k0_cond11 c = 1#1 ↔ c ≠ 6 := by revert c; decide +kernel
theorem cond12_iff (c : Dev nD) : k0_cond12 c = 1#1 ↔ c ≠ 7 := by revert c; decide +kernel
theorem cond21_iff (c : Dev nD) : k0_cond21 c = 1#1 ↔ c ≠ 0 := by revert c; decide +kernel
theorem cond22_iff (c : Dev nD) : k0_cond22 c = 1#1 ↔ c ≠ 1 := by revert c; decide +kernel
theorem cond23_iff (c : Dev nD) : k0_cond23 c = 1#1 ↔ c ≠ 2 := by revert c; decide +kernel
theorem cond24_iff (c : Dev nD) : k0_cond24 c = 1#1 ↔ c ≠ 3 := by revert c; decide +kernel
theorem cond25_iff (c : Dev nD) : k0_cond25 c = 1#1 ↔ c ≠ 4 := by revert c; decide +kernel
theorem cond26_iff (c : Dev nD) : k0_cond26 c = 1#1 ↔ c ≠ 5 := by revert c; decide +kernel
theorem cond27_iff (c : Dev nD) : k0_cond27 c = 1#1 ↔ c ≠ 6 := by revert c; decide +kernel
theorem cond28_iff (c : Dev nD) : k0_cond28 c = 1#1 ↔ c ≠ 7 := by revert c; decide +kernel
theorem cond39_iff (c : Dev nD) : k0_cond39 c = 1#1 ↔ c ≠ 0 := by revert c; decide +kernel
theorem cond40_iff (c : Dev nD) : k0_cond40 c = 1#1 ↔ c ≠ 1 := by revert c; decide +kernel
theorem cond41_iff (c : Dev nD) : k0_cond41 c = 1#1 ↔ c ≠ 2 := by revert c; decide +kernel
theorem cond42_iff (c : Dev nD) : k0_cond42 c = 1#1 ↔ c ≠ 3 := by revert c; decide +kernel
theorem cond43_iff (c : Dev nD) : k0_cond43 c = 1#1 ↔ c ≠ 4 := by revert c; decide +kernel
theorem cond44_iff (c : Dev nD) : k0_cond44 c = 1#1 ↔ c ≠ 5 := by revert c; decide +kernel
theorem cond45_iff (c : Dev nD) : k0_cond45 c = 1#1 ↔ c ≠ 6 := by revert c; decide +kernel
theorem cond46_iff (c : Dev nD) : k0_cond46 c = 1#1 ↔ c ≠ 7 := by revert c; decide +kernel

/-- The word of a device's number. -/
abbrev wd (c : Dev nD) : BitVec 32 := Scalar.remsi (Scalar.divsi (Dev.word c) 1#32) 8#32

theorem ne0_iff (c : Dev nD) : Scalar.cmpi .ne (Scalar.extui (Scalar.cmpi .ne (wd c) 0#32) : BitVec 32) 0#32 = 1#1 ↔ c ≠ 0 := by revert c; decide +kernel
theorem eq0_iff (c : Dev nD) : Scalar.cmpi .ne (Scalar.extui (Scalar.cmpi .eq (wd c) 0#32) : BitVec 32) 0#32 = 1#1 ↔ c = 0 := by revert c; decide +kernel
theorem ne1_iff (c : Dev nD) : Scalar.cmpi .ne (Scalar.extui (Scalar.cmpi .ne (wd c) 1#32) : BitVec 32) 0#32 = 1#1 ↔ c ≠ 1 := by revert c; decide +kernel
theorem eq1_iff (c : Dev nD) : Scalar.cmpi .ne (Scalar.extui (Scalar.cmpi .eq (wd c) 1#32) : BitVec 32) 0#32 = 1#1 ↔ c = 1 := by revert c; decide +kernel
theorem ne2_iff (c : Dev nD) : Scalar.cmpi .ne (Scalar.extui (Scalar.cmpi .ne (wd c) 2#32) : BitVec 32) 0#32 = 1#1 ↔ c ≠ 2 := by revert c; decide +kernel
theorem ne3_iff (c : Dev nD) : Scalar.cmpi .ne (Scalar.extui (Scalar.cmpi .ne (wd c) 3#32) : BitVec 32) 0#32 = 1#1 ↔ c ≠ 3 := by revert c; decide +kernel
theorem ne4_iff (c : Dev nD) : Scalar.cmpi .ne (Scalar.extui (Scalar.cmpi .ne (wd c) 4#32) : BitVec 32) 0#32 = 1#1 ↔ c ≠ 4 := by revert c; decide +kernel
theorem ne5_iff (c : Dev nD) : Scalar.cmpi .ne (Scalar.extui (Scalar.cmpi .ne (wd c) 5#32) : BitVec 32) 0#32 = 1#1 ↔ c ≠ 5 := by revert c; decide +kernel
theorem ne6_iff (c : Dev nD) : Scalar.cmpi .ne (Scalar.extui (Scalar.cmpi .ne (wd c) 6#32) : BitVec 32) 0#32 = 1#1 ↔ c ≠ 6 := by revert c; decide +kernel
theorem ne7_iff (c : Dev nD) : Scalar.cmpi .ne (Scalar.extui (Scalar.cmpi .ne (wd c) 7#32) : BitVec 32) 0#32 = 1#1 ↔ c ≠ 7 := by revert c; decide +kernel

/-! ## The families -/

/-- Chunk `d` of the partial output to slot `c` of device `d`. -/
def rsF (c : Dev nD) : SF A c S2x32x512 .bf16 where
  v₁ := chunk
  v₂ := slot rM c
  q _ := fullShare
  f₁ _ := PART A c
  f₂ d := RS A d
  k₁ d := .inr (.inr (.inl d))
  k₂ := .inr (.inr (.inr (.inl c)))
  N := N2
  hN := credit_rM c
  read d := read_RS A d c
  act₁ d h := by simpa [act, kdOf] using h
  act₁' d h := by simpa [act, kdOf] using h
  act₂ d h := by simpa [act, kdOf] using Ne.symm h
  amt₁ _ := rfl
  amt₂ _ := rfl
  pay₁ _ _ := BI.Entails.refl _
  pay₂ _ _ := BI.Entails.refl _

/-- The reduced chunk to slot `c` of device `d`. -/
def agF (c : Dev nD) : SF A c S2x32x512 .bf16 where
  v₁ _ := slot gM c
  v₂ := slot gM c
  q d := lent c d
  f₁ _ := AG A
  f₂ _ := AG A
  k₁ d := .inr (.inr (.inr (.inr (.inl d))))
  k₂ := .inr (.inr (.inr (.inr (.inr c))))
  N := N2
  hN := credit_gM c
  read _ := rfl
  act₁ d h := by simpa [act, kdOf] using h
  act₁' d h := by simpa [act, kdOf] using h
  act₂ d h := by simpa [act, kdOf] using Ne.symm h
  amt₁ _ := rfl
  amt₂ _ := rfl
  pay₁ _ _ := BI.Entails.refl _
  pay₂ _ _ := BI.Entails.refl _

theorem sT_rsF (c : Dev nD) : sT (rsF A c) = Trs c := rfl
theorem sT_agF (c : Dev nD) : sT (agF A c) = Tag c := rfl

/-- Keys of device 0 to device `d`. -/
def kF0 : SF A 0 S2x256x256 .i8 where
  v₁ := src0 kfM
  v₂ := dst0 kM
  q _ := fullShare
  f₁ _ := A.kf 0
  f₂ d := KB A d
  k₁ d := .inl (d, 0)
  k₂ := .inr (.inl (0, 0))
  N := N0
  hN := credit_kM0
  read d := read_K0 A d
  act₁ d h := by simpa [act, kdOf] using h
  act₁' d h := by simpa [act, kdOf] using h
  act₂ d h := decide_eq_true (show d ≠ dv 0 from Ne.symm h)
  amt₁ _ := rfl
  amt₂ _ := rfl
  pay₁ _ _ := BI.Entails.refl _
  pay₂ _ _ := BI.Entails.refl _
theorem sT_kF0 : sT (kF0 A) = Tkv 0 0 := rfl

/-- Values of device 0 to device `d`. -/
def vF0 : SF A 0 S2x256x256 .i8 where
  v₁ := src0 vfM
  v₂ := dst0 vM
  q _ := fullShare
  f₁ _ := A.vf 0
  f₂ d := VB A d
  k₁ d := .inl (d, 1)
  k₂ := .inr (.inl (0, 1))
  N := N0
  hN := credit_vM0
  read d := read_V0 A d
  act₁ d h := by simpa [act, kdOf] using h
  act₁' d h := by simpa [act, kdOf] using h
  act₂ d h := decide_eq_true (show d ≠ dv 0 from Ne.symm h)
  amt₁ _ := rfl
  amt₂ _ := rfl
  pay₁ _ _ := BI.Entails.refl _
  pay₂ _ _ := BI.Entails.refl _
theorem sT_vF0 : sT (vF0 A) = Tkv 0 1 := rfl

/-- Keys of device 1 to device `d`. -/
def kF1 : SF A 1 S2x128x256 .i8 where
  v₁ := src1 kfM
  v₂ := dst1 kM
  q _ := fullShare
  f₁ _ := A.kf 1
  f₂ d := KB A d
  k₁ d := .inl (d, 0)
  k₂ := .inr (.inl (1, 0))
  N := N1
  hN := credit_kM1
  read d := read_K1 A d
  act₁ d h := by simpa [act, kdOf] using h
  act₁' d h := by simpa [act, kdOf] using h
  act₂ d h := decide_eq_true (show d ≠ dv 1 from Ne.symm h)
  amt₁ _ := rfl
  amt₂ _ := rfl
  pay₁ _ _ := BI.Entails.refl _
  pay₂ _ _ := BI.Entails.refl _
theorem sT_kF1 : sT (kF1 A) = Tkv 1 0 := rfl

/-- Values of device 1 to device `d`. -/
def vF1 : SF A 1 S2x128x256 .i8 where
  v₁ := src1 vfM
  v₂ := dst1 vM
  q _ := fullShare
  f₁ _ := A.vf 1
  f₂ d := VB A d
  k₁ d := .inl (d, 1)
  k₂ := .inr (.inl (1, 1))
  N := N1
  hN := credit_vM1
  read d := read_V1 A d
  act₁ d h := by simpa [act, kdOf] using h
  act₁' d h := by simpa [act, kdOf] using h
  act₂ d h := decide_eq_true (show d ≠ dv 1 from Ne.symm h)
  amt₁ _ := rfl
  amt₂ _ := rfl
  pay₁ _ _ := BI.Entails.refl _
  pay₂ _ _ := BI.Entails.refl _
theorem sT_vF1 : sT (vF1 A) = Tkv 1 1 := rfl

/-! ## The barrier -/

/-- Before the signal to the device `k` places on: the right to pay its barrier, and what is handed over. -/
def bPre (c k : Dev nD) : sProp 𝕄 :=
  if k = 0 then iprop(emp) else iprop(dutyTok ER (barCell (c + k)) 0 c ∗ Share (F := F) c (c + k))
def bPost (_k : Dev nD) : sProp 𝕄 := iprop(emp)

/-- The cells, and that this device's are open. -/
def C0 (c : Dev nD) : sProp 𝕄 := iprop(Ctx A κ ∗ reachAll (F := F) c)
instance C0_persistent (c : Dev nD) : BI.Persistent (C0 A κ c) := by unfold C0; infer_instance

theorem bPre_ne (c k : Dev nD) (h : k ≠ 0) : bPre (F := F) c k = iprop(dutyTok ER (barCell (c + k)) 0 c ∗ Share (F := F) c (c + k)) := if_neg h

theorem ne_add (c k : Dev nD) (h : k ≠ 0) : c ≠ c + k := fun e => h (left_eq_add.mp e)

theorem Tbar_ne (c k : Dev nD) (h : k ≠ 0) : Tbar c (c + k) = tallyAt (barCell (c + k)) () 1 := if_neg (ne_add c k h)

theorem signal_step (c k : Dev nD) (h0 : k ≠ 0) {n : Dev nD} (hn : n = c + k) (m m' : ℕ) (hm : k.val = m) (hm' : m + 1 = m')
    (R : CellTallies nD τ sig Unit) {α : Type} {J : Prog (TpuEff nD τ sig (Elt F) Λ₀ .tc) α} {Q : α → sProp 𝕄} :
    iprop((C0 A κ c ∗ prg (bPre (F := F) c) (bPost (F := F)) m ∗ owesX (F := F) c (rem (fun k => Tbar c (c + k)) m + R))
      ∗ (prg (bPre (F := F) c) (bPost (F := F)) m' ∗ owesX (F := F) c (rem (fun k => Tbar c (c + k)) m' + R) -∗ WP c J Q))
    ⊢ WP c (semSignalWord n barrier0 1#32 >>= fun _ => J) Q := by
  subst hn
  change _ ⊢ WP c (.op (.semSignal ((c + k, Proc.tc) : Thread nD τ) barrier0 ((1 : ℕ) : ℤ)) fun _ => J) Q
  rw [rem_head (fun k => Tbar c (c + k)) k m m' hm hm' R, Tbar_ne c k h0]
  unfold owesX C0
  rw [WP_eq, WP_eq]
  iintro ⟨⟨⟨#HC, #Hr⟩, HP, ⟨%W, HO⟩⟩, Hk⟩
  ihave HP := (prg_step (bPre (F := F) c) (bPost (F := F)) k m m' hm hm') $$ HP
  icases HP with ⟨Hd, Hback⟩
  ihave Hd := (Entails.of_eq (bPre_ne c k h0)) $$ Hd
  icases Hd with ⟨Ht, HS⟩
  ihave HB := (Ctx_bar A κ (c + k)) $$ HC
  icases HB with ⟨#Hi, #Hrb⟩
  iapply (Rounds.wp_signal 𝒱₀ ER (sched A) (c : Thread nD τ) none (dst := ((c + k, Proc.tc) : Thread nD τ)) (sem := barrier0) (r := 0) (d := c) (k' := 1) (κ := κ (barCell (c + k)))
    (by rw [duties_bar]; exact Finset.mem_erase.mpr ⟨ne_add c k h0, Finset.mem_univ _⟩) rfl ()
    (rem (fun k => Tbar c (c + k)) m' + R) (add_comm _ _) (W := W)) $$ [HO Ht HS]
  · isplitr; · iexact Hi
    isplitl [HO]; · iexact HO
    isplitl [Ht]; · iexact Ht
    isplitl [HS]
    · iapply (Entails.of_eq (payload_eq A (c + k) _ kind_bar 0 c).symm)
      iapply (Entails.of_eq (show barPay (F := F) (c + k) c = pay A (c + k) .bar c from rfl))
      unfold barPay
      isplitl [HS]; · iexact HS
      iexact Hr
    iexact Hrb
  iintro HO
  iapply Hk
  isplitl [Hback]
  · iapply Hback; unfold bPost; iempintro
  iexists W; iexact HO

/-- The wait for the seven others: each hands over this device's parts of its landing buffers. -/
theorem barrier_wait (c : Dev nD) {O : CellTallies nD τ sig Unit} (hO : Above 1 O)
    {α : Type} {J : Prog (TpuEff nD τ sig (Elt F) Λ₀ .tc) α} {Q : α → sProp 𝕄} :
    iprop((C0 A κ c ∗ (cred (tallyAt (barCell c) () 7) ∗ atPos ER (barCell c) 0 ∅ 0) ∗ owesX (F := F) c O)
      ∗ ((atPos ER (barCell c) 1 ∅ 0 ∗ bigSep (Finset.univ.erase c) fun d => barPay (F := F) c d) ∗ owesX (F := F) c O -∗ WP c J Q))
    ⊢ WP c (semWaitWord barrier0 7#32 >>= fun _ => J) Q := by
  change _ ⊢ WP c (.op (.semWait barrier0 ((7 : ℕ) : ℤ)) fun _ => J) Q
  unfold owesX C0
  rw [WP_eq, WP_eq]
  iintro ⟨⟨⟨#HC, #Hr⟩, ⟨Hcr, Hat⟩, ⟨%W, HO⟩⟩, Hk⟩
  ihave HB := (Ctx_bar A κ c) $$ HC
  icases HB with ⟨#Hi, #Hrb⟩
  iapply (Rounds.wp_wait_rest_token 𝒱₀ ER (sched A) (c : Thread nD τ) none (κ := κ (barCell c)) (k' := 7)
      (wpE_semWait_eq 𝒱₀ (c : Thread nD τ) none Set.univ) (Set.mem_univ _) () (O := O) (W := W) (R := 0) (m := 0) (T := ∅)
      ((Nat.zero_add _).trans (expect_bar A c).symm)) $$ [Hcr HO Hat]
  · isplitr; · iexact Hi
    isplitl [Hcr]; · iexact Hcr
    isplitl [HO]; · iexact HO
    isplitr; · iapply (mayWait c (.reg barrier0) O (by rw [kind_bar]; exact hO)); iapply (Ctx_lev A κ); iexact HC
    iexact Hat
  iintro ⟨HO, Hat, -, Hpay⟩
  ihave Hp := (Entails.of_eq (rest_bar A c)) $$ Hpay
  iapply Hk
  isplitl [Hat Hp]
  · isplitl [Hat]; · iexact Hat
    iexact Hp
  iexists _; iexact HO

end Cert.KernelIdeal.Hand

end
-- ==== Proof.I.KV.lean ====
/-
  KEYS AND VALUES FROM DEVICES 0 AND 1: the fourteen copies each of them starts, in the parts the body is cut into.
-/
module

public import proofs.«01_k».proof.Proof.I.Exch

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-- Device 0 has started the key copies to devices before `a` and the value copies to devices before `b`. -/
def KS0 (a b : ℕ) (R : CellTallies nD τ sig Unit) : sProp 𝕄 :=
  iprop(prg (sPre (kF0 A)) (sPost (kF0 A)) a ∗ prg (sPre (vF0 A)) (sPost (vF0 A)) b
    ∗ owesX (F := F) 0 (rem (Tkv 0 0) a + (rem (Tkv 0 1) b + R)))

theorem kstep0 (d : Dev nD) (hne : ((0 : Dev nD)) ≠ d) {n : Dev nD} (hn : n = d)
    {sS rS : DmaSem sig} (hS : sS = kvS d 0) (hR : rS = kvR 0 0)
    {src dst : Memref sig .tc .vmem S2x256x256 .i8} (hsrc : src = src0 kfM d) (hdst : dst = dst0 kM)
    {hsc hw hw' ht} (a b a' : ℕ) (hk : d.val = a) (hk' : a + 1 = a') (R : CellTallies nD τ sig Unit)
    {α : Type} {J : Prog (TpuEff nD τ sig (Elt F) Λ₀ .tc) α} {Q : α → sProp 𝕄} :
    iprop((CC A κ ∗ KS0 A a b R) ∗ (KS0 A a' b R -∗ WP 0 J Q)) ⊢ WP 0 (sendP J n src dst sS rS hsc hw hw' ht) Q := by
  unfold KS0
  iintro ⟨⟨#HC, HK, HV, HO⟩, Hk⟩
  iapply (send_core κ (kF0 A) d hne hn (congrArg SemLoc.dma hS) (congrArg SemLoc.dma hR) (src := src) (dst := dst) hsrc hdst a a' hk hk'
    (O := rem (Tkv 0 0) a + (rem (Tkv 0 1) b + R)) (O' := rem (Tkv 0 0) a' + (rem (Tkv 0 1) b + R)) (rem_head (Tkv 0 0) d a a' hk hk' (rem (Tkv 0 1) b + R))) $$ [HK HV HO Hk]
  isplitl [HK HO]
  · isplitr; · iexact HC
    isplitl [HK]; · iexact HK
    iexact HO
  iintro ⟨HP, HO⟩
  iapply Hk
  isplitl [HP]; · iexact HP
  isplitl [HV]; · iexact HV
  iexact HO

theorem vstep0 (d : Dev nD) (hne : ((0 : Dev nD)) ≠ d) {n : Dev nD} (hn : n = d)
    {sS rS : DmaSem sig} (hS : sS = kvS d 1) (hR : rS = kvR 0 1)
    {src dst : Memref sig .tc .vmem S2x256x256 .i8} (hsrc : src = src0 vfM d) (hdst : dst = dst0 vM)
    {hsc hw hw' ht} (a b b' : ℕ) (hk : d.val = b) (hk' : b + 1 = b') (R : CellTallies nD τ sig Unit)
    {α : Type} {J : Prog (TpuEff nD τ sig (Elt F) Λ₀ .tc) α} {Q : α → sProp 𝕄} :
    iprop((CC A κ ∗ KS0 A a b R) ∗ (KS0 A a b' R -∗ WP 0 J Q)) ⊢ WP 0 (sendP J n src dst sS rS hsc hw hw' ht) Q := by
  unfold KS0
  iintro ⟨⟨#HC, HK, HV, HO⟩, Hk⟩
  iapply (send_core κ (vF0 A) d hne hn (congrArg SemLoc.dma hS) (congrArg SemLoc.dma hR) (src := src) (dst := dst) hsrc hdst b b' hk hk'
    (O := rem (Tkv 0 0) a + (rem (Tkv 0 1) b + R)) (O' := rem (Tkv 0 0) a + (rem (Tkv 0 1) b' + R)) (by rw [rem_head (Tkv 0 1) d b b' hk hk' R]; exact add_left_comm _ _ _)) $$ [HK HV HO Hk]
  isplitl [HV HO]
  · isplitr; · iexact HC
    isplitl [HV]; · iexact HV
    iexact HO
  iintro ⟨HP, HO⟩
  iapply Hk
  isplitl [HK]; · iexact HK
  isplitl [HP]; · iexact HP
  iexact HO

/-- Device 1 has started the key copies to devices before `a` and the value copies to devices before `b`. -/
def KS1 (a b : ℕ) (R : CellTallies nD τ sig Unit) : sProp 𝕄 :=
  iprop(prg (sPre (kF1 A)) (sPost (kF1 A)) a ∗ prg (sPre (vF1 A)) (sPost (vF1 A)) b
    ∗ owesX (F := F) 1 (rem (Tkv 1 0) a + (rem (Tkv 1 1) b + R)))

theorem kstep1 (d : Dev nD) (hne : ((1 : Dev nD)) ≠ d) {n : Dev nD} (hn : n = d)
    {sS rS : DmaSem sig} (hS : sS = kvS d 0) (hR : rS = kvR 1 0)
    {src dst : Memref sig .tc .vmem S2x128x256 .i8} (hsrc : src = src1 kfM d) (hdst : dst = dst1 kM)
    {hsc hw hw' ht} (a b a' : ℕ) (hk : d.val = a) (hk' : a + 1 = a') (R : CellTallies nD τ sig Unit)
    {α : Type} {J : Prog (TpuEff nD τ sig (Elt F) Λ₀ .tc) α} {Q : α → sProp 𝕄} :
    iprop((CC A κ ∗ KS1 A a b R) ∗ (KS1 A a' b R -∗ WP 1 J Q)) ⊢ WP 1 (sendP J n src dst sS rS hsc hw hw' ht) Q := by
  unfold KS1
  iintro ⟨⟨#HC, HK, HV, HO⟩, Hk⟩
  iapply (send_core κ (kF1 A) d hne hn (congrArg SemLoc.dma hS) (congrArg SemLoc.dma hR) (src := src) (dst := dst) hsrc hdst a a' hk hk'
    (O := rem (Tkv 1 0) a + (rem (Tkv 1 1) b + R)) (O' := rem (Tkv 1 0) a' + (rem (Tkv 1 1) b + R)) (rem_head (Tkv 1 0) d a a' hk hk' (rem (Tkv 1 1) b + R))) $$ [HK HV HO Hk]
  isplitl [HK HO]
  · isplitr; · iexact HC
    isplitl [HK]; · iexact HK
    iexact HO
  iintro ⟨HP, HO⟩
  iapply Hk
  isplitl [HP]; · iexact HP
  isplitl [HV]; · iexact HV
  iexact HO

theorem vstep1 (d : Dev nD) (hne : ((1 : Dev nD)) ≠ d) {n : Dev nD} (hn : n = d)
    {sS rS : DmaSem sig} (hS : sS = kvS d 1) (hR : rS = kvR 1 1)
    {src dst : Memref sig .tc .vmem S2x128x256 .i8} (hsrc : src = src1 vfM d) (hdst : dst = dst1 vM)
    {hsc hw hw' ht} (a b b' : ℕ) (hk : d.val = b) (hk' : b + 1 = b') (R : CellTallies nD τ sig Unit)
    {α : Type} {J : Prog (TpuEff nD τ sig (Elt F) Λ₀ .tc) α} {Q : α → sProp 𝕄} :
    iprop((CC A κ ∗ KS1 A a b R) ∗ (KS1 A a b' R -∗ WP 1 J Q)) ⊢ WP 1 (sendP J n src dst sS rS hsc hw hw' ht) Q := by
  unfold KS1
  iintro ⟨⟨#HC, HK, HV, HO⟩, Hk⟩
  iapply (send_core κ (vF1 A) d hne hn (congrArg SemLoc.dma hS) (congrArg SemLoc.dma hR) (src := src) (dst := dst) hsrc hdst b b' hk hk'
    (O := rem (Tkv 1 0) a + (rem (Tkv 1 1) b + R)) (O' := rem (Tkv 1 0) a + (rem (Tkv 1 1) b' + R)) (by rw [rem_head (Tkv 1 1) d b b' hk hk' R]; exact add_left_comm _ _ _)) $$ [HK HV HO Hk]
  isplitl [HV HO]
  · isplitr; · iexact HC
    isplitl [HV]; · iexact HV
    iexact HO
  iintro ⟨HP, HO⟩
  iapply Hk
  isplitl [HK]; · iexact HK
  isplitl [HP]; · iexact HP
  iexact HO

theorem skip0 (R : CellTallies nD τ sig Unit) : KS0 A 0 0 R ⊢ KS0 A 1 1 R := by
  unfold KS0
  rw [rem_head (Tkv 0 0) 0 0 1 rfl rfl, rem_head (Tkv 0 1) 0 0 1 rfl rfl, show Tkv 0 0 0 = 0 from rfl, show Tkv 0 1 0 = 0 from rfl, zero_add, zero_add]
  iintro ⟨HK, HV, HO⟩
  isplitl [HK]; · iapply (prg_skip (kF0 A) 0 rfl 0 1 rfl rfl); iexact HK
  isplitl [HV]; · iapply (prg_skip (vF0 A) 0 rfl 0 1 rfl rfl); iexact HV
  iexact HO

theorem part1 (h : k0_cond1 0 = 1#1) (R : CellTallies nD τ sig Unit) (Q : PUnit → sProp 𝕄) :
    iprop((CC A κ ∗ KS0 A 1 1 R) ∗ (KS0 A 2 2 R -∗ Q ⟨⟩))
    ⊢ WP 0 (k0_part1 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 0 h) Q := by
  rw [k0_part1_eq_skeleton]
  unfold k0_part1_skel
  refine chain (kstep0 A κ 1 (by decide) (n := ⟨k0_dev8, k0_dev8_lt 0 h⟩) (Fin.ext k0_dev8_eq) (kvS_of 1 0 ![1, 0] rfl inb_S8x2_S1x1_1_0)
    (kvR_of 0 0 ![0, 0] rfl inb_S2x2_S1x1_0_0) (src0_of kfM 1 ![0, 0, 256] rfl inb_S2x256x2048_S2x256x256_0_0_256) rfl 1 1 2 rfl rfl R) ?_
  refine chain (vstep0 A κ 1 (by decide) (n := ⟨k0_dev9, k0_dev9_lt 0 h⟩) (Fin.ext k0_dev9_eq) (kvS_of 1 1 ![1, 1] rfl inb_S8x2_S1x1_1_1)
    (kvR_of 0 1 ![0, 1] rfl inb_S2x2_S1x1_0_1) (src0_of vfM 1 ![0, 0, 256] rfl inb_S2x256x2048_S2x256x256_0_0_256) rfl 2 1 2 rfl rfl R) ?_
  exact chain_ret

theorem part2 (h : k0_cond1 0 = 1#1) (R : CellTallies nD τ sig Unit) (Q : PUnit → sProp 𝕄) :
    iprop((CC A κ ∗ KS0 A 2 2 R) ∗ (KS0 A 4 3 R -∗ Q ⟨⟩))
    ⊢ WP 0 (k0_part2 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 0 h) Q := by
  rw [k0_part2_eq_skeleton]
  unfold k0_part2_skel
  refine chain (kstep0 A κ 2 (by decide) (n := ⟨k0_dev10, k0_dev10_lt 0 h⟩) (Fin.ext k0_dev10_eq) (kvS_of 2 0 ![2, 0] rfl inb_S8x2_S1x1_2_0)
    (kvR_of 0 0 ![0, 0] rfl inb_S2x2_S1x1_0_0) (src0_of kfM 2 ![0, 0, 512] rfl inb_S2x256x2048_S2x256x256_0_0_512) rfl 2 2 3 rfl rfl R) ?_
  refine chain (vstep0 A κ 2 (by decide) (n := ⟨k0_dev11, k0_dev11_lt 0 h⟩) (Fin.ext k0_dev11_eq) (kvS_of 2 1 ![2, 1] rfl inb_S8x2_S1x1_2_1)
    (kvR_of 0 1 ![0, 1] rfl inb_S2x2_S1x1_0_1) (src0_of vfM 2 ![0, 0, 512] rfl inb_S2x256x2048_S2x256x256_0_0_512) rfl 3 2 3 rfl rfl R) ?_
  refine chain (kstep0 A κ 3 (by decide) (n := ⟨k0_dev12, k0_dev12_lt 0 h⟩) (Fin.ext k0_dev12_eq) (kvS_of 3 0 ![3, 0] rfl inb_S8x2_S1x1_3_0)
    (kvR_of 0 0 ![0, 0] rfl inb_S2x2_S1x1_0_0) (src0_of kfM 3 ![0, 0, 768] rfl inb_S2x256x2048_S2x256x256_0_0_768) rfl 3 3 4 rfl rfl R) ?_
  exact chain_ret

theorem part3 (h : k0_cond1 0 = 1#1) (R : CellTallies nD τ sig Unit) (Q : PUnit → sProp 𝕄) :
    iprop((CC A κ ∗ KS0 A 4 3 R) ∗ (KS0 A 5 5 R -∗ Q ⟨⟩))
    ⊢ WP 0 (k0_part3 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 0 h) Q := by
  rw [k0_part3_eq_skeleton]
  unfold k0_part3_skel
  refine chain (vstep0 A κ 3 (by decide) (n := ⟨k0_dev13, k0_dev13_lt 0 h⟩) (Fin.ext k0_dev13_eq) (kvS_of 3 1 ![3, 1] rfl inb_S8x2_S1x1_3_1)
    (kvR_of 0 1 ![0, 1] rfl inb_S2x2_S1x1_0_1) (src0_of vfM 3 ![0, 0, 768] rfl inb_S2x256x2048_S2x256x256_0_0_768) rfl 4 3 4 rfl rfl R) ?_
  refine chain (kstep0 A κ 4 (by decide) (n := ⟨k0_dev14, k0_dev14_lt 0 h⟩) (Fin.ext k0_dev14_eq) (kvS_of 4 0 ![4, 0] rfl inb_S8x2_S1x1_4_0)
    (kvR_of 0 0 ![0, 0] rfl inb_S2x2_S1x1_0_0) (src0_of kfM 4 ![0, 0, 1024] rfl inb_S2x256x2048_S2x256x256_0_0_1024) rfl 4 4 5 rfl rfl R) ?_
  refine chain (vstep0 A κ 4 (by decide) (n := ⟨k0_dev15, k0_dev15_lt 0 h⟩) (Fin.ext k0_dev15_eq) (kvS_of 4 1 ![4, 1] rfl inb_S8x2_S1x1_4_1)
    (kvR_of 0 1 ![0, 1] rfl inb_S2x2_S1x1_0_1) (src0_of vfM 4 ![0, 0, 1024] rfl inb_S2x256x2048_S2x256x256_0_0_1024) rfl 5 4 5 rfl rfl R) ?_
  exact chain_ret

theorem part4 (h : k0_cond1 0 = 1#1) (R : CellTallies nD τ sig Unit) (Q : PUnit → sProp 𝕄) :
    iprop((CC A κ ∗ KS0 A 5 5 R) ∗ (KS0 A 6 6 R -∗ Q ⟨⟩))
    ⊢ WP 0 (k0_part4 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 0 h) Q := by
  rw [k0_part4_eq_skeleton]
  unfold k0_part4_skel
  refine chain (kstep0 A κ 5 (by decide) (n := ⟨k0_dev16, k0_dev16_lt 0 h⟩) (Fin.ext k0_dev16_eq) (kvS_of 5 0 ![5, 0] rfl inb_S8x2_S1x1_5_0)
    (kvR_of 0 0 ![0, 0] rfl inb_S2x2_S1x1_0_0) (src0_of kfM 5 ![0, 0, 1280] rfl inb_S2x256x2048_S2x256x256_0_0_1280) rfl 5 5 6 rfl rfl R) ?_
  refine chain (vstep0 A κ 5 (by decide) (n := ⟨k0_dev17, k0_dev17_lt 0 h⟩) (Fin.ext k0_dev17_eq) (kvS_of 5 1 ![5, 1] rfl inb_S8x2_S1x1_5_1)
    (kvR_of 0 1 ![0, 1] rfl inb_S2x2_S1x1_0_1) (src0_of vfM 5 ![0, 0, 1280] rfl inb_S2x256x2048_S2x256x256_0_0_1280) rfl 6 5 6 rfl rfl R) ?_
  exact chain_ret

theorem part5 (h : k0_cond1 0 = 1#1) (R : CellTallies nD τ sig Unit) (Q : PUnit → sProp 𝕄) :
    iprop((CC A κ ∗ KS0 A 6 6 R) ∗ (KS0 A 8 7 R -∗ Q ⟨⟩))
    ⊢ WP 0 (k0_part5 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 0 h) Q := by
  rw [k0_part5_eq_skeleton]
  unfold k0_part5_skel
  refine chain (kstep0 A κ 6 (by decide) (n := ⟨k0_dev18, k0_dev18_lt 0 h⟩) (Fin.ext k0_dev18_eq) (kvS_of 6 0 ![6, 0] rfl inb_S8x2_S1x1_6_0)
    (kvR_of 0 0 ![0, 0] rfl inb_S2x2_S1x1_0_0) (src0_of kfM 6 ![0, 0, 1536] rfl inb_S2x256x2048_S2x256x256_0_0_1536) rfl 6 6 7 rfl rfl R) ?_
  refine chain (vstep0 A κ 6 (by decide) (n := ⟨k0_dev19, k0_dev19_lt 0 h⟩) (Fin.ext k0_dev19_eq) (kvS_of 6 1 ![6, 1] rfl inb_S8x2_S1x1_6_1)
    (kvR_of 0 1 ![0, 1] rfl inb_S2x2_S1x1_0_1) (src0_of vfM 6 ![0, 0, 1536] rfl inb_S2x256x2048_S2x256x256_0_0_1536) rfl 7 6 7 rfl rfl R) ?_
  refine chain (kstep0 A κ 7 (by decide) (n := ⟨k0_dev20, k0_dev20_lt 0 h⟩) (Fin.ext k0_dev20_eq) (kvS_of 7 0 ![7, 0] rfl inb_S8x2_S1x1_7_0)
    (kvR_of 0 0 ![0, 0] rfl inb_S2x2_S1x1_0_0) (src0_of kfM 7 ![0, 0, 1792] rfl inb_S2x256x2048_S2x256x256_0_0_1792) rfl 7 7 8 rfl rfl R) ?_
  exact chain_ret

theorem kskip1 (b : ℕ) (R : CellTallies nD τ sig Unit) : KS1 A 1 b R ⊢ KS1 A 2 b R := by
  unfold KS1
  rw [rem_head (Tkv 1 0) 1 1 2 rfl rfl, show Tkv 1 0 1 = 0 from rfl, zero_add]
  iintro ⟨HK, HV, HO⟩
  isplitl [HK]; · iapply (prg_skip (kF1 A) 1 rfl 1 2 rfl rfl); iexact HK
  isplitl [HV]; · iexact HV
  iexact HO
theorem vskip1 (a : ℕ) (R : CellTallies nD τ sig Unit) : KS1 A a 1 R ⊢ KS1 A a 2 R := by
  unfold KS1
  rw [rem_head (Tkv 1 1) 1 1 2 rfl rfl, show Tkv 1 1 1 = 0 from rfl, zero_add]
  iintro ⟨HK, HV, HO⟩
  isplitl [HK]; · iexact HK
  isplitl [HV]; · iapply (prg_skip (vF1 A) 1 rfl 1 2 rfl rfl); iexact HV
  iexact HO

theorem part6 (h : k0_cond2 1 = 1#1) (R : CellTallies nD τ sig Unit) (Q : PUnit → sProp 𝕄) :
    iprop((CC A κ ∗ KS1 A 0 0 R) ∗ (KS1 A 2 2 R -∗ Q ⟨⟩))
    ⊢ WP 1 (k0_part6 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 1 h) Q := by
  rw [k0_part6_eq_skeleton]
  unfold k0_part6_skel
  refine chain (kstep1 A κ 0 (by decide) (n := ⟨k0_dev22, k0_dev22_lt 1 h⟩) (Fin.ext k0_dev22_eq) (kvS_of 0 0 ![0, 0] rfl inb_S8x2_S1x1_0_0)
    (kvR_of 1 0 ![1, 0] rfl inb_S2x2_S1x1_1_0) (src1_of kfM 0 ![0, 0, 0] rfl inb_S2x256x2048_S2x128x256_0_0_0) rfl 0 0 1 rfl rfl R) ?_
  refine recastP (kskip1 A 0 R) ?_
  refine chain (vstep1 A κ 0 (by decide) (n := ⟨k0_dev23, k0_dev23_lt 1 h⟩) (Fin.ext k0_dev23_eq) (kvS_of 0 1 ![0, 1] rfl inb_S8x2_S1x1_0_1)
    (kvR_of 1 1 ![1, 1] rfl inb_S2x2_S1x1_1_1) (src1_of vfM 0 ![0, 0, 0] rfl inb_S2x256x2048_S2x128x256_0_0_0) rfl 2 0 1 rfl rfl R) ?_
  refine recastP (vskip1 A 2 R) ?_
  exact chain_ret

theorem part7 (h : k0_cond2 1 = 1#1) (R : CellTallies nD τ sig Unit) (Q : PUnit → sProp 𝕄) :
    iprop((CC A κ ∗ KS1 A 2 2 R) ∗ (KS1 A 4 3 R -∗ Q ⟨⟩))
    ⊢ WP 1 (k0_part7 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 1 h) Q := by
  rw [k0_part7_eq_skeleton]
  unfold k0_part7_skel
  refine chain (kstep1 A κ 2 (by decide) (n := ⟨k0_dev24, k0_dev24_lt 1 h⟩) (Fin.ext k0_dev24_eq) (kvS_of 2 0 ![2, 0] rfl inb_S8x2_S1x1_2_0)
    (kvR_of 1 0 ![1, 0] rfl inb_S2x2_S1x1_1_0) (src1_of kfM 2 ![0, 0, 512] rfl inb_S2x256x2048_S2x128x256_0_0_512) rfl 2 2 3 rfl rfl R) ?_
  refine chain (vstep1 A κ 2 (by decide) (n := ⟨k0_dev25, k0_dev25_lt 1 h⟩) (Fin.ext k0_dev25_eq) (kvS_of 2 1 ![2, 1] rfl inb_S8x2_S1x1_2_1)
    (kvR_of 1 1 ![1, 1] rfl inb_S2x2_S1x1_1_1) (src1_of vfM 2 ![0, 0, 512] rfl inb_S2x256x2048_S2x128x256_0_0_512) rfl 3 2 3 rfl rfl R) ?_
  refine chain (kstep1 A κ 3 (by decide) (n := ⟨k0_dev26, k0_dev26_lt 1 h⟩) (Fin.ext k0_dev26_eq) (kvS_of 3 0 ![3, 0] rfl inb_S8x2_S1x1_3_0)
    (kvR_of 1 0 ![1, 0] rfl inb_S2x2_S1x1_1_0) (src1_of kfM 3 ![0, 0, 768] rfl inb_S2x256x2048_S2x128x256_0_0_768) rfl 3 3 4 rfl rfl R) ?_
  exact chain_ret

theorem part8 (h : k0_cond2 1 = 1#1) (R : CellTallies nD τ sig Unit) (Q : PUnit → sProp 𝕄) :
    iprop((CC A κ ∗ KS1 A 4 3 R) ∗ (KS1 A 5 5 R -∗ Q ⟨⟩))
    ⊢ WP 1 (k0_part8 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 1 h) Q := by
  rw [k0_part8_eq_skeleton]
  unfold k0_part8_skel
  refine chain (vstep1 A κ 3 (by decide) (n := ⟨k0_dev27, k0_dev27_lt 1 h⟩) (Fin.ext k0_dev27_eq) (kvS_of 3 1 ![3, 1] rfl inb_S8x2_S1x1_3_1)
    (kvR_of 1 1 ![1, 1] rfl inb_S2x2_S1x1_1_1) (src1_of vfM 3 ![0, 0, 768] rfl inb_S2x256x2048_S2x128x256_0_0_768) rfl 4 3 4 rfl rfl R) ?_
  refine chain (kstep1 A κ 4 (by decide) (n := ⟨k0_dev28, k0_dev28_lt 1 h⟩) (Fin.ext k0_dev28_eq) (kvS_of 4 0 ![4, 0] rfl inb_S8x2_S1x1_4_0)
    (kvR_of 1 0 ![1, 0] rfl inb_S2x2_S1x1_1_0) (src1_of kfM 4 ![0, 0, 1024] rfl inb_S2x256x2048_S2x128x256_0_0_1024) rfl 4 4 5 rfl rfl R) ?_
  refine chain (vstep1 A κ 4 (by decide) (n := ⟨k0_dev29, k0_dev29_lt 1 h⟩) (Fin.ext k0_dev29_eq) (kvS_of 4 1 ![4, 1] rfl inb_S8x2_S1x1_4_1)
    (kvR_of 1 1 ![1, 1] rfl inb_S2x2_S1x1_1_1) (src1_of vfM 4 ![0, 0, 1024] rfl inb_S2x256x2048_S2x128x256_0_0_1024) rfl 5 4 5 rfl rfl R) ?_
  exact chain_ret

theorem part9 (h : k0_cond2 1 = 1#1) (R : CellTallies nD τ sig Unit) (Q : PUnit → sProp 𝕄) :
    iprop((CC A κ ∗ KS1 A 5 5 R) ∗ (KS1 A 6 6 R -∗ Q ⟨⟩))
    ⊢ WP 1 (k0_part9 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 1 h) Q := by
  rw [k0_part9_eq_skeleton]
  unfold k0_part9_skel
  refine chain (kstep1 A κ 5 (by decide) (n := ⟨k0_dev30, k0_dev30_lt 1 h⟩) (Fin.ext k0_dev30_eq) (kvS_of 5 0 ![5, 0] rfl inb_S8x2_S1x1_5_0)
    (kvR_of 1 0 ![1, 0] rfl inb_S2x2_S1x1_1_0) (src1_of kfM 5 ![0, 0, 1280] rfl inb_S2x256x2048_S2x128x256_0_0_1280) rfl 5 5 6 rfl rfl R) ?_
  refine chain (vstep1 A κ 5 (by decide) (n := ⟨k0_dev31, k0_dev31_lt 1 h⟩) (Fin.ext k0_dev31_eq) (kvS_of 5 1 ![5, 1] rfl inb_S8x2_S1x1_5_1)
    (kvR_of 1 1 ![1, 1] rfl inb_S2x2_S1x1_1_1) (src1_of vfM 5 ![0, 0, 1280] rfl inb_S2x256x2048_S2x128x256_0_0_1280) rfl 6 5 6 rfl rfl R) ?_
  exact chain_ret

theorem part10 (h : k0_cond2 1 = 1#1) (R : CellTallies nD τ sig Unit) (Q : PUnit → sProp 𝕄) :
    iprop((CC A κ ∗ KS1 A 6 6 R) ∗ (KS1 A 8 7 R -∗ Q ⟨⟩))
    ⊢ WP 1 (k0_part10 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 1 h) Q := by
  rw [k0_part10_eq_skeleton]
  unfold k0_part10_skel
  refine chain (kstep1 A κ 6 (by decide) (n := ⟨k0_dev32, k0_dev32_lt 1 h⟩) (Fin.ext k0_dev32_eq) (kvS_of 6 0 ![6, 0] rfl inb_S8x2_S1x1_6_0)
    (kvR_of 1 0 ![1, 0] rfl inb_S2x2_S1x1_1_0) (src1_of kfM 6 ![0, 0, 1536] rfl inb_S2x256x2048_S2x128x256_0_0_1536) rfl 6 6 7 rfl rfl R) ?_
  refine chain (vstep1 A κ 6 (by decide) (n := ⟨k0_dev33, k0_dev33_lt 1 h⟩) (Fin.ext k0_dev33_eq) (kvS_of 6 1 ![6, 1] rfl inb_S8x2_S1x1_6_1)
    (kvR_of 1 1 ![1, 1] rfl inb_S2x2_S1x1_1_1) (src1_of vfM 6 ![0, 0, 1536] rfl inb_S2x256x2048_S2x128x256_0_0_1536) rfl 7 6 7 rfl rfl R) ?_
  refine chain (kstep1 A κ 7 (by decide) (n := ⟨k0_dev34, k0_dev34_lt 1 h⟩) (Fin.ext k0_dev34_eq) (kvS_of 7 0 ![7, 0] rfl inb_S8x2_S1x1_7_0)
    (kvR_of 1 0 ![1, 0] rfl inb_S2x2_S1x1_1_0) (src1_of kfM 7 ![0, 0, 1792] rfl inb_S2x256x2048_S2x128x256_0_0_1792) rfl 7 7 8 rfl rfl R) ?_
  exact chain_ret

end Cert.KernelIdeal.Hand

end
-- ==== Proof.I.KW.lean ====
/-
  THE SENDERS OF KEYS AND VALUES TAKE BACK THEIR SOURCES: the waits on the send cells of devices 0 and 1 at the end of the body.
-/
module

public import proofs.«01_k».proof.Proof.I.KV

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-- Device 0 has waited for its key copies to devices before `a` and its value copies to devices before `b`. -/
def WS0 (a b : ℕ) : sProp 𝕄 :=
  iprop(prg (fun d => wPre (F := F) 0 (.inl (d, 0))) (fun d => wPost A 0 (.inl (d, 0))) a
    ∗ prg (fun d => wPre (F := F) 0 (.inl (d, 1))) (fun d => wPost A 0 (.inl (d, 1))) b ∗ owesX (F := F) 0 0)

theorem wkstep0 (d : Dev nD) (hne : ((0 : Dev nD)) ≠ d) {n : DmaSem sig} (hn : n = kvS d 0)
    {s : Shape} {e : EltTy} {src dst : Memref sig .tc .vmem s e} {hw hw'} (hc : dst.view.dmaCredit = N0) (a b a' : ℕ) (hk : d.val = a) (hk' : a + 1 = a')
    {α : Type} {J : Prog (TpuEff nD τ sig (Elt F) Λ₀ .tc) α} {Q : α → sProp 𝕄} :
    iprop((CC A κ ∗ WS0 A a b) ∗ (WS0 A a' b -∗ WP 0 J Q)) ⊢ WP 0 (waitP J n src dst hw hw') Q := by
  unfold WS0
  iintro ⟨⟨#HC, HK, HV, HO⟩, Hk⟩
  iapply (wait_fam A κ 0 (fun d => .inl (d, 0)) d (congrArg SemLoc.dma hn) (by simpa [act, kdOf] using hne) (src := src) (dst := dst) hc a a' hk hk'
    (above_zero _)) $$ [HK HV HO Hk]
  isplitl [HK HO]
  · isplitr; · iexact HC
    isplitl [HK]; · iexact HK
    iexact HO
  iintro ⟨HP, HO⟩
  iapply Hk
  isplitl [HP]; · iexact HP
  isplitl [HV]; · iexact HV
  iexact HO

theorem wvstep0 (d : Dev nD) (hne : ((0 : Dev nD)) ≠ d) {n : DmaSem sig} (hn : n = kvS d 1)
    {s : Shape} {e : EltTy} {src dst : Memref sig .tc .vmem s e} {hw hw'} (hc : dst.view.dmaCredit = N0) (a b b' : ℕ) (hk : d.val = b) (hk' : b + 1 = b')
    {α : Type} {J : Prog (TpuEff nD τ sig (Elt F) Λ₀ .tc) α} {Q : α → sProp 𝕄} :
    iprop((CC A κ ∗ WS0 A a b) ∗ (WS0 A a b' -∗ WP 0 J Q)) ⊢ WP 0 (waitP J n src dst hw hw') Q := by
  unfold WS0
  iintro ⟨⟨#HC, HK, HV, HO⟩, Hk⟩
  iapply (wait_fam A κ 0 (fun d => .inl (d, 1)) d (congrArg SemLoc.dma hn) (by simpa [act, kdOf] using hne) (src := src) (dst := dst) hc b b' hk hk'
    (above_zero _)) $$ [HK HV HO Hk]
  isplitl [HV HO]
  · isplitr; · iexact HC
    isplitl [HV]; · iexact HV
    iexact HO
  iintro ⟨HP, HO⟩
  iapply Hk
  isplitl [HK]; · iexact HK
  isplitl [HP]; · iexact HP
  iexact HO

/-- Device 1 has waited for its key copies to devices before `a` and its value copies to devices before `b`. -/
def WS1 (a b : ℕ) : sProp 𝕄 :=
  iprop(prg (fun d => wPre (F := F) 1 (.inl (d, 0))) (fun d => wPost A 1 (.inl (d, 0))) a
    ∗ prg (fun d => wPre (F := F) 1 (.inl (d, 1))) (fun d => wPost A 1 (.inl (d, 1))) b ∗ owesX (F := F) 1 0)

theorem wkstep1 (d : Dev nD) (hne : ((1 : Dev nD)) ≠ d) {n : DmaSem sig} (hn : n = kvS d 0)
    {s : Shape} {e : EltTy} {src dst : Memref sig .tc .vmem s e} {hw hw'} (hc : dst.view.dmaCredit = N1) (a b a' : ℕ) (hk : d.val = a) (hk' : a + 1 = a')
    {α : Type} {J : Prog (TpuEff nD τ sig (Elt F) Λ₀ .tc) α} {Q : α → sProp 𝕄} :
    iprop((CC A κ ∗ WS1 A a b) ∗ (WS1 A a' b -∗ WP 1 J Q)) ⊢ WP 1 (waitP J n src dst hw hw') Q := by
  unfold WS1
  iintro ⟨⟨#HC, HK, HV, HO⟩, Hk⟩
  iapply (wait_fam A κ 1 (fun d => .inl (d, 0)) d (congrArg SemLoc.dma hn) (by simpa [act, kdOf] using hne) (src := src) (dst := dst) hc a a' hk hk'
    (above_zero _)) $$ [HK HV HO Hk]
  isplitl [HK HO]
  · isplitr; · iexact HC
    isplitl [HK]; · iexact HK
    iexact HO
  iintro ⟨HP, HO⟩
  iapply Hk
  isplitl [HP]; · iexact HP
  isplitl [HV]; · iexact HV
  iexact HO

theorem wvstep1 (d : Dev nD) (hne : ((1 : Dev nD)) ≠ d) {n : DmaSem sig} (hn : n = kvS d 1)
    {s : Shape} {e : EltTy} {src dst : Memref sig .tc .vmem s e} {hw hw'} (hc : dst.view.dmaCredit = N1) (a b b' : ℕ) (hk : d.val = b) (hk' : b + 1 = b')
    {α : Type} {J : Prog (TpuEff nD τ sig (Elt F) Λ₀ .tc) α} {Q : α → sProp 𝕄} :
    iprop((CC A κ ∗ WS1 A a b) ∗ (WS1 A a b' -∗ WP 1 J Q)) ⊢ WP 1 (waitP J n src dst hw hw') Q := by
  unfold WS1
  iintro ⟨⟨#HC, HK, HV, HO⟩, Hk⟩
  iapply (wait_fam A κ 1 (fun d => .inl (d, 1)) d (congrArg SemLoc.dma hn) (by simpa [act, kdOf] using hne) (src := src) (dst := dst) hc b b' hk hk'
    (above_zero _)) $$ [HK HV HO Hk]
  isplitl [HV HO]
  · isplitr; · iexact HC
    isplitl [HV]; · iexact HV
    iexact HO
  iintro ⟨HP, HO⟩
  iapply Hk
  isplitl [HK]; · iexact HK
  isplitl [HP]; · iexact HP
  iexact HO

theorem wskip0 : WS0 A 0 0 ⊢ WS0 A 1 1 := by
  unfold WS0
  iintro ⟨HK, HV, HO⟩
  isplitl [HK]; · iapply (wait_skip A 0 (fun d => .inl (d, 0)) 0 rfl 0 1 rfl rfl); iexact HK
  isplitl [HV]; · iapply (wait_skip A 0 (fun d => .inl (d, 1)) 0 rfl 0 1 rfl rfl); iexact HV
  iexact HO
theorem wkskip1 (b : ℕ) : WS1 A 1 b ⊢ WS1 A 2 b := by
  unfold WS1
  iintro ⟨HK, HV, HO⟩
  isplitl [HK]; · iapply (wait_skip A 1 (fun d => .inl (d, 0)) 1 rfl 1 2 rfl rfl); iexact HK
  isplitl [HV]; · iexact HV
  iexact HO
theorem wvskip1 (a : ℕ) : WS1 A a 1 ⊢ WS1 A a 2 := by
  unfold WS1
  iintro ⟨HK, HV, HO⟩
  isplitl [HK]; · iexact HK
  isplitl [HV]; · iapply (wait_skip A 1 (fun d => .inl (d, 1)) 1 rfl 1 2 rfl rfl); iexact HV
  iexact HO

theorem part11 (Q : PUnit → sProp 𝕄) :
    iprop((CC A κ ∗ WS0 A 1 1) ∗ (WS0 A 3 2 -∗ Q ⟨⟩))
    ⊢ WP 0 (k0_part11 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part11_eq_skeleton]
  unfold k0_part11_skel
  refine chain (wkstep0 A κ 1 (by decide) (kvS_of 1 0 ![1, 0] rfl inb_S8x2_S1x1_1_0)
    (credit_of (src0_of kfM 1 ![0, 0, 256] rfl inb_S2x256x2048_S2x256x256_0_0_256) (credit_kf0 1)) 1 1 2 rfl rfl) ?_
  refine chain (wvstep0 A κ 1 (by decide) (kvS_of 1 1 ![1, 1] rfl inb_S8x2_S1x1_1_1)
    (credit_of (src0_of vfM 1 ![0, 0, 256] rfl inb_S2x256x2048_S2x256x256_0_0_256) (credit_vf0 1)) 2 1 2 rfl rfl) ?_
  refine chain (wkstep0 A κ 2 (by decide) (kvS_of 2 0 ![2, 0] rfl inb_S8x2_S1x1_2_0)
    (credit_of (src0_of kfM 2 ![0, 0, 512] rfl inb_S2x256x2048_S2x256x256_0_0_512) (credit_kf0 2)) 2 2 3 rfl rfl) ?_
  exact chain_ret

theorem part12 (Q : PUnit → sProp 𝕄) :
    iprop((CC A κ ∗ WS0 A 3 2) ∗ (WS0 A 5 4 -∗ Q ⟨⟩))
    ⊢ WP 0 (k0_part12 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part12_eq_skeleton]
  unfold k0_part12_skel
  refine chain (wvstep0 A κ 2 (by decide) (kvS_of 2 1 ![2, 1] rfl inb_S8x2_S1x1_2_1)
    (credit_of (src0_of vfM 2 ![0, 0, 512] rfl inb_S2x256x2048_S2x256x256_0_0_512) (credit_vf0 2)) 3 2 3 rfl rfl) ?_
  refine chain (wkstep0 A κ 3 (by decide) (kvS_of 3 0 ![3, 0] rfl inb_S8x2_S1x1_3_0)
    (credit_of (src0_of kfM 3 ![0, 0, 768] rfl inb_S2x256x2048_S2x256x256_0_0_768) (credit_kf0 3)) 3 3 4 rfl rfl) ?_
  refine chain (wvstep0 A κ 3 (by decide) (kvS_of 3 1 ![3, 1] rfl inb_S8x2_S1x1_3_1)
    (credit_of (src0_of vfM 3 ![0, 0, 768] rfl inb_S2x256x2048_S2x256x256_0_0_768) (credit_vf0 3)) 4 3 4 rfl rfl) ?_
  refine chain (wkstep0 A κ 4 (by decide) (kvS_of 4 0 ![4, 0] rfl inb_S8x2_S1x1_4_0)
    (credit_of (src0_of kfM 4 ![0, 0, 1024] rfl inb_S2x256x2048_S2x256x256_0_0_1024) (credit_kf0 4)) 4 4 5 rfl rfl) ?_
  exact chain_ret

theorem part13 (Q : PUnit → sProp 𝕄) :
    iprop((CC A κ ∗ WS0 A 5 4) ∗ (WS0 A 6 6 -∗ Q ⟨⟩))
    ⊢ WP 0 (k0_part13 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part13_eq_skeleton]
  unfold k0_part13_skel
  refine chain (wvstep0 A κ 4 (by decide) (kvS_of 4 1 ![4, 1] rfl inb_S8x2_S1x1_4_1)
    (credit_of (src0_of vfM 4 ![0, 0, 1024] rfl inb_S2x256x2048_S2x256x256_0_0_1024) (credit_vf0 4)) 5 4 5 rfl rfl) ?_
  refine chain (wkstep0 A κ 5 (by decide) (kvS_of 5 0 ![5, 0] rfl inb_S8x2_S1x1_5_0)
    (credit_of (src0_of kfM 5 ![0, 0, 1280] rfl inb_S2x256x2048_S2x256x256_0_0_1280) (credit_kf0 5)) 5 5 6 rfl rfl) ?_
  refine chain (wvstep0 A κ 5 (by decide) (kvS_of 5 1 ![5, 1] rfl inb_S8x2_S1x1_5_1)
    (credit_of (src0_of vfM 5 ![0, 0, 1280] rfl inb_S2x256x2048_S2x256x256_0_0_1280) (credit_vf0 5)) 6 5 6 rfl rfl) ?_
  exact chain_ret

theorem part14 (Q : PUnit → sProp 𝕄) :
    iprop((CC A κ ∗ WS0 A 1 1) ∗ (WS0 A 8 7 -∗ Q ⟨⟩))
    ⊢ WP 0 (k0_part14 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part14_eq_skeleton]
  unfold k0_part14_skel
  refine chain (part_bind fun Q' => part11 A κ Q') ?_
  refine chain (part_bind fun Q' => part12 A κ Q') ?_
  refine chain (part_bind fun Q' => part13 A κ Q') ?_
  refine chain (wkstep0 A κ 6 (by decide) (kvS_of 6 0 ![6, 0] rfl inb_S8x2_S1x1_6_0)
    (credit_of (src0_of kfM 6 ![0, 0, 1536] rfl inb_S2x256x2048_S2x256x256_0_0_1536) (credit_kf0 6)) 6 6 7 rfl rfl) ?_
  refine chain (wvstep0 A κ 6 (by decide) (kvS_of 6 1 ![6, 1] rfl inb_S8x2_S1x1_6_1)
    (credit_of (src0_of vfM 6 ![0, 0, 1536] rfl inb_S2x256x2048_S2x256x256_0_0_1536) (credit_vf0 6)) 7 6 7 rfl rfl) ?_
  refine chain (wkstep0 A κ 7 (by decide) (kvS_of 7 0 ![7, 0] rfl inb_S8x2_S1x1_7_0)
    (credit_of (src0_of kfM 7 ![0, 0, 1792] rfl inb_S2x256x2048_S2x256x256_0_0_1792) (credit_kf0 7)) 7 7 8 rfl rfl) ?_
  exact chain_ret

theorem part15 (Q : PUnit → sProp 𝕄) :
    iprop((CC A κ ∗ WS1 A 0 0) ∗ (WS1 A 3 1 -∗ Q ⟨⟩))
    ⊢ WP 1 (k0_part15 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part15_eq_skeleton]
  unfold k0_part15_skel
  refine chain (wkstep1 A κ 0 (by decide) (kvS_of 0 0 ![0, 0] rfl inb_S8x2_S1x1_0_0)
    (credit_of (src1_of kfM 0 ![0, 0, 0] rfl inb_S2x256x2048_S2x128x256_0_0_0) (credit_kf1 0)) 0 0 1 rfl rfl) ?_
  refine chain (wvstep1 A κ 0 (by decide) (kvS_of 0 1 ![0, 1] rfl inb_S8x2_S1x1_0_1)
    (credit_of (src1_of vfM 0 ![0, 0, 0] rfl inb_S2x256x2048_S2x128x256_0_0_0) (credit_vf1 0)) 1 0 1 rfl rfl) ?_
  refine recastP (wkskip1 A 1) ?_
  refine chain (wkstep1 A κ 2 (by decide) (kvS_of 2 0 ![2, 0] rfl inb_S8x2_S1x1_2_0)
    (credit_of (src1_of kfM 2 ![0, 0, 512] rfl inb_S2x256x2048_S2x128x256_0_0_512) (credit_kf1 2)) 2 1 3 rfl rfl) ?_
  exact chain_ret

theorem part16 (Q : PUnit → sProp 𝕄) :
    iprop((CC A κ ∗ WS1 A 3 1) ∗ (WS1 A 5 4 -∗ Q ⟨⟩))
    ⊢ WP 1 (k0_part16 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part16_eq_skeleton]
  unfold k0_part16_skel
  refine recastP (wvskip1 A 3) ?_
  refine chain (wvstep1 A κ 2 (by decide) (kvS_of 2 1 ![2, 1] rfl inb_S8x2_S1x1_2_1)
    (credit_of (src1_of vfM 2 ![0, 0, 512] rfl inb_S2x256x2048_S2x128x256_0_0_512) (credit_vf1 2)) 3 2 3 rfl rfl) ?_
  refine chain (wkstep1 A κ 3 (by decide) (kvS_of 3 0 ![3, 0] rfl inb_S8x2_S1x1_3_0)
    (credit_of (src1_of kfM 3 ![0, 0, 768] rfl inb_S2x256x2048_S2x128x256_0_0_768) (credit_kf1 3)) 3 3 4 rfl rfl) ?_
  refine chain (wvstep1 A κ 3 (by decide) (kvS_of 3 1 ![3, 1] rfl inb_S8x2_S1x1_3_1)
    (credit_of (src1_of vfM 3 ![0, 0, 768] rfl inb_S2x256x2048_S2x128x256_0_0_768) (credit_vf1 3)) 4 3 4 rfl rfl) ?_
  refine chain (wkstep1 A κ 4 (by decide) (kvS_of 4 0 ![4, 0] rfl inb_S8x2_S1x1_4_0)
    (credit_of (src1_of kfM 4 ![0, 0, 1024] rfl inb_S2x256x2048_S2x128x256_0_0_1024) (credit_kf1 4)) 4 4 5 rfl rfl) ?_
  exact chain_ret

theorem part17 (Q : PUnit → sProp 𝕄) :
    iprop((CC A κ ∗ WS1 A 5 4) ∗ (WS1 A 6 6 -∗ Q ⟨⟩))
    ⊢ WP 1 (k0_part17 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part17_eq_skeleton]
  unfold k0_part17_skel
  refine chain (wvstep1 A κ 4 (by decide) (kvS_of 4 1 ![4, 1] rfl inb_S8x2_S1x1_4_1)
    (credit_of (src1_of vfM 4 ![0, 0, 1024] rfl inb_S2x256x2048_S2x128x256_0_0_1024) (credit_vf1 4)) 5 4 5 rfl rfl) ?_
  refine chain (wkstep1 A κ 5 (by decide) (kvS_of 5 0 ![5, 0] rfl inb_S8x2_S1x1_5_0)
    (credit_of (src1_of kfM 5 ![0, 0, 1280] rfl inb_S2x256x2048_S2x128x256_0_0_1280) (credit_kf1 5)) 5 5 6 rfl rfl) ?_
  refine chain (wvstep1 A κ 5 (by decide) (kvS_of 5 1 ![5, 1] rfl inb_S8x2_S1x1_5_1)
    (credit_of (src1_of vfM 5 ![0, 0, 1280] rfl inb_S2x256x2048_S2x128x256_0_0_1280) (credit_vf1 5)) 6 5 6 rfl rfl) ?_
  exact chain_ret

theorem part18 (Q : PUnit → sProp 𝕄) :
    iprop((CC A κ ∗ WS1 A 0 0) ∗ (WS1 A 8 7 -∗ Q ⟨⟩))
    ⊢ WP 1 (k0_part18 (F := F) xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part18_eq_skeleton]
  unfold k0_part18_skel
  refine chain (part_bind fun Q' => part15 A κ Q') ?_
  refine chain (part_bind fun Q' => part16 A κ Q') ?_
  refine chain (part_bind fun Q' => part17 A κ Q') ?_
  refine chain (wkstep1 A κ 6 (by decide) (kvS_of 6 0 ![6, 0] rfl inb_S8x2_S1x1_6_0)
    (credit_of (src1_of kfM 6 ![0, 0, 1536] rfl inb_S2x256x2048_S2x128x256_0_0_1536) (credit_kf1 6)) 6 6 7 rfl rfl) ?_
  refine chain (wvstep1 A κ 6 (by decide) (kvS_of 6 1 ![6, 1] rfl inb_S8x2_S1x1_6_1)
    (credit_of (src1_of vfM 6 ![0, 0, 1536] rfl inb_S2x256x2048_S2x128x256_0_0_1536) (credit_vf1 6)) 7 6 7 rfl rfl) ?_
  refine chain (wkstep1 A κ 7 (by decide) (kvS_of 7 0 ![7, 0] rfl inb_S8x2_S1x1_7_0)
    (credit_of (src1_of kfM 7 ![0, 0, 1792] rfl inb_S2x256x2048_S2x128x256_0_0_1792) (credit_kf1 7)) 7 7 8 rfl rfl) ?_
  exact chain_ret

end Cert.KernelIdeal.Hand

end
-- ==== Proof.I.Split.lean ====
/-
  THE BUFFERS CUT INTO THE PARTS THE COPIES MOVE, and put together again.
-/
module

public import proofs.«01_k».proof.Proof.I.KW

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-- A buffer is the parts of its elements by class. -/
theorem split_cls {ℓ : Loc nD τ sig} (I : Dev nD → Finset (Idx ℓ)) (cls : Idx ℓ → Dev nD) (h : ∀ d i, i ∈ I d ↔ cls i = d)
    (q : PosShare TreeShare) (f : Buf (Elt F) ℓ) : (ℓ ↦{q} f : sProp 𝕄) = bigSep Finset.univ fun d => ℓ ↦[I d]{q} f := by
  classical
  exact Ring.pointsTo_blocks I (fun b b' hb => Finset.disjoint_left.mpr fun i hi hi' => hb (((h b i).mp hi).symm.trans ((h b' i).mp hi')))
    (Finset.ext fun i => ⟨fun _ => Finset.mem_univ _, fun _ => Finset.mem_biUnion.mpr ⟨cls i, Finset.mem_univ _, (h _ i).mpr rfl⟩⟩) f

theorem join_cls {ℓ : Loc nD τ sig} (I : Dev nD → Finset (Idx ℓ)) (cls : Idx ℓ → Dev nD) (h : ∀ d i, i ∈ I d ↔ cls i = d)
    (f₀ : Buf (Elt F) ℓ) : bigSep Finset.univ (fun d => iprop(∃ f, ℓ ↦[I d]{fullShare} f)) ⊢ (iprop(∃ g, ℓ ↦{fullShare} g) : sProp 𝕄) := by
  classical
  exact Ring.pointsTo_blocks_join_exists I (fun b b' hb => Finset.disjoint_left.mpr fun i hi hi' => hb (((h b i).mp hi).symm.trans ((h b' i).mp hi')))
    (Finset.ext fun i => ⟨fun _ => Finset.mem_univ _, fun _ => Finset.mem_biUnion.mpr ⟨cls i, Finset.mem_univ _, (h _ i).mpr rfl⟩⟩) f₀

abbrev oChunk (d : Dev nD) : Memref sig .tc .vmem S2x32x512 .f32 := oM.slice (chunkR d) (fun _ => rfl)
theorem mem_src0' {j : Dev nD} {i : S2x256x2048.Idx} : i ∈ (src0R j).set ↔ (⟨(i 2).val / 256, by have h : (i 2).val < 2048 := (i 2).isLt; show _ < 8; omega⟩ : Dev nD) = j := by
  rw [mem_src0, Fin.ext_iff]
theorem mem_slot' {j : Dev nD} {i : S8x2x32x512.Idx} : i ∈ (slotR j).set ↔ (i 0 : Dev nD) = j := by
  exact mem_slot.trans ⟨fun h => Fin.ext h, fun h => congrArg Fin.val h⟩

theorem kf0_set (d : Dev nD) : (src0 kfM d).view.set = (src0R d).set := View.set_slice_whole cc0_stg2_0 _
theorem kf0_eq (c : Dev nD) (f : S2x256x2048.Idx → Elt F .i8) : pt c kfM fullShare f = bigSep Finset.univ fun d : Dev nD => pt c (src0 kfM d) fullShare f := by
  unfold pt
  rw [show kfM.view.set = Finset.univ from View.set_whole cc0_stg2_0]
  exact split_cls (ℓ := kfM.view.loc (c : Thread nD τ)) (fun d => (src0 kfM d).view.set) (fun i => (⟨(i 2).val / 256, by have h : (i 2).val < 2048 := (i 2).isLt; show _ < 8; omega⟩ : Dev nD)) (fun d i => by rw [kf0_set]; exact mem_src0') fullShare f
theorem kf0_any (c : Dev nD) : anyPt (F := F) c kfM ⊢ bigSep Finset.univ fun d : Dev nD => anyPt (F := F) c (src0 kfM d) := by
  iintro ⟨%f, H⟩
  ihave H := (Entails.of_eq (kf0_eq c f)) $$ H
  istop
  exact bigSep_mono fun d _ => (show pt c (src0 kfM d) fullShare f ⊢ anyPt (F := F) c (src0 kfM d) from by iintro H; iexists f; iexact H)
theorem kf0_join (c : Dev nD) (f₀ : S2x256x2048.Idx → Elt F .i8) : bigSep Finset.univ (fun d : Dev nD => anyPt (F := F) c (src0 kfM d)) ⊢ anyPt (F := F) c kfM := by
  unfold anyPt pt
  rw [show kfM.view.set = Finset.univ from View.set_whole cc0_stg2_0]
  exact join_cls (ℓ := kfM.view.loc (c : Thread nD τ)) (fun d => (src0 kfM d).view.set) (fun i => (⟨(i 2).val / 256, by have h : (i 2).val < 2048 := (i 2).isLt; show _ < 8; omega⟩ : Dev nD)) (fun d i => by rw [kf0_set]; exact mem_src0') f₀

theorem vf0_set (d : Dev nD) : (src0 vfM d).view.set = (src0R d).set := View.set_slice_whole cc0_stg3_0 _
theorem vf0_eq (c : Dev nD) (f : S2x256x2048.Idx → Elt F .i8) : pt c vfM fullShare f = bigSep Finset.univ fun d : Dev nD => pt c (src0 vfM d) fullShare f := by
  unfold pt
  rw [show vfM.view.set = Finset.univ from View.set_whole cc0_stg3_0]
  exact split_cls (ℓ := vfM.view.loc (c : Thread nD τ)) (fun d => (src0 vfM d).view.set) (fun i => (⟨(i 2).val / 256, by have h : (i 2).val < 2048 := (i 2).isLt; show _ < 8; omega⟩ : Dev nD)) (fun d i => by rw [vf0_set]; exact mem_src0') fullShare f
theorem vf0_any (c : Dev nD) : anyPt (F := F) c vfM ⊢ bigSep Finset.univ fun d : Dev nD => anyPt (F := F) c (src0 vfM d) := by
  iintro ⟨%f, H⟩
  ihave H := (Entails.of_eq (vf0_eq c f)) $$ H
  istop
  exact bigSep_mono fun d _ => (show pt c (src0 vfM d) fullShare f ⊢ anyPt (F := F) c (src0 vfM d) from by iintro H; iexists f; iexact H)
theorem vf0_join (c : Dev nD) (f₀ : S2x256x2048.Idx → Elt F .i8) : bigSep Finset.univ (fun d : Dev nD => anyPt (F := F) c (src0 vfM d)) ⊢ anyPt (F := F) c vfM := by
  unfold anyPt pt
  rw [show vfM.view.set = Finset.univ from View.set_whole cc0_stg3_0]
  exact join_cls (ℓ := vfM.view.loc (c : Thread nD τ)) (fun d => (src0 vfM d).view.set) (fun i => (⟨(i 2).val / 256, by have h : (i 2).val < 2048 := (i 2).isLt; show _ < 8; omega⟩ : Dev nD)) (fun d i => by rw [vf0_set]; exact mem_src0') f₀

theorem p_set (d : Dev nD) : (chunk d).view.set = (chunkR d).set := View.set_slice_whole cc0_scratch2 _
theorem p_eq (c : Dev nD) (f : S2x256x512.Idx → Elt F .bf16) : pt c pM fullShare f = bigSep Finset.univ fun d : Dev nD => pt c (chunk d) fullShare f := by
  unfold pt
  rw [show pM.view.set = Finset.univ from View.set_whole cc0_scratch2]
  exact split_cls (ℓ := pM.view.loc (c : Thread nD τ)) (fun d => (chunk d).view.set) (fun i => chOf (i 1)) (fun d i => by rw [p_set]; exact mem_chunk) fullShare f
theorem p_any (c : Dev nD) : anyPt (F := F) c pM ⊢ bigSep Finset.univ fun d : Dev nD => anyPt (F := F) c (chunk d) := by
  iintro ⟨%f, H⟩
  ihave H := (Entails.of_eq (p_eq c f)) $$ H
  istop
  exact bigSep_mono fun d _ => (show pt c (chunk d) fullShare f ⊢ anyPt (F := F) c (chunk d) from by iintro H; iexists f; iexact H)
theorem p_join (c : Dev nD) (f₀ : S2x256x512.Idx → Elt F .bf16) : bigSep Finset.univ (fun d : Dev nD => anyPt (F := F) c (chunk d)) ⊢ anyPt (F := F) c pM := by
  unfold anyPt pt
  rw [show pM.view.set = Finset.univ from View.set_whole cc0_scratch2]
  exact join_cls (ℓ := pM.view.loc (c : Thread nD τ)) (fun d => (chunk d).view.set) (fun i => chOf (i 1)) (fun d i => by rw [p_set]; exact mem_chunk) f₀

theorem o_set (d : Dev nD) : (oChunk d).view.set = (chunkR d).set := View.set_slice_whole cc0_stg5_0 _
theorem o_eq (c : Dev nD) (f : S2x256x512.Idx → Elt F .f32) : pt c oM fullShare f = bigSep Finset.univ fun d : Dev nD => pt c (oChunk d) fullShare f := by
  unfold pt
  rw [show oM.view.set = Finset.univ from View.set_whole cc0_stg5_0]
  exact split_cls (ℓ := oM.view.loc (c : Thread nD τ)) (fun d => (oChunk d).view.set) (fun i => chOf (i 1)) (fun d i => by rw [o_set]; exact mem_chunk) fullShare f
theorem o_any (c : Dev nD) : anyPt (F := F) c oM ⊢ bigSep Finset.univ fun d : Dev nD => anyPt (F := F) c (oChunk d) := by
  iintro ⟨%f, H⟩
  ihave H := (Entails.of_eq (o_eq c f)) $$ H
  istop
  exact bigSep_mono fun d _ => (show pt c (oChunk d) fullShare f ⊢ anyPt (F := F) c (oChunk d) from by iintro H; iexists f; iexact H)
theorem o_join (c : Dev nD) (f₀ : S2x256x512.Idx → Elt F .f32) : bigSep Finset.univ (fun d : Dev nD => anyPt (F := F) c (oChunk d)) ⊢ anyPt (F := F) c oM := by
  unfold anyPt pt
  rw [show oM.view.set = Finset.univ from View.set_whole cc0_stg5_0]
  exact join_cls (ℓ := oM.view.loc (c : Thread nD τ)) (fun d => (oChunk d).view.set) (fun i => chOf (i 1)) (fun d i => by rw [o_set]; exact mem_chunk) f₀

theorem r_set (d : Dev nD) : (slot rM d).view.set = (slotR d).set := (slot_set rM d).trans (View.set_slice_whole cc0_scratch3 _)
theorem r_eq (c : Dev nD) (f : S8x2x32x512.Idx → Elt F .bf16) : pt c rM fullShare f = bigSep Finset.univ fun d : Dev nD => pt c (slot rM d) fullShare f := by
  unfold pt
  rw [show rM.view.set = Finset.univ from View.set_whole cc0_scratch3]
  exact split_cls (ℓ := rM.view.loc (c : Thread nD τ)) (fun d => (slot rM d).view.set) (fun i => (i 0 : Dev nD)) (fun d i => by rw [r_set]; exact mem_slot') fullShare f
theorem r_any (c : Dev nD) : anyPt (F := F) c rM ⊢ bigSep Finset.univ fun d : Dev nD => anyPt (F := F) c (slot rM d) := by
  iintro ⟨%f, H⟩
  ihave H := (Entails.of_eq (r_eq c f)) $$ H
  istop
  exact bigSep_mono fun d _ => (show pt c (slot rM d) fullShare f ⊢ anyPt (F := F) c (slot rM d) from by iintro H; iexists f; iexact H)
theorem r_join (c : Dev nD) (f₀ : S8x2x32x512.Idx → Elt F .bf16) : bigSep Finset.univ (fun d : Dev nD => anyPt (F := F) c (slot rM d)) ⊢ anyPt (F := F) c rM := by
  unfold anyPt pt
  rw [show rM.view.set = Finset.univ from View.set_whole cc0_scratch3]
  exact join_cls (ℓ := rM.view.loc (c : Thread nD τ)) (fun d => (slot rM d).view.set) (fun i => (i 0 : Dev nD)) (fun d i => by rw [r_set]; exact mem_slot') f₀

theorem g_set (d : Dev nD) : (slot gM d).view.set = (slotR d).set := (slot_set gM d).trans (View.set_slice_whole cc0_scratch4 _)
theorem g_eq (c : Dev nD) (f : S8x2x32x512.Idx → Elt F .bf16) : pt c gM fullShare f = bigSep Finset.univ fun d : Dev nD => pt c (slot gM d) fullShare f := by
  unfold pt
  rw [show gM.view.set = Finset.univ from View.set_whole cc0_scratch4]
  exact split_cls (ℓ := gM.view.loc (c : Thread nD τ)) (fun d => (slot gM d).view.set) (fun i => (i 0 : Dev nD)) (fun d i => by rw [g_set]; exact mem_slot') fullShare f
theorem g_any (c : Dev nD) : anyPt (F := F) c gM ⊢ bigSep Finset.univ fun d : Dev nD => anyPt (F := F) c (slot gM d) := by
  iintro ⟨%f, H⟩
  ihave H := (Entails.of_eq (g_eq c f)) $$ H
  istop
  exact bigSep_mono fun d _ => (show pt c (slot gM d) fullShare f ⊢ anyPt (F := F) c (slot gM d) from by iintro H; iexists f; iexact H)
theorem g_join (c : Dev nD) (f₀ : S8x2x32x512.Idx → Elt F .bf16) : bigSep Finset.univ (fun d : Dev nD => anyPt (F := F) c (slot gM d)) ⊢ anyPt (F := F) c gM := by
  unfold anyPt pt
  rw [show gM.view.set = Finset.univ from View.set_whole cc0_scratch4]
  exact join_cls (ℓ := gM.view.loc (c : Thread nD τ)) (fun d => (slot gM d).view.set) (fun i => (i 0 : Dev nD)) (fun d i => by rw [g_set]; exact mem_slot') f₀

theorem k_dst_set0 : (dst0 kM).view.set = dst0R.set := View.set_slice_whole cc0_scratch0 _
theorem k_dst_set1 : (dst1 kM).view.set = dst1R.set := View.set_slice_whole cc0_scratch0 _
theorem k_dst_disj : Disjoint (dst0 kM).view.set (dst1 kM).view.set := by
  rw [k_dst_set0, k_dst_set1]
  exact Finset.disjoint_left.mpr fun i hi hi' => mem_dst1.mp hi' (mem_dst0.mp hi)
theorem k_dst_union : ((dst0 kM).view.set ∪ (dst1 kM).view.set : Finset S2x384x256.Idx) = kM.view.set := by
  rw [k_dst_set0, k_dst_set1]
  refine Finset.ext fun i => ⟨fun _ => by rw [show kM.view.set = Finset.univ from View.set_whole cc0_scratch0]; exact Finset.mem_univ _, fun _ => ?_⟩
  by_cases h : (i 1).val < 256
  · exact Finset.mem_union_left _ (mem_dst0.mpr h)
  · exact Finset.mem_union_right _ (mem_dst1.mpr h)
theorem k_dst (c : Dev nD) (f : S2x384x256.Idx → Elt F .i8) :
    pt c kM fullShare f ⊣⊢ iprop(pt c (dst0 kM) fullShare f ∗ pt c (dst1 kM) fullShare f) := by
  unfold pt
  rw [← k_dst_union]
  exact pointsTo_union k_dst_disj
theorem k_dst_any (c : Dev nD) : anyPt (F := F) c kM ⊢ iprop(anyPt (F := F) c (dst0 kM) ∗ anyPt (F := F) c (dst1 kM)) := by
  iintro ⟨%f, H⟩
  ihave H := (k_dst c f).1 $$ H
  icases H with ⟨H0, H1⟩
  isplitl [H0]; · iexists f; iexact H0
  iexists f; iexact H1

theorem v_dst_set0 : (dst0 vM).view.set = dst0R.set := View.set_slice_whole cc0_scratch1 _
theorem v_dst_set1 : (dst1 vM).view.set = dst1R.set := View.set_slice_whole cc0_scratch1 _
theorem v_dst_disj : Disjoint (dst0 vM).view.set (dst1 vM).view.set := by
  rw [v_dst_set0, v_dst_set1]
  exact Finset.disjoint_left.mpr fun i hi hi' => mem_dst1.mp hi' (mem_dst0.mp hi)
theorem v_dst_union : ((dst0 vM).view.set ∪ (dst1 vM).view.set : Finset S2x384x256.Idx) = vM.view.set := by
  rw [v_dst_set0, v_dst_set1]
  refine Finset.ext fun i => ⟨fun _ => by rw [show vM.view.set = Finset.univ from View.set_whole cc0_scratch1]; exact Finset.mem_univ _, fun _ => ?_⟩
  by_cases h : (i 1).val < 256
  · exact Finset.mem_union_left _ (mem_dst0.mpr h)
  · exact Finset.mem_union_right _ (mem_dst1.mpr h)
theorem v_dst (c : Dev nD) (f : S2x384x256.Idx → Elt F .i8) :
    pt c vM fullShare f ⊣⊢ iprop(pt c (dst0 vM) fullShare f ∗ pt c (dst1 vM) fullShare f) := by
  unfold pt
  rw [← v_dst_union]
  exact pointsTo_union v_dst_disj
theorem v_dst_any (c : Dev nD) : anyPt (F := F) c vM ⊢ iprop(anyPt (F := F) c (dst0 vM) ∗ anyPt (F := F) c (dst1 vM)) := by
  iintro ⟨%f, H⟩
  ihave H := (v_dst c f).1 $$ H
  icases H with ⟨H0, H1⟩
  isplitl [H0]; · iexists f; iexact H0
  iexists f; iexact H1

theorem kf1_set (d : Dev nD) : (src1 kfM d).view.set = (src1R d).set := View.set_slice_whole cc0_stg2_0 _
/-- The rows of device 1's array that no copy reads. -/
def kfRest : Finset S2x256x2048.Idx := Finset.univ.filter fun i => ¬ (i 1).val < 128
def kfTop : Finset S2x256x2048.Idx := Finset.univ.filter fun i => (i 1).val < 128
theorem kf1_cover : (Finset.univ : Finset (Dev nD)).biUnion (fun d : Dev nD => ((src1 kfM d).view.set : Finset S2x256x2048.Idx)) = kfTop := by
  refine Finset.ext fun i => ⟨fun h => ?_, fun h => ?_⟩
  · obtain ⟨d, -, hd⟩ := Finset.mem_biUnion.mp h
    exact Finset.mem_filter.mpr ⟨Finset.mem_univ _, (mem_src1.mp ((kf1_set d).le hd)).1⟩
  · obtain ⟨d, hd⟩ : ∃ d : Dev nD, (i 2).val / 256 = d.val :=
      ⟨⟨(i 2).val / 256, by have h : (i 2).val < 2048 := (i 2).isLt; show _ < 8; omega⟩, rfl⟩
    exact Finset.mem_biUnion.mpr ⟨d, Finset.mem_univ _, (Finset.ext_iff.mp (kf1_set d) i).mpr (mem_src1.mpr ⟨(Finset.mem_filter.mp h).2, hd⟩)⟩
theorem kf1_top (c : Dev nD) (f : S2x256x2048.Idx → Elt F .i8) :
    (kfM.view.loc (c : Thread nD τ) ↦[kfTop]{fullShare} f : sProp 𝕄) = bigSep Finset.univ fun d : Dev nD => pt c (src1 kfM d) fullShare f := by
  classical
  exact Ring.pointsTo_sub_blocks (ℓ := kfM.view.loc (c : Thread nD τ)) (fun d : Dev nD => (src1 kfM d).view.set)
    (fun b b' hb => Finset.disjoint_left.mpr fun i hi hi' => by
      rw [kf1_set] at hi hi'
      exact hb (Fin.ext ((mem_src1.mp hi).2.symm.trans (mem_src1.mp hi').2)))
    kfTop kf1_cover (q := fullShare) f
theorem kfTop_disj : Disjoint kfTop kfRest := Finset.disjoint_left.mpr fun i hi hi' => (Finset.mem_filter.mp hi').2 (Finset.mem_filter.mp hi).2
theorem kfTop_union : (kfTop ∪ kfRest : Finset S2x256x2048.Idx) = kfM.view.set :=
  (Finset.filter_union_filter_not_eq (fun i : S2x256x2048.Idx => (i 1).val < 128) Finset.univ).trans (View.set_whole cc0_stg2_0).symm
theorem kf1_cut (c : Dev nD) (f : S2x256x2048.Idx → Elt F .i8) :
    pt c kfM fullShare f ⊣⊢ iprop((kfM.view.loc (c : Thread nD τ) ↦[kfTop]{fullShare} f) ∗ (kfM.view.loc (c : Thread nD τ) ↦[kfRest]{fullShare} f)) := by
  have hu := kfTop_union
  have hdj := kfTop_disj
  unfold pt
  rw [← hu]
  exact pointsTo_union hdj

theorem vf1_set (d : Dev nD) : (src1 vfM d).view.set = (src1R d).set := View.set_slice_whole cc0_stg3_0 _
/-- The rows of device 1's array that no copy reads. -/
def vfRest : Finset S2x256x2048.Idx := Finset.univ.filter fun i => ¬ (i 1).val < 128
def vfTop : Finset S2x256x2048.Idx := Finset.univ.filter fun i => (i 1).val < 128
theorem vf1_cover : (Finset.univ : Finset (Dev nD)).biUnion (fun d : Dev nD => ((src1 vfM d).view.set : Finset S2x256x2048.Idx)) = vfTop := by
  refine Finset.ext fun i => ⟨fun h => ?_, fun h => ?_⟩
  · obtain ⟨d, -, hd⟩ := Finset.mem_biUnion.mp h
    exact Finset.mem_filter.mpr ⟨Finset.mem_univ _, (mem_src1.mp ((vf1_set d).le hd)).1⟩
  · obtain ⟨d, hd⟩ : ∃ d : Dev nD, (i 2).val / 256 = d.val :=
      ⟨⟨(i 2).val / 256, by have h : (i 2).val < 2048 := (i 2).isLt; show _ < 8; omega⟩, rfl⟩
    exact Finset.mem_biUnion.mpr ⟨d, Finset.mem_univ _, (Finset.ext_iff.mp (vf1_set d) i).mpr (mem_src1.mpr ⟨(Finset.mem_filter.mp h).2, hd⟩)⟩
theorem vf1_top (c : Dev nD) (f : S2x256x2048.Idx → Elt F .i8) :
    (vfM.view.loc (c : Thread nD τ) ↦[vfTop]{fullShare} f : sProp 𝕄) = bigSep Finset.univ fun d : Dev nD => pt c (src1 vfM d) fullShare f := by
  classical
  exact Ring.pointsTo_sub_blocks (ℓ := vfM.view.loc (c : Thread nD τ)) (fun d : Dev nD => (src1 vfM d).view.set)
    (fun b b' hb => Finset.disjoint_left.mpr fun i hi hi' => by
      rw [vf1_set] at hi hi'
      exact hb (Fin.ext ((mem_src1.mp hi).2.symm.trans (mem_src1.mp hi').2)))
    vfTop vf1_cover (q := fullShare) f
theorem vfTop_disj : Disjoint vfTop vfRest := Finset.disjoint_left.mpr fun i hi hi' => (Finset.mem_filter.mp hi').2 (Finset.mem_filter.mp hi).2
theorem vfTop_union : (vfTop ∪ vfRest : Finset S2x256x2048.Idx) = vfM.view.set :=
  (Finset.filter_union_filter_not_eq (fun i : S2x256x2048.Idx => (i 1).val < 128) Finset.univ).trans (View.set_whole cc0_stg3_0).symm
theorem vf1_cut (c : Dev nD) (f : S2x256x2048.Idx → Elt F .i8) :
    pt c vfM fullShare f ⊣⊢ iprop((vfM.view.loc (c : Thread nD τ) ↦[vfTop]{fullShare} f) ∗ (vfM.view.loc (c : Thread nD τ) ↦[vfRest]{fullShare} f)) := by
  have hu := vfTop_union
  have hdj := vfTop_disj
  unfold pt
  rw [← hu]
  exact pointsTo_union hdj

end Cert.KernelIdeal.Hand

end
-- ==== Proof.I.Front.lean ====
/-
  MEETING AT THE BARRIER, and the copies of keys and values: each device signals the seven others, waits for seven signals,
  and devices 0 and 1 then start their copies and keep their own slices; every device loads its queries.
-/
module

public import proofs.«01_k».proof.Proof.I.KW
public import proofs.«01_k».proof.Proof.I.Split

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-! ## A part of the state taken out and put back -/

theorem put_only {P P' : sProp 𝕄} : P ⊢ iprop(P ∗ (P' -∗ P')) := by
  iintro H; isplitl [H]; · iexact H
  iintro H; iexact H
theorem put_here {P P' Z : sProp 𝕄} : iprop(P ∗ Z) ⊢ iprop(P ∗ (P' -∗ P' ∗ Z)) := by
  iintro ⟨H, HZ⟩; isplitl [H]; · iexact H
  iintro H; isplitl [H]; · iexact H
  iexact HZ
theorem put_l {P P' X X' Z : sProp 𝕄} (h : X ⊢ iprop(P ∗ (P' -∗ X'))) : iprop(X ∗ Z) ⊢ iprop(P ∗ (P' -∗ X' ∗ Z)) := by
  iintro ⟨H, HZ⟩
  ihave H := h $$ H
  icases H with ⟨H, Hb⟩
  isplitl [H]; · iexact H
  iintro H; isplitl [H Hb]; · iapply Hb; iexact H
  iexact HZ
theorem put_r {P P' X Z Z' : sProp 𝕄} (h : Z ⊢ iprop(P ∗ (P' -∗ Z'))) : iprop(X ∗ Z) ⊢ iprop(P ∗ (P' -∗ X ∗ Z')) := by
  iintro ⟨HX, H⟩
  ihave H := h $$ H
  icases H with ⟨H, Hb⟩
  isplitl [H]; · iexact H
  iintro H; isplitl [HX]; · iexact HX
  iapply Hb; iexact H

/-- A load of a buffer at hand with unknown contents. -/
theorem wp_ldx {c : Dev nD} {sp : CoreSpace} {s : Shape} {e : EltTy} {m : Memref sig .tc sp s e} {r : LoadRect s} {hl : m.view.LoadsAt r}
    {S : Finset (Idx (m.view.loc (c : Thread nD τ)))} {q : PosShare TreeShare} (hS : m.view.setOn r.set ⊆ S) {Fr : sProp 𝕄}
    (hget : Fr ⊢ iprop((∃ f, m.view.loc (c : Thread nD τ) ↦[S]{q} f) ∗ ((∃ f, m.view.loc (c : Thread nD τ) ↦[S]{q} f) -∗ Fr)))
    {α : Type} {K : (r.shape.Idx → Elt F e) → Prog (TpuEff nD τ sig (Elt F) Λ₀ .tc) α} {Q : α → sProp 𝕄} (h : ∀ w, Fr ⊢ WP c (K w) Q) :
    Fr ⊢ WP c (Prog.lift (.load m r hl) >>= K) Q := by
  refine wp_ld_any (S := S) (q := q) hS ?_ h
  iintro H
  ihave H := hget $$ H
  icases H with ⟨⟨%f, H⟩, Hb⟩
  iexists f
  isplitl [H]; · iexact H
  iintro H
  iapply Hb
  iexists f; iexact H

/-- A store that leaves known contents, over unknown ones. -/
theorem wp_stx {c : Dev nD} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {S : Finset (Idx ((m.access r).loc (c : Thread nD τ)))} (hS : S = (m.access r).set)
    {G : Buf (Elt F) ((m.access r).loc (c : Thread nD τ))} (hG : (m.access r).read (Elt F) G = w) {Fr Fr' : sProp 𝕄}
    (hget : Fr ⊢ iprop((∃ f, (m.access r).loc (c : Thread nD τ) ↦[S]{fullShare} f)
      ∗ (((m.access r).loc (c : Thread nD τ) ↦[S]{fullShare} G) -∗ Fr')))
    {α : Type} {K : PUnit → Prog (TpuEff nD τ sig (Elt F) Λ₀ .tc) α} {Q : α → sProp 𝕄} (h : Fr' ⊢ WP c (K ⟨⟩) Q) :
    Fr ⊢ WP c (Prog.lift (.store m r w Finset.univ hx hm) >>= K) Q := by
  refine wp_st (S := S) (by rw [hS, View.setOn_univ]) ?_ h
  iintro H
  ihave H := hget $$ H
  icases H with ⟨⟨%f, H⟩, Hb⟩
  iexists f
  isplitl [H]; · iexact H
  iintro H
  iapply Hb
  iapply (Entails.of_eq (pointsTo_congr (q := fullShare) (fun i hi => write_eq_of_read (m.access r) f G w hG i (hS ▸ hi))))
  iexact H

theorem wp_dev {c : Dev nD} {Fr : sProp 𝕄} {α : Type} {K : Dev nD → Prog (TpuEff nD τ sig (Elt F) Λ₀ .tc) α} {Q : α → sProp 𝕄}
    (h : Fr ⊢ WP c (K c) Q) : Fr ⊢ WP c (Prog.lift .deviceId >>= K) Q := by
  change _ ⊢ WP c (.op .deviceId K) Q
  rw [WP_eq] at h ⊢
  rw [wp_deviceId]
  exact h

/-! ## The signals -/

abbrev Tb (c k : Dev nD) : CellTallies nD τ sig Unit := Tbar c (c + k)

theorem part19 (c : Dev nD) (R : CellTallies nD τ sig Unit) (Q : _ → sProp 𝕄) :
    iprop((C0 A κ c ∗ prg (bPre (F := F) c) (bPost (F := F)) 1 ∗ owesX (F := F) c (rem (Tb c) 1 + R))
      ∗ (prg (bPre (F := F) c) (bPost (F := F)) 6 ∗ owesX (F := F) c (rem (Tb c) 6 + R)
        -∗ Q ⟨c, wd c, SemArray.scalar (sig.barrier 0 rfl), Scalar.addi (wd c) 6#32, 8#32⟩))
    ⊢ WP c (k0_part19 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [k0_part19_eq_skeleton]
  unfold k0_part19_skel
  refine wp_dev ?_
  refine chain (signal_step A κ c 1 (by decide) (n := ⟨k0_dev1 c, k0_dev1_lt c⟩) (Fin.ext (k0_dev1_eq c)) 1 2 rfl rfl R) ?_
  refine chain (signal_step A κ c 2 (by decide) (n := ⟨k0_dev2 c, k0_dev2_lt c⟩) (Fin.ext (k0_dev2_eq c)) 2 3 rfl rfl R) ?_
  refine chain (signal_step A κ c 3 (by decide) (n := ⟨k0_dev3 c, k0_dev3_lt c⟩) (Fin.ext (k0_dev3_eq c)) 3 4 rfl rfl R) ?_
  refine chain (signal_step A κ c 4 (by decide) (n := ⟨k0_dev4 c, k0_dev4_lt c⟩) (Fin.ext (k0_dev4_eq c)) 4 5 rfl rfl R) ?_
  refine chain (signal_step A κ c 5 (by decide) (n := ⟨k0_dev5 c, k0_dev5_lt c⟩) (Fin.ext (k0_dev5_eq c)) 5 6 rfl rfl R) ?_
  exact chain_ret

end Cert.KernelIdeal.Hand

end
-- ==== Proof.I.KvState.lean ====
/-
  WHAT A DEVICE HOLDS OF KEYS AND VALUES from the barrier to the start of its attention: devices 0 and 1 send, the others
  only receive.
-/
module

public import proofs.«01_k».proof.Proof.I.Front

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

theorem bigSep_but (Φ : Dev nD → sProp 𝕄) (c : Dev nD) :
    bigSep Finset.univ (fun d => if c = d then iprop(emp) else Φ d) = bigSep (Finset.univ.erase c) Φ := by
  rw [bigSep_take c, if_pos rfl]
  refine Eq.trans (emp_sep_eq _) ?_
  exact bigSep_congr fun d hd => if_neg (Ne.symm (Finset.mem_erase.mp hd).1)

variable {A} in
theorem prg_sPre {c : Dev nD} {s : Shape} {e : EltTy} (S : SF A c s e) :
    bigSep (Finset.univ.erase c) (fun d => iprop(pt c (S.v₁ d) (S.q d) (S.f₁ d) ∗ anyPt (F := F) d S.v₂ ∗ tok (F := F) c (S.k₁ d) ∗ tok (F := F) d S.k₂))
      ⊢ prg (sPre S) (sPost S) 0 := by
  rw [prg_zero, ← bigSep_but]
  exact Entails.of_eq rfl

/-- By device: the first of the three on device 0, the second on device 1, the third on the others. -/
def kvSt (c : Dev nD) (X0 X1 Xn : sProp 𝕄) : sProp 𝕄 := if c.val = 0 then X0 else if c.val = 1 then X1 else Xn

theorem kvSt_0 (X0 X1 Xn : sProp 𝕄) : kvSt 0 X0 X1 Xn = X0 := if_pos rfl
theorem kvSt_1 (X0 X1 Xn : sProp 𝕄) : kvSt 1 X0 X1 Xn = X1 := (if_neg (by decide)).trans (if_pos rfl)
theorem kvSt_n {c : Dev nD} (h0 : c ≠ 0) (h1 : c ≠ 1) (X0 X1 Xn : sProp 𝕄) : kvSt c X0 X1 Xn = Xn :=
  (if_neg fun h => h0 (Fin.ext h)).trans (if_neg fun h => h1 (Fin.ext h))
theorem kvSt_cases (c : Dev nD) {P : Dev nD → Prop} (h0 : P 0) (h1 : P 1) (hn : ∀ c, c ≠ 0 → c ≠ 1 → P c) : P c := by
  by_cases h : c = 0
  · subst h; exact h0
  · by_cases h' : c = 1
    · subst h'; exact h1
    · exact hn c h h'

/-- The landing places on device `d` of the copies of device `e`. -/
def KD (d e : Dev nD) : sProp 𝕄 :=
  if e.val = 0 then iprop(anyPt (F := F) d (dst0 kM) ∗ anyPt (F := F) d (dst0 vM))
  else if e.val = 1 then iprop(anyPt (F := F) d (dst1 kM) ∗ anyPt (F := F) d (dst1 vM)) else iprop(emp)

/-- The rights to pay that device `c` uses for its copies of keys and values. -/
def kvTok (c : Dev nD) : sProp 𝕄 :=
  kvSt c (bigSep (Finset.univ.erase 0) fun d => iprop((tok (F := F) 0 (.inl (d, 0)) ∗ tok (F := F) d (.inr (.inl (0, 0)))) ∗ (tok (F := F) 0 (.inl (d, 1)) ∗ tok (F := F) d (.inr (.inl (0, 1))))))
    (bigSep (Finset.univ.erase 1) fun d => iprop((tok (F := F) 1 (.inl (d, 0)) ∗ tok (F := F) d (.inr (.inl (1, 0)))) ∗ (tok (F := F) 1 (.inl (d, 1)) ∗ tok (F := F) d (.inr (.inl (1, 1))))))
    iprop(emp)

/-- Device 0's own slices, before and after it stores them. -/
def own0 : sProp 𝕄 := iprop(pt 0 (src0 kfM 0) fullShare (A.kf 0) ∗ pt 0 (src0 vfM 0) fullShare (A.vf 0) ∗ anyPt (F := F) 0 (dst0 kM) ∗ anyPt (F := F) 0 (dst0 vM))
def own0' : sProp 𝕄 := iprop(pt 0 (src0 kfM 0) fullShare (A.kf 0) ∗ pt 0 (src0 vfM 0) fullShare (A.vf 0) ∗ pt 0 (dst0 kM) fullShare (KB A 0) ∗ pt 0 (dst0 vM) fullShare (VB A 0))
/-- The rows of device 1's keys and values that no copy reads. -/
def rest1 : sProp 𝕄 := iprop((kfM.view.loc ((1 : Dev nD) : Thread nD τ) ↦[kfRest]{fullShare} A.kf 1) ∗ (vfM.view.loc ((1 : Dev nD) : Thread nD τ) ↦[vfRest]{fullShare} A.vf 1))
/-- Device 1's likewise. -/
def own1 : sProp 𝕄 := iprop(pt 1 (src1 kfM 1) fullShare (A.kf 1) ∗ pt 1 (src1 vfM 1) fullShare (A.vf 1) ∗ anyPt (F := F) 1 (dst1 kM) ∗ anyPt (F := F) 1 (dst1 vM) ∗ rest1 A)
def own1' : sProp 𝕄 := iprop(pt 1 (src1 kfM 1) fullShare (A.kf 1) ∗ pt 1 (src1 vfM 1) fullShare (A.vf 1) ∗ pt 1 (dst1 kM) fullShare (KB A 1) ∗ pt 1 (dst1 vM) fullShare (VB A 1) ∗ rest1 A)

/-- The staged keys and values whole. -/
def src (c : Dev nD) : sProp 𝕄 := iprop(pt c kfM fullShare (A.kf c) ∗ pt c vfM fullShare (A.vf c))

/-- What the copies of keys and values owe, and the rest. -/
def kvO (c : Dev nD) (R : CellTallies nD τ sig Unit) : CellTallies nD τ sig Unit := rem (Tkv c 0) 0 + (rem (Tkv c 1) 0 + R)

theorem kvO_n {c : Dev nD} (h0 : c ≠ 0) (h1 : c ≠ 1) (R : CellTallies nD τ sig Unit) : kvO c R = R := by
  have h : ∀ t, rem (Tkv c t) 0 = 0 := fun t => by
    rw [rem_zero]
    refine Finset.sum_eq_zero fun d _ => ?_
    unfold Tkv
    exact (if_neg fun h => h0 (Fin.ext h)).trans (if_neg fun h => h1 (Fin.ext h))
  unfold kvO
  rw [h, h, zero_add, zero_add]

theorem KD_0 (d : Dev nD) : KD (F := F) d 0 = iprop(anyPt (F := F) d (dst0 kM) ∗ anyPt (F := F) d (dst0 vM)) := if_pos rfl

theorem enter0 (R : CellTallies nD τ sig Unit) :
    iprop(kvTok (F := F) 0 ∗ src A 0 ∗ KD (F := F) 0 0 ∗ bigSep (Finset.univ.erase 0) (fun d => KD (F := F) d 0) ∗ owesX (F := F) 0 (kvO 0 R))
      ⊢ iprop(KS0 A 0 0 R ∗ own0 A) := by
  unfold kvTok src KS0 own0 kvO
  rw [kvSt_0, KD_0, bigSep_congr (Φ := fun d => KD (F := F) d 0) (fun d _ => KD_0 d), bigSep_sep', bigSep_sep', bigSep_sep', bigSep_sep']
  rw [kf0_eq, vf0_eq, bigSep_take (Φ := fun d => pt 0 (src0 kfM d) fullShare (A.kf 0)) 0, bigSep_take (Φ := fun d => pt 0 (src0 vfM d) fullShare (A.vf 0)) 0]
  iintro ⟨⟨⟨Ha, Hb⟩, ⟨Hc, Hd⟩⟩, ⟨⟨HK0, HK⟩, ⟨HV0, HV⟩⟩, ⟨Ho, Ho'⟩, ⟨HL, HL'⟩, HO⟩
  isplitl [Ha Hb Hc Hd HK HV HL HL' HO]
  · isplitl [Ha Hb HK HL]
    · iapply (prg_sPre (kF0 A))
      rw [bigSep_sep', bigSep_sep', bigSep_sep']
      isplitl [HK]; · iexact HK
      isplitl [HL]; · iexact HL
      isplitl [Ha]; · iexact Ha
      iexact Hb
    isplitl [Hc Hd HV HL']
    · iapply (prg_sPre (vF0 A))
      rw [bigSep_sep', bigSep_sep', bigSep_sep']
      isplitl [HV]; · iexact HV
      isplitl [HL']; · iexact HL'
      isplitl [Hc]; · iexact Hc
      iexact Hd
    iexact HO
  isplitl [HK0]; · iexact HK0
  isplitl [HV0]; · iexact HV0
  isplitl [Ho]; · iexact Ho
  iexact Ho'

theorem KD_1 (d : Dev nD) : KD (F := F) d 1 = iprop(anyPt (F := F) d (dst1 kM) ∗ anyPt (F := F) d (dst1 vM)) := (if_neg (by decide)).trans (if_pos rfl)

theorem enter1 (R : CellTallies nD τ sig Unit) :
    iprop(kvTok (F := F) 1 ∗ src A 1 ∗ KD (F := F) 1 1 ∗ bigSep (Finset.univ.erase 1) (fun d => KD (F := F) d 1) ∗ owesX (F := F) 1 (kvO 1 R))
      ⊢ iprop(KS1 A 0 0 R ∗ own1 A) := by
  unfold kvTok src KS1 own1 kvO
  rw [kvSt_1, KD_1, bigSep_congr (Φ := fun d => KD (F := F) d 1) (fun d _ => KD_1 d), bigSep_sep', bigSep_sep', bigSep_sep', bigSep_sep']
  iintro ⟨⟨⟨Ha, Hb⟩, ⟨Hc, Hd⟩⟩, ⟨HKw, HVw⟩, ⟨Ho, Ho'⟩, ⟨HL, HL'⟩, HO⟩
  ihave HKw := (kf1_cut 1 (A.kf 1)).1 $$ HKw
  icases HKw with ⟨HK, HKr⟩
  ihave HK := (Entails.of_eq ((kf1_top 1 (A.kf 1)).trans (bigSep_take (Φ := fun d => pt 1 (src1 kfM d) fullShare (A.kf 1)) 1))) $$ HK
  icases HK with ⟨HK0, HK⟩
  ihave HVw := (vf1_cut 1 (A.vf 1)).1 $$ HVw
  icases HVw with ⟨HV, HVr⟩
  ihave HV := (Entails.of_eq ((vf1_top 1 (A.vf 1)).trans (bigSep_take (Φ := fun d => pt 1 (src1 vfM d) fullShare (A.vf 1)) 1))) $$ HV
  icases HV with ⟨HV0, HV⟩
  isplitl [Ha Hb Hc Hd HK HV HL HL' HO]
  · isplitl [Ha Hb HK HL]
    · iapply (prg_sPre (kF1 A))
      rw [bigSep_sep', bigSep_sep', bigSep_sep']
      isplitl [HK]; · iexact HK
      isplitl [HL]; · iexact HL
      isplitl [Ha]; · iexact Ha
      iexact Hb
    isplitl [Hc Hd HV HL']
    · iapply (prg_sPre (vF1 A))
      rw [bigSep_sep', bigSep_sep', bigSep_sep']
      isplitl [HV]; · iexact HV
      isplitl [HL']; · iexact HL'
      isplitl [Hc]; · iexact Hc
      iexact Hd
    iexact HO
  isplitl [HK0]; · iexact HK0
  isplitl [HV0]; · iexact HV0
  isplitl [Ho]; · iexact Ho
  isplitl [Ho']; · iexact Ho'
  unfold rest1
  isplitl [HKr]; · iexact HKr
  iexact HVr

/-- Before the copies of keys and values: all that a device needs for them; -/
theorem enter (c : Dev nD) (R : CellTallies nD τ sig Unit) :
    iprop(kvTok (F := F) c ∗ src A c ∗ KD (F := F) c c ∗ bigSep (Finset.univ.erase c) (fun d => KD (F := F) d c) ∗ owesX (F := F) c (kvO c R))
      ⊢ kvSt c iprop(KS0 A 0 0 R ∗ own0 A) iprop(KS1 A 0 0 R ∗ own1 A) iprop(src A c ∗ owesX (F := F) c R) := by
  refine kvSt_cases (P := fun c => iprop(kvTok (F := F) c ∗ src A c ∗ KD (F := F) c c ∗ bigSep (Finset.univ.erase c) (fun d => KD (F := F) d c) ∗ owesX (F := F) c (kvO c R))
      ⊢ kvSt c iprop(KS0 A 0 0 R ∗ own0 A) iprop(KS1 A 0 0 R ∗ own1 A) iprop(src A c ∗ owesX (F := F) c R)) c ?_ ?_ ?_
  · rw [kvSt_0]; exact enter0 A R
  · rw [kvSt_1]; exact enter1 A R
  · intro c h0 h1
    rw [kvSt_n h0 h1, kvO_n h0 h1]
    iintro ⟨-, HS, -, -, HO⟩
    isplitl [HS]; · iexact HS
    iexact HO

/-- The credits of a sender's copies. -/
def kvCr (c : Dev nD) : sProp 𝕄 := iprop(bigSep Finset.univ (fun d : Dev nD => crd (F := F) c (.inl (d, 0))) ∗ bigSep Finset.univ (fun d : Dev nD => crd (F := F) c (.inl (d, 1))))

/-- after them. -/
def kvMid (c : Dev nD) : sProp 𝕄 := kvSt c iprop(kvCr (F := F) 0 ∗ own0' A) iprop(kvCr (F := F) 1 ∗ own1' A) (src A c)

theorem leave (c : Dev nD) (R : CellTallies nD τ sig Unit) :
    kvSt c iprop(KS0 A 8 8 R ∗ own0' A) iprop(KS1 A 8 8 R ∗ own1' A) iprop(src A c ∗ owesX (F := F) c R) ⊢ iprop(kvMid A c ∗ owesX (F := F) c R) := by
  refine kvSt_cases (P := fun c => kvSt c iprop(KS0 A 8 8 R ∗ own0' A) iprop(KS1 A 8 8 R ∗ own1' A) iprop(src A c ∗ owesX (F := F) c R) ⊢ iprop(kvMid A c ∗ owesX (F := F) c R)) c ?_ ?_ ?_
  · unfold kvMid KS0 kvCr
    rw [kvSt_0, kvSt_0, prg_last, prg_last, rem_last, rem_last, zero_add, zero_add]
    iintro ⟨⟨HK, HV, HO⟩, Ho⟩
    isplitl [HK HV Ho]
    · isplitl [HK HV]
      · isplitl [HK]; · iexact HK
        iexact HV
      iexact Ho
    iexact HO
  · unfold kvMid KS1 kvCr
    rw [kvSt_1, kvSt_1, prg_last, prg_last, rem_last, rem_last, zero_add, zero_add]
    iintro ⟨⟨HK, HV, HO⟩, Ho⟩
    isplitl [HK HV Ho]
    · isplitl [HK HV]
      · isplitl [HK]; · iexact HK
        iexact HV
      iexact Ho
    iexact HO
  · intro c h0 h1
    unfold kvMid
    rw [kvSt_n h0 h1, kvSt_n h0 h1]

end Cert.KernelIdeal.Hand

end
-- ==== Proof.I.Start.lean ====
/-
  FROM THE BARRIER TO THE FIRST LOADS: the seven signals received, the copies of keys and values started, the queries loaded.
-/
module

public import proofs.«01_k».proof.Proof.I.KvState

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-- The inputs only this device reads. -/
def ins (c : Dev nD) : sProp 𝕄 := iprop(pt c xM fullShare (A.x c) ∗ pt c wqM fullShare (A.wq c) ∗ pt c woM fullShare (A.wo c))

/-- The barrier before the wait. -/
def barIn (c : Dev nD) : sProp 𝕄 := iprop(cred (tallyAt (barCell c) () 7) ∗ atPos ER (barCell c) 0 ∅ 0)
/-- The landing places on the other devices of this device's later copies. -/
def landR (c : Dev nD) : sProp 𝕄 := bigSep (Finset.univ.erase c) fun d => anyPt (F := F) d (slot rM c)
def landG (c : Dev nD) : sProp 𝕄 := bigSep (Finset.univ.erase c) fun d => anyPt (F := F) d (slot gM c)
def barOut (c : Dev nD) : sProp 𝕄 := iprop(atPos ER (barCell c) 1 ∅ 0 ∗ landR (F := F) c ∗ landG (F := F) c)

theorem Share_eq (c e : Dev nD) : Share (F := F) c e = iprop(anyPt (F := F) c (slot rM e) ∗ anyPt (F := F) c (slot gM e) ∗ KD (F := F) c e) := rfl

/-- What the seven others hand over. -/
theorem met (c : Dev nD) : iprop(C0 A κ c ∗ bigSep (Finset.univ.erase c) (fun d => barPay (F := F) c d))
    ⊢ iprop(CC A κ ∗ (landR (F := F) c ∗ landG (F := F) c) ∗ bigSep (Finset.univ.erase c) (fun d => KD (F := F) d c)) := by
  unfold C0 CC landR landG reachEv
  rw [bigSep_congr (Φ := fun d => barPay (F := F) c d) (Ψ := fun d => iprop((anyPt (F := F) d (slot rM c) ∗ anyPt (F := F) d (slot gM c) ∗ KD (F := F) d c) ∗ reachAll (F := F) d)) (fun d _ => rfl),
    bigSep_sep', bigSep_sep', bigSep_sep', bigSep_take (Φ := fun d => reachAll (F := F) d) c]
  iintro ⟨⟨HC, Hr⟩, ⟨H1, H2, H3⟩, H4⟩
  isplitl [HC Hr H4]
  · isplitl [HC]; · iexact HC
    isplitl [Hr]; · iexact Hr
    iexact H4
  isplitl [H1 H2]
  · isplitl [H1]; · iexact H1
    iexact H2
  iexact H3

theorem regroup {C P W Z : sProp 𝕄} : iprop((C ∗ P ∗ W) ∗ Z) ⊢ iprop((C ∗ P) ∗ W ∗ Z) := by
  iintro ⟨⟨HC, HP, HW⟩, HZ⟩
  isplitl [HC HP]
  · isplitl [HC]; · iexact HC
    iexact HP
  isplitl [HW]; · iexact HW
  iexact HZ

theorem whole_sub {b : Ref sig .tc} (T : Finset (Memref.whole b).view.ty.Idx) : T ⊆ (Memref.whole b).view.set := by
  rw [View.set_whole]; exact Finset.subset_univ _

theorem kvSt_congr0 {c : Dev nD} (h : c ≠ 0) (X X' Y Z : sProp 𝕄) : kvSt c X Y Z = kvSt c X' Y Z := by
  unfold kvSt
  rw [if_neg (show ¬ c.val = 0 from fun e => h (Fin.ext e)), if_neg (show ¬ c.val = 0 from fun e => h (Fin.ext e))]
theorem kf_sub0 (d : Dev nD) : kfM.view.setOn (src0R d).toLoadRect.set ⊆ (src0 kfM d).view.set := by
  rw [show (src0 kfM d).view.set = _ from View.set_slice kfM.view (src0R d)]
  exact Finset.Subset.refl _
theorem vf_sub0 (d : Dev nD) : vfM.view.setOn (src0R d).toLoadRect.set ⊆ (src0 vfM d).view.set := by
  rw [show (src0 vfM d).view.set = _ from View.set_slice vfM.view (src0R d)]
  exact Finset.Subset.refl _
theorem k_sub0 : kM.view.setOn dst0R.toLoadRect.set ⊆ (dst0 kM).view.set := by
  rw [show (dst0 kM).view.set = _ from View.set_slice kM.view dst0R]
  exact Finset.Subset.refl _
theorem v_sub0 : vM.view.setOn dst0R.toLoadRect.set ⊆ (dst0 vM).view.set := by
  rw [show (dst0 vM).view.set = _ from View.set_slice vM.view dst0R]
  exact Finset.Subset.refl _
theorem kvSt_congr1 {c : Dev nD} (h : c ≠ 1) (X X' Y Z : sProp 𝕄) : kvSt c Y X Z = kvSt c Y X' Z := by
  unfold kvSt
  rw [if_neg (show ¬ c.val = 1 from fun e => h (Fin.ext e)), if_neg (show ¬ c.val = 1 from fun e => h (Fin.ext e))]
theorem kf_sub1 (d : Dev nD) : kfM.view.setOn (src1R d).toLoadRect.set ⊆ (src1 kfM d).view.set := by
  rw [show (src1 kfM d).view.set = _ from View.set_slice kfM.view (src1R d)]
  exact Finset.Subset.refl _
theorem vf_sub1 (d : Dev nD) : vfM.view.setOn (src1R d).toLoadRect.set ⊆ (src1 vfM d).view.set := by
  rw [show (src1 vfM d).view.set = _ from View.set_slice vfM.view (src1R d)]
  exact Finset.Subset.refl _
theorem k_sub1 : kM.view.setOn dst1R.toLoadRect.set ⊆ (dst1 kM).view.set := by
  rw [show (dst1 kM).view.set = _ from View.set_slice kM.view dst1R]
  exact Finset.Subset.refl _
theorem v_sub1 : vM.view.setOn dst1R.toLoadRect.set ⊆ (dst1 vM).view.set := by
  rw [show (dst1 vM).view.set = _ from View.set_slice vM.view dst1R]
  exact Finset.Subset.refl _

/-- Before the second part of the body. -/
def st20 (c : Dev nD) (R : CellTallies nD τ sig Unit) : sProp 𝕄 :=
  iprop(prg (bPre (F := F) c) (bPost (F := F)) 6 ∗ owesX (F := F) c (rem (Tb c) 6 + kvO c R))
def fr20 (c : Dev nD) : sProp 𝕄 := iprop(barIn (F := F) c ∗ (kvTok (F := F) c ∗ src A c ∗ KD (F := F) c c) ∗ ins A c)

set_option maxHeartbeats 1000000 in
theorem part20 (c : Dev nD) (R : CellTallies nD τ sig Unit) (hR : Above 1 (kvO c R)) (Q : _ → sProp 𝕄) :
    iprop((C0 A κ c ∗ st20 (F := F) c R) ∗ fr20 A c
      ∗ (CC A κ -∗ barOut (F := F) c -∗ kvMid A c -∗ owesX (F := F) c R -∗ ins A c
        -∗ Q ⟨k0_pay5 (xld0 A c) (wqld A c), k0_pay6 (xld1 A c) (wqld A c), Scalar.extui (Scalar.cmpi .ne (wd c) 0#32), 0#32⟩))
    ⊢ WP c (k0_part20 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c (wd c) (SemArray.scalar (sig.barrier 0 rfl)) (Scalar.addi (wd c) 6#32) 8#32) Q := by
  rw [k0_part20_eq_skeleton]
  unfold k0_part20_skel
  unfold st20
  refine chain (signal_step A κ c 6 (by decide) (n := ⟨k0_dev6 c, k0_dev6_lt c⟩) (Fin.ext (k0_dev6_eq c)) 6 7 rfl rfl (kvO c R)) ?_
  refine chain (signal_step A κ c 7 (by decide) (n := ⟨k0_dev7 c, k0_dev7_lt c⟩) (Fin.ext (k0_dev7_eq c)) 7 8 rfl rfl (kvO c R)) ?_
  rw [rem_last, zero_add]
  refine recast (P' := iprop((C0 A κ c ∗ barIn (F := F) c ∗ owesX (F := F) c (kvO c R)) ∗ ((kvTok (F := F) c ∗ src A c ∗ KD (F := F) c c) ∗ ins A c)
      ∗ (CC A κ -∗ barOut (F := F) c -∗ kvMid A c -∗ owesX (F := F) c R -∗ ins A c
        -∗ Q ⟨k0_pay5 (xld0 A c) (wqld A c), k0_pay6 (xld1 A c) (wqld A c), Scalar.extui (Scalar.cmpi .ne (wd c) 0#32), 0#32⟩))) ?_ ?_
  · unfold fr20
    iintro ⟨⟨HC, -, HO⟩, ⟨HB, HK, HI⟩, HQ⟩
    isplitl [HC HB HO]
    · isplitl [HC]; · iexact HC
      isplitl [HB]; · iexact HB
      iexact HO
    isplitl [HK HI]
    · isplitl [HK]; · iexact HK
      iexact HI
    iexact HQ
  unfold barIn
  refine chain (barrier_wait A κ c hR) ?_
  refine recast (P' := iprop((CC A κ ∗ kvSt c iprop(KS0 A 0 0 R ∗ own0 A) iprop(KS1 A 0 0 R ∗ own1 A) iprop(src A c ∗ owesX (F := F) c R))
      ∗ (barOut (F := F) c ∗ ins A c)
      ∗ (CC A κ -∗ barOut (F := F) c -∗ kvMid A c -∗ owesX (F := F) c R -∗ ins A c
        -∗ Q ⟨k0_pay5 (xld0 A c) (wqld A c), k0_pay6 (xld1 A c) (wqld A c), Scalar.extui (Scalar.cmpi .ne (wd c) 0#32), 0#32⟩))) ?_ ?_
  · iintro ⟨⟨HC, ⟨Hat, HB⟩, HO⟩, ⟨⟨Ht, Hs, HK⟩, HI⟩, HQ⟩
    ihave HM := (met A κ c) $$ [HC HB]
    · isplitl [HC]; · iexact HC
      iexact HB
    icases HM with ⟨HC, ⟨HR, HG⟩, HD⟩
    isplitl [HC Ht Hs HK HD HO]
    · isplitl [HC]; · iexact HC
      iapply (enter A c R)
      isplitl [Ht]; · iexact Ht
      isplitl [Hs]; · iexact Hs
      isplitl [HK]; · iexact HK
      isplitl [HD]; · iexact HD
      iexact HO
    isplitl [Hat HR HG HI]
    · isplitl [Hat HR HG]
      · unfold barOut
        isplitl [Hat]; · iexact Hat
        isplitl [HR]; · iexact HR
        iexact HG
      iexact HI
    iexact HQ
  refine chain (wp_block _ (kvSt c iprop(KS0 A 8 8 R ∗ own0' A) iprop(KS1 A 0 0 R ∗ own1 A) iprop(src A c ∗ owesX (F := F) c R)) (fun h => ?_) (fun h => ?_)) ?_
  · obtain rfl := (cond1_iff c).mp h
    rw [kvSt_0, kvSt_0]
    refine recast regroup ?_
    refine recastP (skip0 A R) ?_
    refine chain (part_bind (part1 A κ h R)) ?_
    refine chain (part_bind (part2 A κ h R)) ?_
    refine chain (part_bind (part3 A κ h R)) ?_
    refine chain (part_bind (part4 A κ h R)) ?_
    refine chain (part_bind (part5 A κ h R)) ?_
    refine chain (vstep0 A κ 7 (by decide) (n := ⟨k0_dev21, k0_dev21_lt 0 h⟩) (Fin.ext k0_dev21_eq) (kvS_of 7 1 ![7, 1] rfl inb_S8x2_S1x1_7_1)
      (kvR_of 0 1 ![0, 1] rfl inb_S2x2_S1x1_0_1) (src0_of vfM 7 ![0, 0, 1792] rfl inb_S2x256x2048_S2x256x256_0_0_1792) rfl 8 7 8 rfl rfl R) ?_
    unfold own0
    refine wp_ld (S := (src0 kfM 0).view.set) (q := fullShare) (f := A.kf 0) (by exact kf_sub0 0) rfl (by exact put_r (put_l put_here)) ?_
    refine wp_ldx (S := (dst0 kM).view.set) (q := fullShare) (by exact k_sub0) (by exact put_r (put_l (put_r (put_r put_here)))) (fun _ => ?_)
    refine wp_stx (S := (dst0 kM).view.set) rfl (by exact store_K0 A) (by exact put_r (put_l (put_r (put_r put_here)))) ?_
    refine wp_ld (S := (src0 vfM 0).view.set) (q := fullShare) (f := A.vf 0) (by exact vf_sub0 0) rfl (by exact put_r (put_l (put_r put_here))) ?_
    refine wp_ldx (S := (dst0 vM).view.set) (q := fullShare) (by exact v_sub0) (by exact put_r (put_l (put_r (put_r (put_r put_only))))) (fun _ => ?_)
    refine wp_stx (S := (dst0 vM).view.set) rfl (by exact store_V0 A) (by exact put_r (put_l (put_r (put_r (put_r put_only))))) ?_
    iintro ⟨⟨-, HK⟩, HW, HQ⟩
    iapply HQ
    isplitl [HK]; · iexact HK
    unfold own0'
    iexact HW
  · have hne : c ≠ 0 := fun e => h ((cond1_iff c).mpr e)
    iintro ⟨-, H⟩
    iapply (Entails.of_eq (kvSt_congr0 hne _ _ _ _))
    iexact H
  refine chain (wp_block _ (kvSt c iprop(KS0 A 8 8 R ∗ own0' A) iprop(KS1 A 8 8 R ∗ own1' A) iprop(src A c ∗ owesX (F := F) c R)) (fun h => ?_) (fun h => ?_)) ?_
  · obtain rfl := (cond2_iff c).mp h
    rw [kvSt_1, kvSt_1]
    refine recast regroup ?_
    refine chain (part_bind (part6 A κ h R)) ?_
    refine chain (part_bind (part7 A κ h R)) ?_
    refine chain (part_bind (part8 A κ h R)) ?_
    refine chain (part_bind (part9 A κ h R)) ?_
    refine chain (part_bind (part10 A κ h R)) ?_
    refine chain (vstep1 A κ 7 (by decide) (n := ⟨k0_dev35, k0_dev35_lt 1 h⟩) (Fin.ext k0_dev35_eq) (kvS_of 7 1 ![7, 1] rfl inb_S8x2_S1x1_7_1)
      (kvR_of 1 1 ![1, 1] rfl inb_S2x2_S1x1_1_1) (src1_of vfM 7 ![0, 0, 1792] rfl inb_S2x256x2048_S2x128x256_0_0_1792) rfl 8 7 8 rfl rfl R) ?_
    unfold own1
    refine wp_ld (S := (src1 kfM 1).view.set) (q := fullShare) (f := A.kf 1) (by exact kf_sub1 1) rfl (by exact put_r (put_l put_here)) ?_
    refine wp_ldx (S := (dst1 kM).view.set) (q := fullShare) (by exact k_sub1) (by exact put_r (put_l (put_r (put_r put_here)))) (fun _ => ?_)
    refine wp_stx (S := (dst1 kM).view.set) rfl (by exact store_K1 A) (by exact put_r (put_l (put_r (put_r put_here)))) ?_
    refine wp_ld (S := (src1 vfM 1).view.set) (q := fullShare) (f := A.vf 1) (by exact vf_sub1 1) rfl (by exact put_r (put_l (put_r put_here))) ?_
    refine wp_ldx (S := (dst1 vM).view.set) (q := fullShare) (by exact v_sub1) (by exact put_r (put_l (put_r (put_r (put_r put_here))))) (fun _ => ?_)
    refine wp_stx (S := (dst1 vM).view.set) rfl (by exact store_V1 A) (by exact put_r (put_l (put_r (put_r (put_r put_here))))) ?_
    iintro ⟨⟨-, HK⟩, HW, HQ⟩
    iapply HQ
    isplitl [HK]; · iexact HK
    unfold own1'
    iexact HW
  · have hne : c ≠ 1 := fun e => h ((cond2_iff c).mpr e)
    iintro ⟨-, H⟩
    iapply (Entails.of_eq (kvSt_congr1 hne _ _ _ _))
    iexact H
  refine recast (P' := iprop((CC A κ ∗ barOut (F := F) c ∗ (kvMid A c ∗ owesX (F := F) c R)) ∗ ins A c
      ∗ (CC A κ -∗ barOut (F := F) c -∗ kvMid A c -∗ owesX (F := F) c R -∗ ins A c
        -∗ Q ⟨k0_pay5 (xld0 A c) (wqld A c), k0_pay6 (xld1 A c) (wqld A c), Scalar.extui (Scalar.cmpi .ne (wd c) 0#32), 0#32⟩))) ?_ ?_
  · iintro ⟨⟨HC, HS⟩, ⟨HB, HI⟩, HQ⟩
    isplitl [HC HS HB]
    · isplitl [HC]; · iexact HC
      isplitl [HB]; · iexact HB
      iapply (leave A c R)
      iexact HS
    isplitl [HI]; · iexact HI
    iexact HQ
  unfold ins
  refine wp_ld (S := xM.view.set) (q := fullShare) (f := A.x c) (by exact whole_sub (b := cc0_stg0_0) _) rfl (by exact put_r (put_l put_here)) ?_
  refine wp_ld (S := wqM.view.set) (q := fullShare) (f := A.wq c) (by exact whole_sub (b := cc0_stg1_0) _) rfl (by exact put_r (put_l (put_r put_here))) ?_
  refine wp_ld (S := xM.view.set) (q := fullShare) (f := A.x c) (by exact whole_sub (b := cc0_stg0_0) _) rfl (by exact put_r (put_l put_here)) ?_
  refine wp_ld (S := wqM.view.set) (q := fullShare) (f := A.wq c) (by exact whole_sub (b := cc0_stg1_0) _) rfl (by exact put_r (put_l (put_r put_here))) ?_
  iintro ⟨⟨HC, HB, HK, HO⟩, HI, HQ⟩
  iapply (wp_done c _ Q)
  iapply HQ $$ HC HB HK HO HI

end Cert.KernelIdeal.Hand

end
-- ==== Proof.I.Attn.lean ====
/-
  THE PARTIAL OUTPUT: the copies of keys and values waited for, then attention and projection of both batches.
-/
module

public import proofs.«01_k».proof.Proof.I.Start

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

variable (A : In F) (κ : GSem nD τ sig → ℕ)

/-- Two waits, in a block taken when the cells are in use. -/
theorem wait2_if (c : Dev nD) (k k' : KK) {C : Prop} [Decidable C] (hC : C ↔ act c (kdOf k) = true) (hC' : act c (kdOf k') = act c (kdOf k))
    {n n' : C → DmaSem sig} (hn : ∀ h, SemLoc.dma (n h) = osem k) (hn' : ∀ h, SemLoc.dma (n' h) = osem k')
    {s s' : Shape} {e e' : EltTy} {src dst : C → Memref sig .tc .vmem s e} {src' dst' : C → Memref sig .tc .vmem s' e'}
    {hw : ∀ h, (src h).view.WordExact} {hw₂ : ∀ h, (dst h).view.WordExact} {hw' : ∀ h, (src' h).view.WordExact} {hw₂' : ∀ h, (dst' h).view.WordExact}
    (hc : ∀ h, (dst h).view.dmaCredit = amt c (kdOf k)) (hc' : ∀ h, (dst' h).view.dmaCredit = amt c (kdOf k'))
    {O : CellTallies nD τ sig Unit} (hO : Above (lvK (kdOf k)) O) (hO' : Above (lvK (kdOf k')) O)
    {α : Type} {J : Prog (TpuEff nD τ sig (Elt F) Λ₀ .tc) α} {Q : α → sProp 𝕄} :
    iprop((CC A κ ∗ (wPre (F := F) c k ∗ wPre (F := F) c k') ∗ owesX (F := F) c O)
      ∗ ((wPost A c k ∗ wPost A c k') ∗ owesX (F := F) c O -∗ WP c J Q))
      ⊢ WP c (if h : C then waitP (waitP J (n' h) (src' h) (dst' h) (hw' h) (hw₂' h)) (n h) (src h) (dst h) (hw h) (hw₂ h) else J) Q := by
  refine wp_block _ _ (fun h => ?_) fun h => ?_
  · iintro ⟨⟨#HC, ⟨H1, H2⟩, HO⟩, Hk⟩
    iapply (wait_core A κ c k (hn h) (hC.mp h) (src := src h) (dst := dst h) (hc h) hO) $$ [H1 H2 HO Hk]
    isplitl [H1 HO]
    · isplitr; · iexact HC
      isplitl [H1]; · iexact H1
      iexact HO
    iintro ⟨H1, HO⟩
    iapply (wait_core A κ c k' (hn' h) (hC'.trans (hC.mp h)) (src := src' h) (dst := dst' h) (hc' h) hO') $$ [H1 H2 HO Hk]
    isplitl [H2 HO]
    · isplitr; · iexact HC
      isplitl [H2]; · iexact H2
      iexact HO
    iintro ⟨H2, HO⟩
    iapply Hk
    isplitl [H1 H2]
    · isplitl [H1]; · iexact H1
      iexact H2
    iexact HO
  · have ha : act c (kdOf k) = false := Bool.eq_false_iff.mpr fun h' => h (hC.mpr h')
    iintro ⟨-, ⟨H1, H2⟩, HO⟩
    isplitl [H1 H2]
    · isplitl [H1]
      · iapply (w_skip A ha); iexact H1
      iapply (w_skip A (hC'.trans ha)); iexact H2
    iexact HO

/-! ## The copies of keys and values, landed -/

abbrev kr (s t : Fin 2) : KK := .inr (.inl (s, t))
def kvIn (s : Fin 2) (c : Dev nD) : sProp 𝕄 := iprop(wPre (F := F) c (kr s 0) ∗ wPre (F := F) c (kr s 1))
def kvGot (s : Fin 2) (c : Dev nD) : sProp 𝕄 := iprop(wPost A c (kr s 0) ∗ wPost A c (kr s 1))
def kvDone (c : Dev nD) : sProp 𝕄 :=
  iprop((done (F := F) c (kr 0 0) ∗ done (F := F) c (kr 0 1)) ∗ (done (F := F) c (kr 1 0) ∗ done (F := F) c (kr 1 1)))
/-- All keys and values of the device. -/
def KVp (c : Dev nD) : sProp 𝕄 := iprop(pt c kM fullShare (KB A c) ∗ pt c vM fullShare (VB A c))
/-- What is left of the staged keys and values until the copies out of them are waited for. -/
def kvBack (c : Dev nD) : sProp 𝕄 :=
  kvSt c iprop(kvCr (F := F) 0 ∗ pt 0 (src0 kfM 0) fullShare (A.kf 0) ∗ pt 0 (src0 vfM 0) fullShare (A.vf 0))
    iprop(kvCr (F := F) 1 ∗ (pt 1 (src1 kfM 1) fullShare (A.kf 1) ∗ pt 1 (src1 vfM 1) fullShare (A.vf 1) ∗ rest1 A)) (src A c)

theorem kvGot_in {c : Dev nD} {s : Fin 2} (h : c ≠ dv s) :
    kvGot A s c = iprop((done (F := F) c (kr s 0) ∗ kvRPay A c s 0) ∗ (done (F := F) c (kr s 1) ∗ kvRPay A c s 1)) := by
  have h' : ∀ t, act c (kdOf (kr s t)) = true := fun t => decide_eq_true h
  unfold kvGot; rw [wPost_act A (h' 0), wPost_act A (h' 1)]; rfl
theorem kvGot_out {c : Dev nD} {s : Fin 2} (h : c = dv s) :
    kvGot A s c = iprop((done (F := F) c (kr s 0) ∗ emp) ∗ (done (F := F) c (kr s 1) ∗ emp)) := by
  have h' : ∀ t, act c (kdOf (kr s t)) = false := fun t => decide_eq_false fun hh => hh h
  unfold kvGot; rw [wPost_inact A (h' 0), wPost_inact A (h' 1)]

theorem kvRPay0k (c : Dev nD) : kvRPay A c 0 0 = pt c (dst0 kM) fullShare (KB A c) := rfl
theorem kvRPay0v (c : Dev nD) : kvRPay A c 0 1 = pt c (dst0 vM) fullShare (VB A c) := rfl
theorem kvRPay1k (c : Dev nD) : kvRPay A c 1 0 = pt c (dst1 kM) fullShare (KB A c) := rfl
theorem kvRPay1v (c : Dev nD) : kvRPay A c 1 1 = pt c (dst1 vM) fullShare (VB A c) := rfl

/-- The four halves are the whole of both buffers. -/
theorem halves (c : Dev nD) : iprop((pt c (dst0 kM) fullShare (KB A c) ∗ pt c (dst0 vM) fullShare (VB A c))
    ∗ (pt c (dst1 kM) fullShare (KB A c) ∗ pt c (dst1 vM) fullShare (VB A c))) ⊢ KVp A c := by
  unfold KVp
  iintro ⟨⟨H0, H1⟩, ⟨H2, H3⟩⟩
  isplitl [H0 H2]
  · iapply (k_dst c (KB A c)).2
    isplitl [H0]; · iexact H0
    iexact H2
  iapply (v_dst c (VB A c)).2
  isplitl [H1]; · iexact H1
  iexact H3

theorem gather (c : Dev nD) : iprop(kvMid A c ∗ kvGot A 0 c ∗ kvGot A 1 c) ⊢ iprop(kvBack A c ∗ kvDone (F := F) c ∗ KVp A c) := by
  refine kvSt_cases (P := fun c => iprop(kvMid A c ∗ kvGot A 0 c ∗ kvGot A 1 c) ⊢ iprop(kvBack A c ∗ kvDone (F := F) c ∗ KVp A c)) c ?_ ?_ ?_
  · rw [kvGot_out A (c := 0) (s := 0) rfl, kvGot_in A (c := 0) (s := 1) (by decide), kvRPay1k, kvRPay1v]
    unfold kvMid kvBack own0' kvDone
    rw [kvSt_0, kvSt_0]
    iintro ⟨⟨HC, Hk, Hv, HK, HV⟩, ⟨⟨Hd0, -⟩, ⟨Hd1, -⟩⟩, ⟨⟨Hd2, HK1⟩, ⟨Hd3, HV1⟩⟩⟩
    isplitl [HC Hk Hv]
    · isplitl [HC]; · iexact HC
      isplitl [Hk]; · iexact Hk
      iexact Hv
    isplitl [Hd0 Hd1 Hd2 Hd3]
    · isplitl [Hd0 Hd1]
      · isplitl [Hd0]; · iexact Hd0
        iexact Hd1
      isplitl [Hd2]; · iexact Hd2
      iexact Hd3
    iapply (halves A 0)
    isplitl [HK HV]
    · isplitl [HK]; · iexact HK
      iexact HV
    isplitl [HK1]; · iexact HK1
    iexact HV1
  · rw [kvGot_out A (c := 1) (s := 1) rfl, kvGot_in A (c := 1) (s := 0) (by decide), kvRPay0k, kvRPay0v]
    unfold kvMid kvBack own1' kvDone
    rw [kvSt_1, kvSt_1]
    iintro ⟨⟨HC, Hk, Hv, HK, HV, HR⟩, ⟨⟨Hd0, HK1⟩, ⟨Hd1, HV1⟩⟩, ⟨⟨Hd2, -⟩, ⟨Hd3, -⟩⟩⟩
    isplitl [HC Hk Hv HR]
    · isplitl [HC]; · iexact HC
      isplitl [Hk]; · iexact Hk
      isplitl [Hv]; · iexact Hv
      iexact HR
    isplitl [Hd0 Hd1 Hd2 Hd3]
    · isplitl [Hd0 Hd1]
      · isplitl [Hd0]; · iexact Hd0
        iexact Hd1
      isplitl [Hd2]; · iexact Hd2
      iexact Hd3
    iapply (halves A 1)
    isplitl [HK1 HV1]
    · isplitl [HK1]; · iexact HK1
      iexact HV1
    isplitl [HK]; · iexact HK
    iexact HV
  · intro c h0 h1
    rw [kvGot_in A (c := c) (s := 0) h0, kvGot_in A (c := c) (s := 1) h1, kvRPay0k, kvRPay0v, kvRPay1k, kvRPay1v]
    unfold kvMid kvBack kvDone
    rw [kvSt_n h0 h1, kvSt_n h0 h1]
    iintro ⟨HS, ⟨⟨Hd0, HK⟩, ⟨Hd1, HV⟩⟩, ⟨⟨Hd2, HK1⟩, ⟨Hd3, HV1⟩⟩⟩
    isplitl [HS]; · iexact HS
    isplitl [Hd0 Hd1 Hd2 Hd3]
    · isplitl [Hd0 Hd1]
      · isplitl [Hd0]; · iexact Hd0
        iexact Hd1
      isplitl [Hd2]; · iexact Hd2
      iexact Hd3
    iapply (halves A c)
    isplitl [HK HV]
    · isplitl [HK]; · iexact HK
      iexact HV
    isplitl [HK1]; · iexact HK1
    iexact HV1

/-! ## Stores over known contents -/

theorem wp_stf {c : Dev nD} {sp : CoreSpace} {s : Shape} {e : EltTy} {m : Memref sig .tc sp s e} {r : Rect s} {w : r.shape.Idx → Elt F e}
    {hx : (m.access r).Stores Finset.univ} {hm : Finset.univ = Finset.univ ∨ ∀ a, r.stride a = 1}
    {S : Finset (Idx ((m.access r).loc (c : Thread nD τ)))} {f : Buf (Elt F) ((m.access r).loc (c : Thread nD τ))}
    (hS : (m.access r).setOn Finset.univ ⊆ S) {Fr Fr' : sProp 𝕄}
    (hget : Fr ⊢ iprop(((m.access r).loc (c : Thread nD τ) ↦[S]{fullShare} f)
      ∗ (((m.access r).loc (c : Thread nD τ) ↦[S]{fullShare} (m.access r).write (Elt F) f w Finset.univ) -∗ Fr')))
    {α : Type} {K : PUnit → Prog (TpuEff nD τ sig (Elt F) Λ₀ .tc) α} {Q : α → sProp 𝕄} (h : Fr' ⊢ WP c (K ⟨⟩) Q) :
    Fr ⊢ WP c (Prog.lift (.store m r w Finset.univ hx hm) >>= K) Q := by
  refine wp_st (S := S) hS ?_ h
  iintro H
  ihave H := hget $$ H
  icases H with ⟨H, Hb⟩
  iexists f
  isplitl [H]; · iexact H
  iexact Hb

/-! ## The parts -/

/-- The partial output's buffer after its first half is stored. -/
abbrev half0 (c : Dev nD) (f : S2x256x512.Idx → Elt F .bf16) : S2x256x512.Idx → Elt F .bf16 :=
  (pM.access pR0).write (Elt F) f (tile0 A c) Finset.univ

/-- What attention reads. -/
def att (c : Dev nD) (f : S2x256x512.Idx → Elt F .bf16) : sProp 𝕄 :=
  iprop(pt c kM fullShare (KB A c) ∗ pt c vM fullShare (VB A c) ∗ pt c woM fullShare (A.wo c) ∗ pt c pM fullShare f)

theorem part21 (c : Dev nD) (R : CellTallies nD τ sig Unit) (hR : Above 2 R) (v43 : FVec F S256x256 .bf16) (Q : _ → sProp 𝕄) :
    iprop((CC A κ ∗ (kvMid A c ∗ kvIn (F := F) 0 c ∗ kvIn (F := F) 1 c ∗ owesX (F := F) c R)) ∗ (kvBack A c ∗ kvDone (F := F) c ∗ KVp A c ∗ owesX (F := F) c R -∗ Q ⟨k0_pay7, k0_pay8 v43 (kld A c kvR00) (vld A c kvR00), k0_pay9 v43, k0_pay10 (kld A c kvR01)⟩))
    ⊢ WP c (k0_part21 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 (wd c) v43 (Scalar.extui (Scalar.cmpi .ne (wd c) 0#32)) 0#32) Q := by
  rw [k0_part21_eq_skeleton]
  unfold k0_part21_skel
  unfold kvIn
  refine recast (P' := iprop((CC A κ ∗ (wPre (F := F) c (kr 0 0) ∗ wPre (F := F) c (kr 0 1)) ∗ owesX (F := F) c R) ∗ (kvMid A c ∗ kvIn (F := F) 1 c)
    ∗ (kvBack A c ∗ kvDone (F := F) c ∗ KVp A c ∗ owesX (F := F) c R -∗ Q ⟨k0_pay7, k0_pay8 v43 (kld A c kvR00) (vld A c kvR00), k0_pay9 v43, k0_pay10 (kld A c kvR01)⟩))) ?_ ?_
  · unfold kvIn
    iintro ⟨⟨HC, HM, H0, H1, HO⟩, HQ⟩
    isplitl [HC H0 HO]
    · isplitl [HC]; · iexact HC
      isplitl [H0]; · iexact H0
      iexact HO
    isplitl [HM H1]
    · isplitl [HM]; · iexact HM
      iexact H1
    iexact HQ
  refine chain (wait2_if A κ c (kr 0 0) (kr 0 1) ((ne0_iff c).trans (decide_eq_true_iff (p := c ≠ dv 0)).symm) rfl
    (fun h => congrArg SemLoc.dma (kvR_of 0 0 ![0, 0] rfl inb_S2x2_S1x1_0_0)) (fun h => congrArg SemLoc.dma (kvR_of 0 1 ![0, 1] rfl inb_S2x2_S1x1_0_1))
    (fun h => credit_kM0) (fun h => credit_vM0) hR hR) ?_
  refine recast (P' := iprop((CC A κ ∗ (wPre (F := F) c (kr 1 0) ∗ wPre (F := F) c (kr 1 1)) ∗ owesX (F := F) c R) ∗ (kvMid A c ∗ kvGot A 0 c)
    ∗ (kvBack A c ∗ kvDone (F := F) c ∗ KVp A c ∗ owesX (F := F) c R -∗ Q ⟨k0_pay7, k0_pay8 v43 (kld A c kvR00) (vld A c kvR00), k0_pay9 v43, k0_pay10 (kld A c kvR01)⟩))) ?_ ?_
  · unfold kvIn kvGot
    iintro ⟨⟨HC, H0, HO⟩, ⟨HM, H1⟩, HQ⟩
    isplitl [HC H1 HO]
    · isplitl [HC]; · iexact HC
      isplitl [H1]; · iexact H1
      iexact HO
    isplitl [HM H0]
    · isplitl [HM]; · iexact HM
      iexact H0
    iexact HQ
  refine chain (wait2_if A κ c (kr 1 0) (kr 1 1) ((ne1_iff c).trans (decide_eq_true_iff (p := c ≠ dv 1)).symm) rfl
    (fun h => congrArg SemLoc.dma (kvR_of 1 0 ![1, 0] rfl inb_S2x2_S1x1_1_0)) (fun h => congrArg SemLoc.dma (kvR_of 1 1 ![1, 1] rfl inb_S2x2_S1x1_1_1))
    (fun h => credit_kM1) (fun h => credit_vM1) hR hR) ?_
  refine recast (P' := iprop((CC A κ ∗ (pt c kM fullShare (KB A c) ∗ pt c vM fullShare (VB A c))) ∗ (kvBack A c ∗ kvDone (F := F) c ∗ owesX (F := F) c R)
    ∗ (kvBack A c ∗ kvDone (F := F) c ∗ KVp A c ∗ owesX (F := F) c R -∗ Q ⟨k0_pay7, k0_pay8 v43 (kld A c kvR00) (vld A c kvR00), k0_pay9 v43, k0_pay10 (kld A c kvR01)⟩))) ?_ ?_
  · iintro ⟨⟨HC, H1, HO⟩, ⟨HM, H0⟩, HQ⟩
    ihave H := (gather A c) $$ [HM H0 H1]
    · isplitl [HM]; · iexact HM
      isplitl [H0]; · iexact H0
      unfold kvGot
      iexact H1
    icases H with ⟨HB, HD, HK⟩
    unfold KVp
    isplitl [HC HK]
    · isplitl [HC]; · iexact HC
      iexact HK
    isplitl [HB HD HO]
    · isplitl [HB]; · iexact HB
      isplitl [HD]; · iexact HD
      iexact HO
    iexact HQ
  refine wp_ld (S := kM.view.set) (q := fullShare) (f := KB A c) (by exact whole_sub (b := cc0_scratch0) _) rfl (by exact put_l (put_r put_here)) ?_
  refine wp_ld (S := vM.view.set) (q := fullShare) (f := VB A c) (by exact whole_sub (b := cc0_scratch1) _) rfl (by exact put_l (put_r (put_r put_only))) ?_
  refine wp_ld (S := kM.view.set) (q := fullShare) (f := KB A c) (by exact whole_sub (b := cc0_scratch0) _) rfl (by exact put_l (put_r put_here)) ?_
  iintro ⟨⟨-, HK⟩, ⟨HB, HD, HO⟩, HQ⟩
  iapply (wp_done c _ Q)
  iapply HQ
  isplitl [HB]; · iexact HB
  isplitl [HD]; · iexact HD
  isplitl [HK]; · unfold KVp; iexact HK
  iexact HO

theorem part22 (c : Dev nD) (f : S2x256x512.Idx → Elt F .bf16) (v43 : FVec F S256x256 .bf16) (v61 : IVec S256x384 1) (v87 : FVec F S256x64 .bf16) (v90 : FVec F S384x64 .bf16) (Q : _ → sProp 𝕄) :
    iprop((CC A κ ∗ att A c f) ∗ (att A c f -∗ Q ⟨k0_pay11 v61 v87 v90 (vld A c kvR01), k0_pay12 (vld A c kvR02), k0_pay13 v43 v61 (kld A c kvR02), k0_pay14 v43 v61 (kld A c kvR02)⟩))
    ⊢ WP c (k0_part22 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 v43 v61 v87 v90) Q := by
  rw [k0_part22_eq_skeleton]
  unfold k0_part22_skel
  unfold att
  refine wp_ld (S := vM.view.set) (q := fullShare) (f := VB A c) (by exact whole_sub (b := cc0_scratch1) _) rfl (by exact put_l (put_r (put_r put_here))) ?_
  refine wp_ld (S := kM.view.set) (q := fullShare) (f := KB A c) (by exact whole_sub (b := cc0_scratch0) _) rfl (by exact put_l (put_r put_here)) ?_
  refine wp_ld (S := vM.view.set) (q := fullShare) (f := VB A c) (by exact whole_sub (b := cc0_scratch1) _) rfl (by exact put_l (put_r (put_r put_here))) ?_
  exact chain_ret
theorem part23 (c : Dev nD) (f : S2x256x512.Idx → Elt F .bf16) (v43 : FVec F S256x256 .bf16) (v61 : IVec S256x384 1) (v86 : FVec F S256x64 .f32) (v111 : FVec F S256x64 .f32) (v118 : FVec F S384x64 .bf16) (v128 : FVec F S256x384 .f32) (v129 : FVec F S256 .f32) (Q : _ → sProp 𝕄) :
    iprop((CC A κ ∗ att A c f) ∗ (att A c f -∗ Q (k0_pay15 v43 v61 v86 v111 v118 v128 v129 (kld A c kvR03) (vld A c kvR03) (wold A c))))
    ⊢ WP c (k0_part23 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 v43 v61 v86 v111 v118 v128 v129) Q := by
  rw [k0_part23_eq_skeleton]
  unfold k0_part23_skel
  unfold att
  refine wp_ld (S := kM.view.set) (q := fullShare) (f := KB A c) (by exact whole_sub (b := cc0_scratch0) _) rfl (by exact put_l (put_r put_here)) ?_
  refine wp_ld (S := vM.view.set) (q := fullShare) (f := VB A c) (by exact whole_sub (b := cc0_scratch1) _) rfl (by exact put_l (put_r (put_r put_here))) ?_
  refine wp_ld (S := woM.view.set) (q := fullShare) (f := A.wo c) (by exact whole_sub (b := cc0_stg4_0) _) rfl (by exact put_l (put_r (put_r (put_r put_here)))) ?_
  refine wp_ld (S := pM.view.set) (q := fullShare) (f := f) (by exact whole_sub (b := cc0_scratch2) _) rfl (by exact put_l (put_r (put_r (put_r (put_r put_only))))) ?_
  exact chain_ret
theorem part24 (c : Dev nD) (f : S2x256x512.Idx → Elt F .bf16) (v49 : FVec F S256x256 .bf16) (v61 : IVec S256x384 1) (v166 : FVec F S256x512 .bf16) (hv : k0_pay16 v166 = tile0 A c) (Q : _ → sProp 𝕄) :
    iprop((CC A κ ∗ att A c f) ∗ (att A c (half0 A c f) -∗ Q ⟨k0_pay17 v49 v61 (kld A c kvR10) (vld A c kvR10), k0_pay18 (vld A c kvR11), k0_pay19 v49 (kld A c kvR11), k0_pay20 (F := F)⟩))
    ⊢ WP c (k0_part24 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 v49 v61 v166) Q := by
  rw [k0_part24_eq_skeleton]
  unfold k0_part24_skel
  rw [hv]
  unfold att half0
  refine wp_stf (S := pM.view.set) (f := f) (by exact whole_sub (b := cc0_scratch2) _) (by exact put_l (put_r (put_r (put_r (put_r put_only))))) ?_
  refine wp_ld (S := kM.view.set) (q := fullShare) (f := KB A c) (by exact whole_sub (b := cc0_scratch0) _) rfl (by exact put_l (put_r put_here)) ?_
  refine wp_ld (S := vM.view.set) (q := fullShare) (f := VB A c) (by exact whole_sub (b := cc0_scratch1) _) rfl (by exact put_l (put_r (put_r put_here))) ?_
  refine wp_ld (S := kM.view.set) (q := fullShare) (f := KB A c) (by exact whole_sub (b := cc0_scratch0) _) rfl (by exact put_l (put_r put_here)) ?_
  refine wp_ld (S := vM.view.set) (q := fullShare) (f := VB A c) (by exact whole_sub (b := cc0_scratch1) _) rfl (by exact put_l (put_r (put_r put_here))) ?_
  exact chain_ret

theorem part25 (c : Dev nD) (f : S2x256x512.Idx → Elt F .bf16) (v49 : FVec F S256x256 .bf16) (v61 : IVec S256x384 1) (v201 : FVec F S384x64 .bf16) (v204 : FVec F S256x384 .f32) (v205 : FVec F S256x384 .f32) (Q : _ → sProp 𝕄) :
    iprop((CC A κ ∗ att A c f) ∗ (att A c f -∗ Q ⟨k0_pay21 v61 v201 v204 v205, k0_pay22 v49 v61 (kld A c kvR12) (vld A c kvR12), k0_pay23 v49⟩))
    ⊢ WP c (k0_part25 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 v49 v61 v201 v204 v205) Q := by
  rw [k0_part25_eq_skeleton]
  unfold k0_part25_skel
  unfold att
  refine wp_ld (S := kM.view.set) (q := fullShare) (f := KB A c) (by exact whole_sub (b := cc0_scratch0) _) rfl (by exact put_l (put_r put_here)) ?_
  refine wp_ld (S := vM.view.set) (q := fullShare) (f := VB A c) (by exact whole_sub (b := cc0_scratch1) _) rfl (by exact put_l (put_r (put_r put_here))) ?_
  exact chain_ret
/-- The rights to pay for the copies of the partial outputs, and for those of the reduced chunks. -/
def rsTok (c : Dev nD) : sProp 𝕄 :=
  bigSep (Finset.univ.erase c) fun d => iprop(tok (F := F) c (.inr (.inr (.inl d))) ∗ tok (F := F) d (.inr (.inr (.inr (.inl c)))))
def agTok (c : Dev nD) : sProp 𝕄 :=
  bigSep (Finset.univ.erase c) fun d => iprop(tok (F := F) c (.inr (.inr (.inr (.inr (.inl d))))) ∗ tok (F := F) d (.inr (.inr (.inr (.inr (.inr c))))))

/-- The partial output by chunks, each ready to be copied but the device's own. -/
theorem rs_enter (c : Dev nD) : iprop(pt c pM fullShare (PART A c) ∗ landR (F := F) c ∗ rsTok (F := F) c)
    ⊢ iprop(pt c (chunk c) fullShare (PART A c) ∗ prg (sPre (rsF A c)) (sPost (rsF A c)) 0) := by
  unfold landR rsTok
  rw [p_eq, bigSep_take (Φ := fun d => pt c (chunk d) fullShare (PART A c)) c, bigSep_sep']
  iintro ⟨⟨H, HP⟩, HL, ⟨HT, HT'⟩⟩
  isplitl [H]; · iexact H
  iapply (prg_sPre (rsF A c))
  rw [bigSep_sep', bigSep_sep', bigSep_sep']
  isplitl [HP]; · iexact HP
  isplitl [HL]; · iexact HL
  isplitl [HT]; · iexact HT
  iexact HT'

theorem part26 (c : Dev nD) (f : S2x256x512.Idx → Elt F .bf16) (R : CellTallies nD τ sig Unit) (v2 : BitVec 32) (v61 : IVec S256x384 1) (v194 : FVec F S256x64 .f32) (v219 : FVec F S256x64 .f32) (v244 : FVec F S256x64 .f32) (v245 : FVec F S256x64 .bf16)
    (hv : k0_pay24 v61 v194 v219 v244 v245 (kld A c kvR13) (vld A c kvR13) (wold A c) = tile1 A c) (Q : _ → sProp 𝕄) :
    iprop((CC A κ ∗ (att A c (half0 A c f) ∗ (landR (F := F) c ∗ rsTok (F := F) c) ∗ owesX (F := F) c (rem (sT (rsF A c)) 0 + R))) ∗ ((KVp A c ∗ pt c woM fullShare (A.wo c) ∗ pt c (chunk c) fullShare (PART A c)) ∗ prg (sPre (rsF A c)) (sPost (rsF A c)) 1 ∗ owesX (F := F) c (rem (sT (rsF A c)) 1 + R) -∗ Q ⟨⟩))
    ⊢ WP c (k0_part26 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c v2 v61 v194 v219 v244 v245) Q := by
  rw [k0_part26_eq_skeleton]
  unfold k0_part26_skel
  unfold att
  refine wp_ld (S := kM.view.set) (q := fullShare) (f := KB A c) (by exact whole_sub (b := cc0_scratch0) _) rfl (by exact put_l (put_r (put_l put_here))) ?_
  refine wp_ld (S := vM.view.set) (q := fullShare) (f := VB A c) (by exact whole_sub (b := cc0_scratch1) _) rfl (by exact put_l (put_r (put_l (put_r put_here)))) ?_
  refine wp_ld (S := woM.view.set) (q := fullShare) (f := A.wo c) (by exact whole_sub (b := cc0_stg4_0) _) rfl (by exact put_l (put_r (put_l (put_r (put_r put_here))))) ?_
  refine wp_ld (S := pM.view.set) (q := fullShare) (f := half0 A c f) (by exact whole_sub (b := cc0_scratch2) _) rfl (by exact put_l (put_r (put_l (put_r (put_r (put_r put_only)))))) ?_
  refine wp_stf (S := pM.view.set) (f := half0 A c f) (by exact whole_sub (b := cc0_scratch2) _) (by exact put_l (put_r (put_l (put_r (put_r (put_r put_only)))))) ?_
  refine recast (P' := iprop((CC A κ ∗ prg (sPre (rsF A c)) (sPost (rsF A c)) 0 ∗ owesX (F := F) c (rem (sT (rsF A c)) 0 + R)) ∗ (KVp A c ∗ pt c woM fullShare (A.wo c) ∗ pt c (chunk c) fullShare (PART A c))
      ∗ ((KVp A c ∗ pt c woM fullShare (A.wo c) ∗ pt c (chunk c) fullShare (PART A c)) ∗ prg (sPre (rsF A c)) (sPost (rsF A c)) 1 ∗ owesX (F := F) c (rem (sT (rsF A c)) 1 + R) -∗ Q ⟨⟩))) ?_ ?_
  · iintro ⟨⟨HC, ⟨HK, HV, HW, HP⟩, ⟨HL, HT⟩, HO⟩, HQ⟩
    ihave HP := (Entails.of_eq (congrArg (fun g => pt c pM fullShare g) (((congrArg (fun w => (pM.access pR1).write (Elt F) (half0 A c f) w Finset.univ) hv)).trans (store_PART A c f)))) $$ HP
    ihave H := (rs_enter A c) $$ [HP HL HT]
    · isplitl [HP]; · iexact HP
      isplitl [HL]; · iexact HL
      iexact HT
    icases H with ⟨HP, HS⟩
    isplitl [HC HS HO]
    · isplitl [HC]; · iexact HC
      isplitl [HS]; · iexact HS
      iexact HO
    isplitl [HK HV HW HP]
    · isplitl [HK HV]
      · unfold KVp
        isplitl [HK]; · iexact HK
        iexact HV
      isplitl [HW]; · iexact HW
      iexact HP
    iexact HQ
  refine chain (send_if κ (rsF A c) 0 (cond5_iff c) (n := fun h => ⟨k0_dev36, k0_dev36_lt c h⟩) (fun h => Fin.ext k0_dev36_eq) (fun h => congrArg SemLoc.dma (rsS_of 0 ![0] rfl inb_S8_S1_0))
    (fun h => congrArg SemLoc.dma (rsR_of c (k0_off1 c) (k0_off1_eq c) (k0_off1_inb c h))) (fun h => chunk_of 0 ![0, 0, 0] rfl inb_S2x256x512_S2x32x512_0_0_0)
    (fun h => slot_of rM c (k0_off2 c) (k0_off2_eq c) (k0_off2_inb c h)) 0 1 rfl rfl R) ?_
  iintro ⟨⟨-, HS, HO⟩, HW, HQ⟩
  iapply (wp_done c _ Q)
  iapply HQ
  isplitl [HW]; · iexact HW
  isplitl [HS]; · iexact HS
  iexact HO

end Cert.KernelIdeal.Hand

end
-- ==== Proof.I.Reduce.lean ====
/-
  THE REDUCED CHUNK: every device's part of it received, the eight parts added, the sum stored twice.
-/
module

public import proofs.«01_k».proof.Proof.I.Attn

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

variable (A : In F) (κ : GSem nD τ sig → ℕ)

/-! ## Loads and stores at a computed offset -/

theorem wp_ld_off {c : Dev nD} {sp : CoreSpace} {s : Shape} {e : EltTy} {m : Memref sig .tc sp s e} {off off' size : Fin s.rank → ℕ}
    {hin : ∀ a, off a + size a ≤ s.size a} (ho : off = off') (hin' : ∀ a, off' a + size a ≤ s.size a)
    {hl : m.view.LoadsAt (Rect.unit (s := s) off size hin).toLoadRect}
    {S : Finset (Idx (m.view.loc (c : Thread nD τ)))} {q : PosShare TreeShare} {f : Buf (Elt F) (m.view.loc (c : Thread nD τ))}
    {w : (Rect.unit (s := s) off' size hin').toLoadRect.shape.Idx → Elt F e} (hS : m.view.setOn (Rect.unit (s := s) off' size hin').toLoadRect.set ⊆ S)
    (hv : m.view.readAt (Elt F) (Rect.unit (s := s) off' size hin').toLoadRect f = w) {Fr : sProp 𝕄}
    (hget : Fr ⊢ iprop((m.view.loc (c : Thread nD τ) ↦[S]{q} f) ∗ ((m.view.loc (c : Thread nD τ) ↦[S]{q} f) -∗ Fr)))
    {α : Type} {K : ((Rect.unit (s := s) off size hin).toLoadRect.shape.Idx → Elt F e) → Prog (TpuEff nD τ sig (Elt F) Λ₀ .tc) α} {Q : α → sProp 𝕄} (h : Fr ⊢ WP c (K w) Q) :
    Fr ⊢ WP c (Prog.lift (.load m (Rect.unit (s := s) off size hin).toLoadRect hl) >>= K) Q := by
  subst ho
  exact wp_ld hS hv hget h

theorem wp_ldx_off {c : Dev nD} {sp : CoreSpace} {s : Shape} {e : EltTy} {m : Memref sig .tc sp s e} {off off' size : Fin s.rank → ℕ}
    {hin : ∀ a, off a + size a ≤ s.size a} (ho : off = off') (hin' : ∀ a, off' a + size a ≤ s.size a)
    {hl : m.view.LoadsAt (Rect.unit (s := s) off size hin).toLoadRect}
    {S : Finset (Idx (m.view.loc (c : Thread nD τ)))} {q : PosShare TreeShare}
    (hS : m.view.setOn (Rect.unit (s := s) off' size hin').toLoadRect.set ⊆ S) {Fr : sProp 𝕄}
    (hget : Fr ⊢ iprop((∃ f, m.view.loc (c : Thread nD τ) ↦[S]{q} f) ∗ ((∃ f, m.view.loc (c : Thread nD τ) ↦[S]{q} f) -∗ Fr)))
    {α : Type} {K : ((Rect.unit (s := s) off size hin).toLoadRect.shape.Idx → Elt F e) → Prog (TpuEff nD τ sig (Elt F) Λ₀ .tc) α} {Q : α → sProp 𝕄} (h : ∀ w, Fr ⊢ WP c (K w) Q) :
    Fr ⊢ WP c (Prog.lift (.load m (Rect.unit (s := s) off size hin).toLoadRect hl) >>= K) Q := by
  subst ho
  exact wp_ldx (S := S) (q := q) hS hget h

theorem wp_stx_off {c : Dev nD} {sp : CoreSpace} {s : Shape} {e : EltTy} {m : Memref sig .tc sp s e} {off off' size : Fin s.rank → ℕ}
    {hin : ∀ a, off a + size a ≤ s.size a} (ho : off = off') (hin' : ∀ a, off' a + size a ≤ s.size a)
    {w : (Rect.unit (s := s) off size hin).shape.Idx → Elt F e}
    {hx : (m.access (Rect.unit (s := s) off size hin)).Stores Finset.univ} {hm : Finset.univ = Finset.univ ∨ ∀ a, (Rect.unit (s := s) off size hin).stride a = 1}
    {S : Finset (Idx ((m.access (Rect.unit (s := s) off' size hin')).loc (c : Thread nD τ)))} (hS : S = (m.access (Rect.unit (s := s) off' size hin')).set)
    {G : Buf (Elt F) ((m.access (Rect.unit (s := s) off' size hin')).loc (c : Thread nD τ))} (hG : (m.access (Rect.unit (s := s) off' size hin')).read (Elt F) G = w) {Fr Fr' : sProp 𝕄}
    (hget : Fr ⊢ iprop((∃ f, (m.access (Rect.unit (s := s) off' size hin')).loc (c : Thread nD τ) ↦[S]{fullShare} f) ∗ (((m.access (Rect.unit (s := s) off' size hin')).loc (c : Thread nD τ) ↦[S]{fullShare} G) -∗ Fr')))
    {α : Type} {K : PUnit → Prog (TpuEff nD τ sig (Elt F) Λ₀ .tc) α} {Q : α → sProp 𝕄} (h : Fr' ⊢ WP c (K ⟨⟩) Q) :
    Fr ⊢ WP c (Prog.lift (.store m (Rect.unit (s := s) off size hin) w Finset.univ hx hm) >>= K) Q := by
  subst ho
  exact wp_stx (m := m) (r := Rect.unit (s := s) off size hin) (w := w) (S := S) (G := G) hS hG hget h

theorem p_sub (d : Dev nD) : pM.view.setOn (chunkR d).toLoadRect.set ⊆ (chunk d).view.set := by
  rw [show (chunk d).view.set = _ from View.set_slice pM.view (chunkR d)]
  exact Finset.Subset.refl _
theorem o_sub (d : Dev nD) : oM.view.setOn (chunkR d).toLoadRect.set ⊆ (oChunk d).view.set := by
  rw [show (oChunk d).view.set = _ from View.set_slice oM.view (chunkR d)]
  exact Finset.Subset.refl _
theorem r_sub (d : Dev nD) : rM.view.setOn (slotR d).toLoadRect.set ⊆ (slot rM d).view.set := by
  rw [slot_set, show (rM.view.slice (slotR d)).set = _ from View.set_slice rM.view (slotR d)]
  exact Finset.Subset.refl _
theorem g_sub (d : Dev nD) : gM.view.setOn (slotR d).toLoadRect.set ⊆ (slot gM d).view.set := by
  rw [slot_set, show (gM.view.slice (slotR d)).set = _ from View.set_slice gM.view (slotR d)]
  exact Finset.Subset.refl _

/-! ## The parts of the chunk -/

abbrev kRsS (d : Dev nD) : KK := .inr (.inr (.inl d))
abbrev kRsR (d : Dev nD) : KK := .inr (.inr (.inr (.inl d)))
abbrev kAgS (d : Dev nD) : KK := .inr (.inr (.inr (.inr (.inl d))))
abbrev kAgR (d : Dev nD) : KK := .inr (.inr (.inr (.inr (.inr d))))

/-- After the waits of a family: every position past, and the payloads of the cells in use. -/
theorem fam_got (c : Dev nD) (k : Dev nD → KK) (h : ∀ d, act c (kdOf (k d)) = decide (c ≠ d)) :
    bigSep Finset.univ (fun d => wPost A c (k d))
      = iprop(bigSep Finset.univ (fun d => done (F := F) c (k d)) ∗ bigSep (Finset.univ.erase c) (fun d => pay A c (kdOf (k d)) 0)) := by
  unfold wPost
  rw [bigSep_sep', ← bigSep_but (fun d => pay A c (kdOf (k d)) 0) c]
  refine congrArg (fun X => iprop(_ ∗ X)) (bigSep_congr fun d _ => ?_)
  rw [h d]
  by_cases e : c = d
  · rw [if_pos e, if_neg (by simpa using e)]
  · rw [if_neg e, if_pos (by simpa using e)]

theorem rs_got (c : Dev nD) : iprop(bigSep Finset.univ (fun d => wPost A c (kRsR d)) ∗ pt c (slot rM c) fullShare (RS A c))
    ⊢ iprop(bigSep Finset.univ (fun d => done (F := F) c (kRsR d)) ∗ pt c rM fullShare (RS A c)) := by
  rw [fam_got A c kRsR (fun _ => rfl), r_eq, bigSep_take (Φ := fun d => pt c (slot rM d) fullShare (RS A c)) c]
  iintro ⟨⟨HD, HP⟩, HS⟩
  isplitl [HD]; · iexact HD
  isplitl [HS]; · iexact HS
  iexact HP

/-- The waits for the parts. -/
def rsW (c : Dev nD) (m : ℕ) : sProp 𝕄 := prg (fun d => wPre (F := F) c (kRsR d)) (fun d => wPost A c (kRsR d)) m

set_option maxHeartbeats 1000000 in
theorem part27 (c : Dev nD) (R : CellTallies nD τ sig Unit) (hR : Above 3 R) (Q : _ → sProp 𝕄) :
    iprop((CC A κ ∗ ((prg (sPre (rsF A c)) (sPost (rsF A c)) 1 ∗ owesX (F := F) c (rem (sT (rsF A c)) 1 + R)) ∗ pt c (chunk c) fullShare (PART A c) ∗ anyPt (F := F) c (slot rM c) ∗ rsW A c 0)) ∗ (bigSep Finset.univ (sPost (rsF A c)) ∗ pt c (chunk c) fullShare (PART A c) ∗ pt c (slot rM c) fullShare (RS A c) ∗ rsW A c 1 ∗ owesX (F := F) c R -∗ Q (Scalar.extui (Scalar.cmpi .ne (wd c) 1#32))))
    ⊢ WP c (k0_part27 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c (wd c)) Q := by
  rw [k0_part27_eq_skeleton]
  unfold k0_part27_skel
  refine recast (P' := iprop((CC A κ ∗ prg (sPre (rsF A c)) (sPost (rsF A c)) 1 ∗ owesX (F := F) c (rem (sT (rsF A c)) 1 + R)) ∗ (pt c (chunk c) fullShare (PART A c) ∗ anyPt (F := F) c (slot rM c) ∗ rsW A c 0)
      ∗ (bigSep Finset.univ (sPost (rsF A c)) ∗ pt c (chunk c) fullShare (PART A c) ∗ pt c (slot rM c) fullShare (RS A c) ∗ rsW A c 1 ∗ owesX (F := F) c R -∗ Q (Scalar.extui (Scalar.cmpi .ne (wd c) 1#32))))) ?_ ?_
  · iintro ⟨⟨HC, ⟨HS, HO⟩, HR⟩, HQ⟩
    isplitl [HC HS HO]
    · isplitl [HC]; · iexact HC
      isplitl [HS]; · iexact HS
      iexact HO
    isplitl [HR]; · iexact HR
    iexact HQ
  refine chain (send_if κ (rsF A c) 1 (cond6_iff c) (n := fun h => ⟨k0_dev37, k0_dev37_lt c h⟩) (fun h => Fin.ext k0_dev37_eq) (fun h => congrArg SemLoc.dma (rsS_of 1 ![1] rfl inb_S8_S1_1))
    (fun h => congrArg SemLoc.dma (rsR_of c (k0_off3 c) (k0_off3_eq c) (k0_off3_inb c h))) (fun h => chunk_of 1 ![0, 32, 0] rfl inb_S2x256x512_S2x32x512_0_32_0)
    (fun h => slot_of rM c (k0_off4 c) (k0_off4_eq c) (k0_off4_inb c h)) 1 2 rfl rfl R) ?_
  refine chain (send_if κ (rsF A c) 2 (cond7_iff c) (n := fun h => ⟨k0_dev38, k0_dev38_lt c h⟩) (fun h => Fin.ext k0_dev38_eq) (fun h => congrArg SemLoc.dma (rsS_of 2 ![2] rfl inb_S8_S1_2))
    (fun h => congrArg SemLoc.dma (rsR_of c (k0_off5 c) (k0_off5_eq c) (k0_off5_inb c h))) (fun h => chunk_of 2 ![0, 64, 0] rfl inb_S2x256x512_S2x32x512_0_64_0)
    (fun h => slot_of rM c (k0_off6 c) (k0_off6_eq c) (k0_off6_inb c h)) 2 3 rfl rfl R) ?_
  refine chain (send_if κ (rsF A c) 3 (cond8_iff c) (n := fun h => ⟨k0_dev39, k0_dev39_lt c h⟩) (fun h => Fin.ext k0_dev39_eq) (fun h => congrArg SemLoc.dma (rsS_of 3 ![3] rfl inb_S8_S1_3))
    (fun h => congrArg SemLoc.dma (rsR_of c (k0_off7 c) (k0_off7_eq c) (k0_off7_inb c h))) (fun h => chunk_of 3 ![0, 96, 0] rfl inb_S2x256x512_S2x32x512_0_96_0)
    (fun h => slot_of rM c (k0_off8 c) (k0_off8_eq c) (k0_off8_inb c h)) 3 4 rfl rfl R) ?_
  refine chain (send_if κ (rsF A c) 4 (cond9_iff c) (n := fun h => ⟨k0_dev40, k0_dev40_lt c h⟩) (fun h => Fin.ext k0_dev40_eq) (fun h => congrArg SemLoc.dma (rsS_of 4 ![4] rfl inb_S8_S1_4))
    (fun h => congrArg SemLoc.dma (rsR_of c (k0_off9 c) (k0_off9_eq c) (k0_off9_inb c h))) (fun h => chunk_of 4 ![0, 128, 0] rfl inb_S2x256x512_S2x32x512_0_128_0)
    (fun h => slot_of rM c (k0_off10 c) (k0_off10_eq c) (k0_off10_inb c h)) 4 5 rfl rfl R) ?_
  refine chain (send_if κ (rsF A c) 5 (cond10_iff c) (n := fun h => ⟨k0_dev41, k0_dev41_lt c h⟩) (fun h => Fin.ext k0_dev41_eq) (fun h => congrArg SemLoc.dma (rsS_of 5 ![5] rfl inb_S8_S1_5))
    (fun h => congrArg SemLoc.dma (rsR_of c (k0_off11 c) (k0_off11_eq c) (k0_off11_inb c h))) (fun h => chunk_of 5 ![0, 160, 0] rfl inb_S2x256x512_S2x32x512_0_160_0)
    (fun h => slot_of rM c (k0_off12 c) (k0_off12_eq c) (k0_off12_inb c h)) 5 6 rfl rfl R) ?_
  refine chain (send_if κ (rsF A c) 6 (cond11_iff c) (n := fun h => ⟨k0_dev42, k0_dev42_lt c h⟩) (fun h => Fin.ext k0_dev42_eq) (fun h => congrArg SemLoc.dma (rsS_of 6 ![6] rfl inb_S8_S1_6))
    (fun h => congrArg SemLoc.dma (rsR_of c (k0_off13 c) (k0_off13_eq c) (k0_off13_inb c h))) (fun h => chunk_of 6 ![0, 192, 0] rfl inb_S2x256x512_S2x32x512_0_192_0)
    (fun h => slot_of rM c (k0_off14 c) (k0_off14_eq c) (k0_off14_inb c h)) 6 7 rfl rfl R) ?_
  refine chain (send_if κ (rsF A c) 7 (cond12_iff c) (n := fun h => ⟨k0_dev43, k0_dev43_lt c h⟩) (fun h => Fin.ext k0_dev43_eq) (fun h => congrArg SemLoc.dma (rsS_of 7 ![7] rfl inb_S8_S1_7))
    (fun h => congrArg SemLoc.dma (rsR_of c (k0_off15 c) (k0_off15_eq c) (k0_off15_inb c h))) (fun h => chunk_of 7 ![0, 224, 0] rfl inb_S2x256x512_S2x32x512_0_224_0)
    (fun h => slot_of rM c (k0_off16 c) (k0_off16_eq c) (k0_off16_inb c h)) 7 8 rfl rfl R) ?_
  rw [rem_last, zero_add, prg_last]
  refine wp_ld_off (k0_off17_eq c) (by exact (chunk_inb c)) (S := (chunk c).view.set) (q := fullShare) (f := PART A c) (by exact p_sub c) rfl (by exact put_r (put_l put_here)) ?_
  refine wp_ldx_off (k0_off18_eq c) (by exact (slot_inb c)) (S := (slot rM c).view.set) (q := fullShare) (by exact r_sub c) (by exact put_r (put_l (put_r put_here))) (fun _ => ?_)
  refine wp_stx_off (k0_off18_eq c) (by exact (slot_inb c)) (S := by exact (slot rM c).view.set) (by exact slot_set rM c) (by exact store_RS A c) (by exact put_r (put_l (put_r put_here))) ?_
  refine recast (P' := iprop((CC A κ ∗ rsW A c 0 ∗ owesX (F := F) c R) ∗ (bigSep Finset.univ (sPost (rsF A c)) ∗ pt c (chunk c) fullShare (PART A c) ∗ pt c (slot rM c) fullShare (RS A c))
      ∗ (bigSep Finset.univ (sPost (rsF A c)) ∗ pt c (chunk c) fullShare (PART A c) ∗ pt c (slot rM c) fullShare (RS A c) ∗ rsW A c 1 ∗ owesX (F := F) c R -∗ Q (Scalar.extui (Scalar.cmpi .ne (wd c) 1#32))))) ?_ ?_
  · iintro ⟨⟨HC, HS, HO⟩, ⟨HP, HR, HW⟩, HQ⟩
    isplitl [HC HW HO]
    · isplitl [HC]; · iexact HC
      isplitl [HW]; · iexact HW
      iexact HO
    isplitl [HS HP HR]
    · isplitl [HS]; · iexact HS
      isplitl [HP]; · iexact HP
      iexact HR
    iexact HQ
  unfold rsW
  refine chain (wait_if A κ c kRsR 0 ((ne0_iff c).trans (decide_eq_true_iff (p := c ≠ 0)).symm) (fun h => congrArg SemLoc.dma (rsR_of 0 ![0] rfl inb_S8_S1_0))
    (fun h => credit_of (slot_of rM 0 ![0, 0, 0, 0] rfl inb_S8x2x32x512_S1x2x32x512_0_0_0_0) (credit_rM 0)) 0 1 rfl rfl hR) ?_
  iintro ⟨⟨-, HW, HO⟩, ⟨HS, HP, HR⟩, HQ⟩
  iapply (wp_done c _ Q)
  iapply HQ
  isplitl [HS]; · iexact HS
  isplitl [HP]; · iexact HP
  isplitl [HR]; · iexact HR
  isplitl [HW]; · iexact HW
  iexact HO

set_option maxHeartbeats 1000000 in
theorem part28 (c : Dev nD) (R : CellTallies nD τ sig Unit) (hR : Above 3 R) (Q : _ → sProp 𝕄) :
    iprop((CC A κ ∗ (rsW A c 1 ∗ pt c (slot rM c) fullShare (RS A c) ∗ owesX (F := F) c R)) ∗ (bigSep Finset.univ (fun d => done (F := F) c (kRsR d)) ∗ pt c rM fullShare (RS A c) ∗ owesX (F := F) c R -∗ Q ⟨k0_pay26 (rld A c 0) (rld A c 1), k0_pay27 (rld A c 2)⟩))
    ⊢ WP c (k0_part28 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 (wd c) (Scalar.extui (Scalar.cmpi .ne (wd c) 1#32))) Q := by
  rw [k0_part28_eq_skeleton]
  unfold k0_part28_skel
  unfold rsW
  refine recast (P' := iprop((CC A κ ∗ rsW A c 1 ∗ owesX (F := F) c R) ∗ pt c (slot rM c) fullShare (RS A c)
      ∗ (bigSep Finset.univ (fun d => done (F := F) c (kRsR d)) ∗ pt c rM fullShare (RS A c) ∗ owesX (F := F) c R -∗ Q ⟨k0_pay26 (rld A c 0) (rld A c 1), k0_pay27 (rld A c 2)⟩))) ?_ ?_
  · iintro ⟨⟨HC, HW, HR, HO⟩, HQ⟩
    isplitl [HC HW HO]
    · isplitl [HC]; · iexact HC
      isplitl [HW]; · unfold rsW; iexact HW
      iexact HO
    isplitl [HR]; · iexact HR
    iexact HQ
  unfold rsW
  refine chain (wait_if A κ c kRsR 1 ((ne1_iff c).trans (decide_eq_true_iff (p := c ≠ 1)).symm) (fun h => congrArg SemLoc.dma (rsR_of 1 ![1] rfl inb_S8_S1_1))
    (fun h => credit_of (slot_of rM 1 ![1, 0, 0, 0] rfl inb_S8x2x32x512_S1x2x32x512_1_0_0_0) (credit_rM 1)) 1 2 rfl rfl hR) ?_
  refine chain (wait_if A κ c kRsR 2 ((ne2_iff c).trans (decide_eq_true_iff (p := c ≠ 2)).symm) (fun h => congrArg SemLoc.dma (rsR_of 2 ![2] rfl inb_S8_S1_2))
    (fun h => credit_of (slot_of rM 2 ![2, 0, 0, 0] rfl inb_S8x2x32x512_S1x2x32x512_2_0_0_0) (credit_rM 2)) 2 3 rfl rfl hR) ?_
  refine chain (wait_if A κ c kRsR 3 ((ne3_iff c).trans (decide_eq_true_iff (p := c ≠ 3)).symm) (fun h => congrArg SemLoc.dma (rsR_of 3 ![3] rfl inb_S8_S1_3))
    (fun h => credit_of (slot_of rM 3 ![3, 0, 0, 0] rfl inb_S8x2x32x512_S1x2x32x512_3_0_0_0) (credit_rM 3)) 3 4 rfl rfl hR) ?_
  refine chain (wait_if A κ c kRsR 4 ((ne4_iff c).trans (decide_eq_true_iff (p := c ≠ 4)).symm) (fun h => congrArg SemLoc.dma (rsR_of 4 ![4] rfl inb_S8_S1_4))
    (fun h => credit_of (slot_of rM 4 ![4, 0, 0, 0] rfl inb_S8x2x32x512_S1x2x32x512_4_0_0_0) (credit_rM 4)) 4 5 rfl rfl hR) ?_
  refine chain (wait_if A κ c kRsR 5 ((ne5_iff c).trans (decide_eq_true_iff (p := c ≠ 5)).symm) (fun h => congrArg SemLoc.dma (rsR_of 5 ![5] rfl inb_S8_S1_5))
    (fun h => credit_of (slot_of rM 5 ![5, 0, 0, 0] rfl inb_S8x2x32x512_S1x2x32x512_5_0_0_0) (credit_rM 5)) 5 6 rfl rfl hR) ?_
  refine chain (wait_if A κ c kRsR 6 ((ne6_iff c).trans (decide_eq_true_iff (p := c ≠ 6)).symm) (fun h => congrArg SemLoc.dma (rsR_of 6 ![6] rfl inb_S8_S1_6))
    (fun h => credit_of (slot_of rM 6 ![6, 0, 0, 0] rfl inb_S8x2x32x512_S1x2x32x512_6_0_0_0) (credit_rM 6)) 6 7 rfl rfl hR) ?_
  refine chain (wait_if A κ c kRsR 7 ((ne7_iff c).trans (decide_eq_true_iff (p := c ≠ 7)).symm) (fun h => congrArg SemLoc.dma (rsR_of 7 ![7] rfl inb_S8_S1_7))
    (fun h => credit_of (slot_of rM 7 ![7, 0, 0, 0] rfl inb_S8x2x32x512_S1x2x32x512_7_0_0_0) (credit_rM 7)) 7 8 rfl rfl hR) ?_
  rw [prg_last]
  refine recast (P' := iprop((CC A κ ∗ pt c rM fullShare (RS A c)) ∗ (bigSep Finset.univ (fun d => done (F := F) c (kRsR d)) ∗ owesX (F := F) c R)
      ∗ (bigSep Finset.univ (fun d => done (F := F) c (kRsR d)) ∗ pt c rM fullShare (RS A c) ∗ owesX (F := F) c R -∗ Q ⟨k0_pay26 (rld A c 0) (rld A c 1), k0_pay27 (rld A c 2)⟩))) ?_ ?_
  · iintro ⟨⟨HC, HW, HO⟩, HR, HQ⟩
    ihave H := (rs_got A c) $$ [HW HR]
    · isplitl [HW]; · iexact HW
      iexact HR
    icases H with ⟨HD, HR⟩
    isplitl [HC HR]
    · isplitl [HC]; · iexact HC
      iexact HR
    isplitl [HD HO]
    · isplitl [HD]; · iexact HD
      iexact HO
    iexact HQ
  refine wp_ld (S := rM.view.set) (q := fullShare) (f := RS A c) (w := rld A c 0) (by exact whole_sub (b := cc0_scratch3) _) (by exact rfl) (by exact put_l (put_r put_only)) ?_
  refine wp_ld (S := rM.view.set) (q := fullShare) (f := RS A c) (w := rld A c 1) (by exact whole_sub (b := cc0_scratch3) _) (by exact rfl) (by exact put_l (put_r put_only)) ?_
  refine wp_ld (S := rM.view.set) (q := fullShare) (f := RS A c) (w := rld A c 2) (by exact whole_sub (b := cc0_scratch3) _) (by exact rfl) (by exact put_l (put_r put_only)) ?_
  iintro ⟨⟨-, HR⟩, ⟨HD, HO⟩, HQ⟩
  iapply (wp_done c _ Q)
  iapply HQ
  isplitl [HD]; · iexact HD
  isplitl [HR]; · iexact HR
  iexact HO

theorem part29 (c : Dev nD)  (Q : _ → sProp 𝕄) :
    iprop((CC A κ ∗ (pt c rM fullShare (RS A c) ∗ anyPt (F := F) c (oChunk c) ∗ anyPt (F := F) c (slot gM c))) ∗ (pt c rM fullShare (RS A c) ∗ pt c (oChunk c) fullShare (OUT A c) ∗ pt c (slot gM c) fullShare (AG A) -∗ Q (Scalar.cmpi .ne (wd c) 0#32)))
    ⊢ WP c (k0_part29 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c (wd c) (k0_pay26 (rld A c 0) (rld A c 1)) (k0_pay27 (rld A c 2))) Q := by
  rw [k0_part29_eq_skeleton]
  unfold k0_part29_skel
  refine wp_ld (S := rM.view.set) (q := fullShare) (f := RS A c) (w := rld A c 3) (by exact whole_sub (b := cc0_scratch3) _) (by exact rfl) (by exact put_l (put_r put_here)) ?_
  refine wp_ld (S := rM.view.set) (q := fullShare) (f := RS A c) (w := rld A c 4) (by exact whole_sub (b := cc0_scratch3) _) (by exact rfl) (by exact put_l (put_r put_here)) ?_
  refine wp_ld (S := rM.view.set) (q := fullShare) (f := RS A c) (w := rld A c 5) (by exact whole_sub (b := cc0_scratch3) _) (by exact rfl) (by exact put_l (put_r put_here)) ?_
  refine wp_ld (S := rM.view.set) (q := fullShare) (f := RS A c) (w := rld A c 6) (by exact whole_sub (b := cc0_scratch3) _) (by exact rfl) (by exact put_l (put_r put_here)) ?_
  refine wp_ld (S := rM.view.set) (q := fullShare) (f := RS A c) (w := rld A c 7) (by exact whole_sub (b := cc0_scratch3) _) (by exact rfl) (by exact put_l (put_r put_here)) ?_
  refine wp_ldx_off (k0_off17_eq c) (by exact (chunk_inb c)) (S := (oChunk c).view.set) (q := fullShare) (by exact o_sub c) (by exact put_l (put_r (put_r put_here))) (fun _ => ?_)
  refine wp_stx_off (k0_off17_eq c) (by exact (chunk_inb c)) (S := by exact (oChunk c).view.set) rfl (by exact store_OUT_self A c) (by exact put_l (put_r (put_r put_here))) ?_
  refine wp_ldx_off (k0_off18_eq c) (by exact (slot_inb c)) (S := (slot gM c).view.set) (q := fullShare) (by exact g_sub c) (by exact put_l (put_r (put_r (put_r put_only)))) (fun _ => ?_)
  refine wp_stx_off (k0_off18_eq c) (by exact (slot_inb c)) (S := by exact (slot gM c).view.set) (by exact slot_set gM c) (by exact store_AG A c) (by exact put_l (put_r (put_r (put_r put_only)))) ?_
  exact chain_ret

end Cert.KernelIdeal.Hand

end
-- ==== Proof.I.Collect.lean ====
/-
  THE RESULT COLLECTED: the reduced chunks exchanged, and every copy's source taken back.
-/
module

public import proofs.«01_k».proof.Proof.I.Reduce

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

variable (A : In F) (κ : GSem nD τ sig → ℕ)

/-! ## The copies of the reduced chunk -/

theorem erase_nonempty (c : Dev nD) : ((Finset.univ : Finset (Dev nD)).erase c).Nonempty := by revert c; decide

theorem pay_agR (c j : Dev nD) : pay A c (kdOf (kAgR j)) 0 = pt c (slot gM j) fullShare (AG A) := rfl

theorem ag_deal (c : Dev nD) :
    pt c (slot gM c) fullShare (AG A) = bigSep (Finset.univ.erase c) fun d => pt c (slot gM c) (lent c d) (AG A) :=
  Transfers.pointsTo_deal (Finset.univ.erase c) (erase_nonempty c) fullShare

/-- The reduced chunk, a share of it for each copy. -/
theorem ag_enter (c : Dev nD) : iprop(pt c (slot gM c) fullShare (AG A) ∗ landG (F := F) c ∗ agTok (F := F) c)
    ⊢ prg (sPre (agF A c)) (sPost (agF A c)) 0 := by
  unfold landG agTok
  rw [bigSep_sep']
  iintro ⟨H, HL, ⟨HT, HT'⟩⟩
  iapply (prg_sPre (agF A c))
  rw [bigSep_sep', bigSep_sep', bigSep_sep']
  isplitl [H]
  · ihave H := (Entails.of_eq (ag_deal A c)) $$ H
    iexact H
  isplitl [HL]; · iexact HL
  isplitl [HT]; · iexact HT
  iexact HT'

/-! ## The chunks of the other devices -/

def gPre (c j : Dev nD) : sProp 𝕄 := iprop(wPre (F := F) c (kAgR j) ∗ (if c = j then iprop(emp) else anyPt (F := F) c (oChunk j)))
def gPost (c j : Dev nD) : sProp 𝕄 :=
  iprop(done (F := F) c (kAgR j) ∗ (if c = j then iprop(emp) else iprop(pt c (slot gM j) fullShare (AG A) ∗ pt c (oChunk j) fullShare (OUT A c))))
def agW (c : Dev nD) (m : ℕ) : sProp 𝕄 := prg (gPre (F := F) c) (gPost A c) m

/-- One chunk received and stored, on a device that is not its own. -/
theorem ag_if (c j : Dev nD) {C : Prop} [Decidable C] (hC : C ↔ c ≠ j) {n : C → DmaSem sig} (hn : ∀ h, SemLoc.dma (n h) = osem (kAgR j))
    {src dst : C → Memref sig .tc .vmem S2x32x512 .bf16} {hw : ∀ h, (src h).view.WordExact} {hw' : ∀ h, (dst h).view.WordExact}
    (hc : ∀ h, (dst h).view.dmaCredit = N2) {offs : Fin 4 → ℕ} (hos : offs = ![j.val, 0, 0, 0]) {offo : Fin 3 → ℕ} (hoo : offo = ![0, 32 * j.val, 0])
    {hin : ∀ a, offs a + S1x2x32x512.size a ≤ S8x2x32x512.size a} {hino : ∀ a, offo a + S2x32x512.size a ≤ S2x256x512.size a}
    {hl : gM.view.LoadsAt (Rect.unit (s := S8x2x32x512) offs S1x2x32x512.size hin).toLoadRect}
    {hl' : oM.view.LoadsAt (Rect.unit (s := S2x256x512) offo S2x32x512.size hino).toLoadRect}
    {hx : (oM.access (Rect.unit (s := S2x256x512) offo S2x32x512.size hino)).Stores Finset.univ}
    {hm : Finset.univ = Finset.univ ∨ ∀ a, (Rect.unit (s := S2x256x512) offo S2x32x512.size hino).stride a = 1}
    {P : Vec F S1x2x32x512 .bf16 → FVec F S2x32x512 .f32} (hP : ∀ v, P v = k0_pay30 v) (m m' : ℕ) (hm₁ : j.val = m) (hm' : m + 1 = m')
    {α : Type} {J : Prog (TpuEff nD τ sig (Elt F) Λ₀ .tc) α} {Q : α → sProp 𝕄} :
    iprop((CC A κ ∗ agW A c m ∗ owesX (F := F) c 0) ∗ (agW A c m' ∗ owesX (F := F) c 0 -∗ WP c J Q))
      ⊢ WP c (if h : C then (Prog.lift (.waitDma2 (n h) (src h) (dst h) (hw h) (hw' h)) >>= fun _ =>
          Prog.lift (.load gM (Rect.unit (s := S8x2x32x512) offs S1x2x32x512.size hin).toLoadRect hl) >>= fun v =>
          Prog.lift (.load oM (Rect.unit (s := S2x256x512) offo S2x32x512.size hino).toLoadRect hl') >>= fun _ =>
          Prog.lift (.store oM (Rect.unit (s := S2x256x512) offo S2x32x512.size hino) (P v) Finset.univ hx hm) >>= fun _ => J) else J) Q := by
  subst hos hoo
  unfold agW
  refine wp_block _ _ (fun h => ?_) fun h => ?_
  · have hne : c ≠ j := hC.mp h
    have ha : act c (kdOf (kAgR j)) = true := decide_eq_true hne
    refine recast (P' := iprop((CC A κ ∗ wPre (F := F) c (kAgR j) ∗ owesX (F := F) c 0) ∗ (anyPt (F := F) c (oChunk j) ∗ (gPost A c j -∗ prg (gPre (F := F) c) (gPost A c) m')
        ∗ (prg (gPre (F := F) c) (gPost A c) m' ∗ owesX (F := F) c 0 -∗ WP c J Q)))) ?_ ?_
    · iintro ⟨⟨HC, HP, HO⟩, HQ⟩
      ihave HP := (prg_step (gPre (F := F) c) (gPost A c) j m m' hm₁ hm') $$ HP
      icases HP with ⟨Hd, Hback⟩
      unfold gPre
      icases Hd with ⟨Hw, Ho⟩
      ihave Ho := (Entails.of_eq (if_neg hne)) $$ Ho
      isplitl [HC Hw HO]
      · isplitl [HC]; · iexact HC
        isplitl [Hw]; · iexact Hw
        iexact HO
      isplitl [Ho]; · iexact Ho
      isplitl [Hback]; · iexact Hback
      iexact HQ
    refine chain (wait_core A κ c (kAgR j) (hn h) ha (src := src h) (dst := dst h) (hc h) (above_zero _)) ?_
    rw [wPost_act A ha]
    refine recast (P' := iprop((CC A κ ∗ pt c (slot gM j) fullShare (AG A) ∗ anyPt (F := F) c (oChunk j)) ∗ (done (F := F) c (kAgR j) ∗ owesX (F := F) c 0)
        ∗ (gPost A c j -∗ prg (gPre (F := F) c) (gPost A c) m') ∗ (prg (gPre (F := F) c) (gPost A c) m' ∗ owesX (F := F) c 0 -∗ WP c J Q))) ?_ ?_
    · iintro ⟨⟨HC, ⟨HD, HG⟩, HO⟩, HA, HB, HQ⟩
      isplitl [HC HG HA]
      · isplitl [HC]; · iexact HC
        isplitl [HG]
        · ihave HG := (Entails.of_eq (pay_agR A c j)) $$ HG
          iexact HG
        iexact HA
      isplitl [HD HO]
      · isplitl [HD]; · iexact HD
        iexact HO
      isplitl [HB]; · iexact HB
      iexact HQ
    refine wp_ld (S := (slot gM j).view.set) (q := fullShare) (f := AG A) (w := gld A j) (by exact g_sub j) (by exact rfl) (by exact put_l (put_r put_here)) ?_
    refine wp_ldx (S := (oChunk j).view.set) (q := fullShare) (by exact o_sub j) (by exact put_l (put_r (put_r put_only))) (fun _ => ?_)
    refine wp_stx (S := by exact (oChunk j).view.set) rfl (by rw [hP]; exact store_OUT_other A c j hne) (by exact put_l (put_r (put_r put_only))) ?_
    iintro ⟨⟨-, HG, HO'⟩, ⟨HD, HO⟩, HB, HQ⟩
    iapply HQ
    isplitl [HB HD HG HO']
    · iapply HB
      unfold gPost
      isplitl [HD]; · iexact HD
      iapply (Entails.of_eq (if_neg hne).symm)
      isplitl [HG]; · iexact HG
      iexact HO'
    iexact HO
  · have he : c = j := by by_contra hne; exact h (hC.mpr hne)
    have ha : act c (kdOf (kAgR j)) = false := decide_eq_false fun hh => hh he
    iintro ⟨-, HP, HO⟩
    isplitl [HP]
    · ihave HP := (prg_step (gPre (F := F) c) (gPost A c) j m m' hm₁ hm') $$ HP
      icases HP with ⟨Hd, Hback⟩
      iapply Hback
      unfold gPre gPost
      icases Hd with ⟨Hw, Ho⟩
      ihave Hw := (w_skip A ha) $$ Hw
      ihave Hw := (Entails.of_eq (wPost_inact A ha)) $$ Hw
      icases Hw with ⟨Hw, -⟩
      isplitl [Hw]; · iexact Hw
      iapply (Entails.of_eq (if_pos he).symm)
      iempintro
    iexact HO

set_option maxHeartbeats 1000000 in
theorem part30 (c : Dev nD)  (Q : _ → sProp 𝕄) :
    iprop((CC A κ ∗ ((pt c (slot gM c) fullShare (AG A) ∗ landG (F := F) c ∗ agTok (F := F) c) ∗ agW A c 0 ∗ owesX (F := F) c (rem (sT (agF A c)) 0 + 0))) ∗ (bigSep Finset.univ (sPost (agF A c)) ∗ agW A c 2 ∗ owesX (F := F) c 0 -∗ Q (Scalar.cmpi .ne (wd c) 2#32)))
    ⊢ WP c (k0_part30 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c (wd c) (Scalar.cmpi .ne (wd c) 0#32)) Q := by
  rw [k0_part30_eq_skeleton]
  unfold k0_part30_skel
  refine recast (P' := iprop((CC A κ ∗ prg (sPre (agF A c)) (sPost (agF A c)) 0 ∗ owesX (F := F) c (rem (sT (agF A c)) 0 + 0)) ∗ agW A c 0
      ∗ (bigSep Finset.univ (sPost (agF A c)) ∗ agW A c 2 ∗ owesX (F := F) c 0 -∗ Q (Scalar.cmpi .ne (wd c) 2#32)))) ?_ ?_
  · iintro ⟨⟨HC, HG, HW, HO⟩, HQ⟩
    isplitl [HC HG HO]
    · isplitl [HC]; · iexact HC
      isplitl [HG]; · iapply (ag_enter A c); iexact HG
      iexact HO
    isplitl [HW]; · iexact HW
    iexact HQ
  refine chain (send_if κ (agF A c) 0 (cond21_iff c) (n := fun h => ⟨k0_dev44, k0_dev44_lt c h⟩) (fun h => Fin.ext k0_dev44_eq) (fun h => congrArg SemLoc.dma (agS_of 0 ![0] rfl inb_S8_S1_0))
    (fun h => congrArg SemLoc.dma (agR_of c (k0_off19 c) (k0_off19_eq c) (k0_off19_inb c h))) (fun h => slot_of gM c (k0_off20 c) (k0_off20_eq c) (k0_off20_inb c h))
    (fun h => slot_of gM c (k0_off20 c) (k0_off20_eq c) (k0_off20_inb c h)) 0 1 rfl rfl 0) ?_
  refine chain (send_if κ (agF A c) 1 (cond22_iff c) (n := fun h => ⟨k0_dev45, k0_dev45_lt c h⟩) (fun h => Fin.ext k0_dev45_eq) (fun h => congrArg SemLoc.dma (agS_of 1 ![1] rfl inb_S8_S1_1))
    (fun h => congrArg SemLoc.dma (agR_of c (k0_off21 c) (k0_off21_eq c) (k0_off21_inb c h))) (fun h => slot_of gM c (k0_off22 c) (k0_off22_eq c) (k0_off22_inb c h))
    (fun h => slot_of gM c (k0_off22 c) (k0_off22_eq c) (k0_off22_inb c h)) 1 2 rfl rfl 0) ?_
  refine chain (send_if κ (agF A c) 2 (cond23_iff c) (n := fun h => ⟨k0_dev46, k0_dev46_lt c h⟩) (fun h => Fin.ext k0_dev46_eq) (fun h => congrArg SemLoc.dma (agS_of 2 ![2] rfl inb_S8_S1_2))
    (fun h => congrArg SemLoc.dma (agR_of c (k0_off23 c) (k0_off23_eq c) (k0_off23_inb c h))) (fun h => slot_of gM c (k0_off24 c) (k0_off24_eq c) (k0_off24_inb c h))
    (fun h => slot_of gM c (k0_off24 c) (k0_off24_eq c) (k0_off24_inb c h)) 2 3 rfl rfl 0) ?_
  refine chain (send_if κ (agF A c) 3 (cond24_iff c) (n := fun h => ⟨k0_dev47, k0_dev47_lt c h⟩) (fun h => Fin.ext k0_dev47_eq) (fun h => congrArg SemLoc.dma (agS_of 3 ![3] rfl inb_S8_S1_3))
    (fun h => congrArg SemLoc.dma (agR_of c (k0_off25 c) (k0_off25_eq c) (k0_off25_inb c h))) (fun h => slot_of gM c (k0_off26 c) (k0_off26_eq c) (k0_off26_inb c h))
    (fun h => slot_of gM c (k0_off26 c) (k0_off26_eq c) (k0_off26_inb c h)) 3 4 rfl rfl 0) ?_
  refine chain (send_if κ (agF A c) 4 (cond25_iff c) (n := fun h => ⟨k0_dev48, k0_dev48_lt c h⟩) (fun h => Fin.ext k0_dev48_eq) (fun h => congrArg SemLoc.dma (agS_of 4 ![4] rfl inb_S8_S1_4))
    (fun h => congrArg SemLoc.dma (agR_of c (k0_off27 c) (k0_off27_eq c) (k0_off27_inb c h))) (fun h => slot_of gM c (k0_off28 c) (k0_off28_eq c) (k0_off28_inb c h))
    (fun h => slot_of gM c (k0_off28 c) (k0_off28_eq c) (k0_off28_inb c h)) 4 5 rfl rfl 0) ?_
  refine chain (send_if κ (agF A c) 5 (cond26_iff c) (n := fun h => ⟨k0_dev49, k0_dev49_lt c h⟩) (fun h => Fin.ext k0_dev49_eq) (fun h => congrArg SemLoc.dma (agS_of 5 ![5] rfl inb_S8_S1_5))
    (fun h => congrArg SemLoc.dma (agR_of c (k0_off29 c) (k0_off29_eq c) (k0_off29_inb c h))) (fun h => slot_of gM c (k0_off30 c) (k0_off30_eq c) (k0_off30_inb c h))
    (fun h => slot_of gM c (k0_off30 c) (k0_off30_eq c) (k0_off30_inb c h)) 5 6 rfl rfl 0) ?_
  refine chain (send_if κ (agF A c) 6 (cond27_iff c) (n := fun h => ⟨k0_dev50, k0_dev50_lt c h⟩) (fun h => Fin.ext k0_dev50_eq) (fun h => congrArg SemLoc.dma (agS_of 6 ![6] rfl inb_S8_S1_6))
    (fun h => congrArg SemLoc.dma (agR_of c (k0_off31 c) (k0_off31_eq c) (k0_off31_inb c h))) (fun h => slot_of gM c (k0_off32 c) (k0_off32_eq c) (k0_off32_inb c h))
    (fun h => slot_of gM c (k0_off32 c) (k0_off32_eq c) (k0_off32_inb c h)) 6 7 rfl rfl 0) ?_
  refine chain (send_if κ (agF A c) 7 (cond28_iff c) (n := fun h => ⟨k0_dev51, k0_dev51_lt c h⟩) (fun h => Fin.ext k0_dev51_eq) (fun h => congrArg SemLoc.dma (agS_of 7 ![7] rfl inb_S8_S1_7))
    (fun h => congrArg SemLoc.dma (agR_of c (k0_off33 c) (k0_off33_eq c) (k0_off33_inb c h))) (fun h => slot_of gM c (k0_off34 c) (k0_off34_eq c) (k0_off34_inb c h))
    (fun h => slot_of gM c (k0_off34 c) (k0_off34_eq c) (k0_off34_inb c h)) 7 8 rfl rfl 0) ?_
  rw [rem_last, zero_add, prg_last]
  refine recast (P' := iprop((CC A κ ∗ agW A c 0 ∗ owesX (F := F) c 0) ∗ bigSep Finset.univ (sPost (agF A c))
      ∗ (bigSep Finset.univ (sPost (agF A c)) ∗ agW A c 2 ∗ owesX (F := F) c 0 -∗ Q (Scalar.cmpi .ne (wd c) 2#32)))) ?_ ?_
  · iintro ⟨⟨HC, HG, HO⟩, HW, HQ⟩
    isplitl [HC HW HO]
    · isplitl [HC]; · iexact HC
      isplitl [HW]; · iexact HW
      iexact HO
    isplitl [HG]; · iexact HG
    iexact HQ
  refine chain (ag_if A κ c 0 (ne0_iff c) (fun h => congrArg SemLoc.dma (agR_of 0 ![0] rfl inb_S8_S1_0))
    (fun h => credit_of (slot_of gM 0 ![0, 0, 0, 0] rfl inb_S8x2x32x512_S1x2x32x512_0_0_0_0) (credit_gM 0)) (by exact rfl) (by exact rfl) (fun _ => rfl) 0 1 rfl rfl) ?_
  refine chain (ag_if A κ c 1 (ne1_iff c) (fun h => congrArg SemLoc.dma (agR_of 1 ![1] rfl inb_S8_S1_1))
    (fun h => credit_of (slot_of gM 1 ![1, 0, 0, 0] rfl inb_S8x2x32x512_S1x2x32x512_1_0_0_0) (credit_gM 1)) (by exact rfl) (by exact rfl) (fun _ => rfl) 1 2 rfl rfl) ?_
  iintro ⟨⟨-, HW, HO⟩, HG, HQ⟩
  iapply (wp_done c _ Q)
  iapply HQ
  isplitl [HG]; · iexact HG
  isplitl [HW]; · iexact HW
  iexact HO

/-! ## The last waits -/

/-- The waits for the two copies to each other device. -/
def endW (c : Dev nD) (m : ℕ) : sProp 𝕄 :=
  prg (fun d => iprop(wPre (F := F) c (kRsS d) ∗ wPre (F := F) c (kAgS d))) (fun d => iprop(wPost A c (kRsS d) ∗ wPost A c (kAgS d))) m

theorem pair_if (c d : Dev nD) {C : Prop} [Decidable C] (hC : C ↔ c ≠ d)
    {n n' : C → DmaSem sig} (hn : ∀ h, SemLoc.dma (n h) = osem (kRsS d)) (hn' : ∀ h, SemLoc.dma (n' h) = osem (kAgS d))
    {s s' : Shape} {e e' : EltTy} {src dst : C → Memref sig .tc .vmem s e} {src' dst' : C → Memref sig .tc .vmem s' e'}
    {hw : ∀ h, (src h).view.WordExact} {hw₂ : ∀ h, (dst h).view.WordExact} {hw' : ∀ h, (src' h).view.WordExact} {hw₂' : ∀ h, (dst' h).view.WordExact}
    (hc : ∀ h, (dst h).view.dmaCredit = N2) (hc' : ∀ h, (dst' h).view.dmaCredit = N2) (m m' : ℕ) (hm : d.val = m) (hm' : m + 1 = m')
    {α : Type} {J : Prog (TpuEff nD τ sig (Elt F) Λ₀ .tc) α} {Q : α → sProp 𝕄} :
    iprop((CC A κ ∗ endW A c m ∗ owesX (F := F) c 0) ∗ (endW A c m' ∗ owesX (F := F) c 0 -∗ WP c J Q))
      ⊢ WP c (if h : C then waitP (waitP J (n' h) (src' h) (dst' h) (hw' h) (hw₂' h)) (n h) (src h) (dst h) (hw h) (hw₂ h) else J) Q := by
  unfold endW
  iintro ⟨⟨#HC, HP, HO⟩, HQ⟩
  ihave HP := (prg_step (fun d => iprop(wPre (F := F) c (kRsS d) ∗ wPre (F := F) c (kAgS d))) (fun d => iprop(wPost A c (kRsS d) ∗ wPost A c (kAgS d))) d m m' hm hm') $$ HP
  icases HP with ⟨Hd, Hback⟩
  iapply (wait2_if A κ c (kRsS d) (kAgS d) (hC.trans (decide_eq_true_iff (p := c ≠ d)).symm) rfl hn hn' (src := src) (dst := dst) (src' := src') (dst' := dst')
    hc hc' (above_zero _) (above_zero _)) $$ [Hd HO Hback HQ]
  isplitl [Hd HO]
  · isplitr; · iexact HC
    isplitl [Hd]; · iexact Hd
    iexact HO
  iintro ⟨Hd, HO⟩
  iapply HQ
  isplitl [Hd Hback]
  · iapply Hback; iexact Hd
  iexact HO

/-- The send cells of the keys and values, before and after. -/
def kvSPos (c : Dev nD) : sProp 𝕄 :=
  iprop(bigSep Finset.univ (fun d : Dev nD => posn (F := F) c (.inl (d, 0))) ∗ bigSep Finset.univ (fun d : Dev nD => posn (F := F) c (.inl (d, 1))))
def kvSDone (c : Dev nD) : sProp 𝕄 :=
  iprop(bigSep Finset.univ (fun d : Dev nD => done (F := F) c (.inl (d, 0))) ∗ bigSep Finset.univ (fun d : Dev nD => done (F := F) c (.inl (d, 1))))
def kvOwn0 : sProp 𝕄 := iprop(pt 0 (src0 kfM 0) fullShare (A.kf 0) ∗ pt 0 (src0 vfM 0) fullShare (A.vf 0))
def kvOwn1 : sProp 𝕄 := iprop(pt 1 (src1 kfM 1) fullShare (A.kf 1) ∗ pt 1 (src1 vfM 1) fullShare (A.vf 1) ∗ rest1 A)
def kvEnd (a b a' b' : ℕ) (c : Dev nD) : sProp 𝕄 :=
  kvSt c iprop(WS0 A a b ∗ kvOwn0 A) iprop(WS1 A a' b' ∗ kvOwn1 A) iprop(src A c ∗ kvSDone (F := F) c ∗ owesX (F := F) c 0)

theorem kvEnd_enter (c : Dev nD) : iprop(kvBack A c ∗ kvSPos (F := F) c ∗ owesX (F := F) c 0) ⊢ kvEnd A 0 0 0 0 c := by
  refine kvSt_cases (P := fun c => iprop(kvBack A c ∗ kvSPos (F := F) c ∗ owesX (F := F) c 0) ⊢ kvEnd A 0 0 0 0 c) c ?_ ?_ ?_
  · unfold kvBack kvEnd kvSPos WS0 kvCr kvOwn0 wPre
    rw [kvSt_0, kvSt_0, prg_zero, prg_zero, bigSep_sep', bigSep_sep']
    iintro ⟨⟨⟨HA, HB⟩, HK⟩, ⟨HP, HP'⟩, HO⟩
    isplitl [HA HB HP HP' HO]
    · isplitl [HA HP]
      · isplitl [HA]; · iexact HA
        iexact HP
      isplitl [HB HP']
      · isplitl [HB]; · iexact HB
        iexact HP'
      iexact HO
    iexact HK
  · unfold kvBack kvEnd kvSPos WS1 kvCr kvOwn1 wPre
    rw [kvSt_1, kvSt_1, prg_zero, prg_zero, bigSep_sep', bigSep_sep']
    iintro ⟨⟨⟨HA, HB⟩, HK⟩, ⟨HP, HP'⟩, HO⟩
    isplitl [HA HB HP HP' HO]
    · isplitl [HA HP]
      · isplitl [HA]; · iexact HA
        iexact HP
      isplitl [HB HP']
      · isplitl [HB]; · iexact HB
        iexact HP'
      iexact HO
    iexact HK
  · intro c h0 h1
    have hx : ∀ (d : Dev nD) (t : Fin 2), posn (F := F) c (.inl (d, t)) = done (F := F) c (.inl (d, t)) := fun d t => by
      have ha : act c (kdOf (.inl (d, t))) = false := decide_eq_false fun hh => by
        have := hh.1
        have e0 : c.val ≠ 0 := fun e => h0 (Fin.ext e)
        have e1 : c.val ≠ 1 := fun e => h1 (Fin.ext e)
        omega
      unfold posn done
      rw [ha]; rfl
    unfold kvBack kvEnd kvSPos kvSDone
    rw [kvSt_n h0 h1, kvSt_n h0 h1, bigSep_congr (Φ := fun d : Dev nD => posn (F := F) c (.inl (d, 0))) (fun d _ => hx d 0),
      bigSep_congr (Φ := fun d : Dev nD => posn (F := F) c (.inl (d, 1))) (fun d _ => hx d 1)]

theorem kvEnd_leave (c : Dev nD) : kvEnd A 8 8 8 8 c ⊢ iprop(src A c ∗ kvSDone (F := F) c ∗ owesX (F := F) c 0) := by
  refine kvSt_cases (P := fun c => kvEnd A 8 8 8 8 c ⊢ iprop(src A c ∗ kvSDone (F := F) c ∗ owesX (F := F) c 0)) c ?_ ?_ ?_
  · unfold kvEnd kvSDone WS0 kvOwn0 src
    rw [kvSt_0, prg_last, prg_last, fam_got A 0 (fun d => .inl (d, 0)) (by decide), fam_got A 0 (fun d => .inl (d, 1)) (by decide),
      kf0_eq, vf0_eq, bigSep_take (Φ := fun d => pt 0 (src0 kfM d) fullShare (A.kf 0)) 0, bigSep_take (Φ := fun d => pt 0 (src0 vfM d) fullShare (A.vf 0)) 0]
    iintro ⟨⟨⟨HD, HK⟩, ⟨HD', HV⟩, HO⟩, HK0, HV0⟩
    isplitl [HK HV HK0 HV0]
    · isplitl [HK HK0]
      · isplitl [HK0]; · iexact HK0
        iexact HK
      isplitl [HV0]; · iexact HV0
      iexact HV
    isplitl [HD HD']
    · isplitl [HD]; · iexact HD
      iexact HD'
    iexact HO
  · unfold kvEnd kvSDone WS1 kvOwn1 src rest1
    rw [kvSt_1, prg_last, prg_last, fam_got A 1 (fun d => .inl (d, 0)) (by decide), fam_got A 1 (fun d => .inl (d, 1)) (by decide)]
    iintro ⟨⟨⟨HD, HK⟩, ⟨HD', HV⟩, HO⟩, HK0, HV0, ⟨HKr, HVr⟩⟩
    isplitl [HK HV HK0 HV0 HKr HVr]
    · isplitl [HK HK0 HKr]
      · iapply (kf1_cut 1 (A.kf 1)).2
        isplitl [HK HK0]
        · iapply (Entails.of_eq ((kf1_top 1 (A.kf 1)).trans (bigSep_take (Φ := fun d => pt 1 (src1 kfM d) fullShare (A.kf 1)) 1)).symm)
          isplitl [HK0]; · iexact HK0
          iexact HK
        iexact HKr
      iapply (vf1_cut 1 (A.vf 1)).2
      isplitl [HV HV0]
      · iapply (Entails.of_eq ((vf1_top 1 (A.vf 1)).trans (bigSep_take (Φ := fun d => pt 1 (src1 vfM d) fullShare (A.vf 1)) 1)).symm)
        isplitl [HV0]; · iexact HV0
        iexact HV
      iexact HVr
    isplitl [HD HD']
    · isplitl [HD]; · iexact HD
      iexact HD'
    iexact HO
  · intro c h0 h1
    unfold kvEnd
    rw [kvSt_n h0 h1]

set_option maxHeartbeats 1000000 in
theorem part31 (c : Dev nD)  (Q : _ → sProp 𝕄) :
    iprop((CC A κ ∗ (agW A c 2 ∗ (kvBack A c ∗ kvSPos (F := F) c) ∗ endW A c 0 ∗ owesX (F := F) c 0)) ∗ (bigSep Finset.univ (gPost A c) ∗ (src A c ∗ kvSDone (F := F) c) ∗ endW A c 2 ∗ owesX (F := F) c 0 -∗ Q (Scalar.cmpi .ne (wd c) 2#32)))
    ⊢ WP c (k0_part31 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c (wd c) (Scalar.cmpi .ne (wd c) 2#32)) Q := by
  rw [k0_part31_eq_skeleton]
  unfold k0_part31_skel
  refine recast (P' := iprop((CC A κ ∗ agW A c 2 ∗ owesX (F := F) c 0) ∗ ((kvBack A c ∗ kvSPos (F := F) c) ∗ endW A c 0)
      ∗ (bigSep Finset.univ (gPost A c) ∗ (src A c ∗ kvSDone (F := F) c) ∗ endW A c 2 ∗ owesX (F := F) c 0 -∗ Q (Scalar.cmpi .ne (wd c) 2#32)))) ?_ ?_
  · iintro ⟨⟨HC, HW, HK, HE, HO⟩, HQ⟩
    isplitl [HC HW HO]
    · isplitl [HC]; · iexact HC
      isplitl [HW]; · iexact HW
      iexact HO
    isplitl [HK HE]
    · isplitl [HK]; · iexact HK
      iexact HE
    iexact HQ
  refine chain (ag_if A κ c 2 (ne2_iff c) (fun h => congrArg SemLoc.dma (agR_of 2 ![2] rfl inb_S8_S1_2))
    (fun h => credit_of (slot_of gM 2 ![2, 0, 0, 0] rfl inb_S8x2x32x512_S1x2x32x512_2_0_0_0) (credit_gM 2)) (by exact rfl) (by exact rfl) (fun _ => rfl) 2 3 rfl rfl) ?_
  refine chain (ag_if A κ c 3 (ne3_iff c) (fun h => congrArg SemLoc.dma (agR_of 3 ![3] rfl inb_S8_S1_3))
    (fun h => credit_of (slot_of gM 3 ![3, 0, 0, 0] rfl inb_S8x2x32x512_S1x2x32x512_3_0_0_0) (credit_gM 3)) (by exact rfl) (by exact rfl) (fun _ => rfl) 3 4 rfl rfl) ?_
  refine chain (ag_if A κ c 4 (ne4_iff c) (fun h => congrArg SemLoc.dma (agR_of 4 ![4] rfl inb_S8_S1_4))
    (fun h => credit_of (slot_of gM 4 ![4, 0, 0, 0] rfl inb_S8x2x32x512_S1x2x32x512_4_0_0_0) (credit_gM 4)) (by exact rfl) (by exact rfl) (fun _ => rfl) 4 5 rfl rfl) ?_
  refine chain (ag_if A κ c 5 (ne5_iff c) (fun h => congrArg SemLoc.dma (agR_of 5 ![5] rfl inb_S8_S1_5))
    (fun h => credit_of (slot_of gM 5 ![5, 0, 0, 0] rfl inb_S8x2x32x512_S1x2x32x512_5_0_0_0) (credit_gM 5)) (by exact rfl) (by exact rfl) (fun _ => rfl) 5 6 rfl rfl) ?_
  refine chain (ag_if A κ c 6 (ne6_iff c) (fun h => congrArg SemLoc.dma (agR_of 6 ![6] rfl inb_S8_S1_6))
    (fun h => credit_of (slot_of gM 6 ![6, 0, 0, 0] rfl inb_S8x2x32x512_S1x2x32x512_6_0_0_0) (credit_gM 6)) (by exact rfl) (by exact rfl) (fun _ => rfl) 6 7 rfl rfl) ?_
  refine chain (ag_if A κ c 7 (ne7_iff c) (fun h => congrArg SemLoc.dma (agR_of 7 ![7] rfl inb_S8_S1_7))
    (fun h => credit_of (slot_of gM 7 ![7, 0, 0, 0] rfl inb_S8x2x32x512_S1x2x32x512_7_0_0_0) (credit_gM 7)) (by exact rfl) (by exact rfl) (fun _ => rfl) 7 8 rfl rfl) ?_
  unfold agW
  rw [prg_last]
  refine recast (P' := iprop((CC A κ ∗ kvEnd A 0 0 0 0 c) ∗ (bigSep Finset.univ (gPost A c) ∗ endW A c 0)
      ∗ (bigSep Finset.univ (gPost A c) ∗ (src A c ∗ kvSDone (F := F) c) ∗ endW A c 2 ∗ owesX (F := F) c 0 -∗ Q (Scalar.cmpi .ne (wd c) 2#32)))) ?_ ?_
  · iintro ⟨⟨HC, HG, HO⟩, ⟨⟨HB, HP⟩, HE⟩, HQ⟩
    isplitl [HC HB HP HO]
    · isplitl [HC]; · iexact HC
      iapply (kvEnd_enter A c)
      isplitl [HB]; · iexact HB
      isplitl [HP]; · iexact HP
      iexact HO
    isplitl [HG HE]
    · isplitl [HG]; · iexact HG
      iexact HE
    iexact HQ
  refine chain (wp_block _ (kvEnd A 8 8 0 0 c) (fun h => ?_) (fun h => ?_)) ?_
  · obtain rfl := (eq0_iff c).mp h
    unfold kvEnd
    rw [kvSt_0, kvSt_0]
    refine recast regroup ?_
    refine recastP (wskip0 A) ?_
    refine chain (part_bind fun Q' => part14 A κ Q') ?_
    refine chain (wvstep0 A κ 7 (by decide) (kvS_of 7 1 ![7, 1] rfl inb_S8x2_S1x1_7_1)
      (credit_of (src0_of vfM 7 ![0, 0, 1792] rfl inb_S2x256x2048_S2x256x256_0_0_1792) (credit_vf0 7)) 8 7 8 rfl rfl) ?_
    iintro ⟨⟨-, HK⟩, HW, HQ⟩
    iapply HQ
    isplitl [HK]; · iexact HK
    iexact HW
  · have hne : c ≠ 0 := fun e => h ((eq0_iff c).mpr e)
    iintro ⟨-, H⟩
    unfold kvEnd
    iapply (Entails.of_eq (kvSt_congr0 hne _ _ _ _))
    iexact H
  refine chain (wp_block _ (kvEnd A 8 8 8 8 c) (fun h => ?_) (fun h => ?_)) ?_
  · obtain rfl := (eq1_iff c).mp h
    unfold kvEnd
    rw [kvSt_1, kvSt_1]
    refine recast regroup ?_
    refine chain (part_bind fun Q' => part18 A κ Q') ?_
    refine chain (wvstep1 A κ 7 (by decide) (kvS_of 7 1 ![7, 1] rfl inb_S8x2_S1x1_7_1)
      (credit_of (src1_of vfM 7 ![0, 0, 1792] rfl inb_S2x256x2048_S2x128x256_0_0_1792) (credit_vf1 7)) 8 7 8 rfl rfl) ?_
    iintro ⟨⟨-, HK⟩, HW, HQ⟩
    iapply HQ
    isplitl [HK]; · iexact HK
    iexact HW
  · have hne : c ≠ 1 := fun e => h ((eq1_iff c).mpr e)
    iintro ⟨-, H⟩
    unfold kvEnd
    iapply (Entails.of_eq (kvSt_congr1 hne _ _ _ _))
    iexact H
  refine recast (P' := iprop((CC A κ ∗ endW A c 0 ∗ owesX (F := F) c 0) ∗ (bigSep Finset.univ (gPost A c) ∗ (src A c ∗ kvSDone (F := F) c))
      ∗ (bigSep Finset.univ (gPost A c) ∗ (src A c ∗ kvSDone (F := F) c) ∗ endW A c 2 ∗ owesX (F := F) c 0 -∗ Q (Scalar.cmpi .ne (wd c) 2#32)))) ?_ ?_
  · iintro ⟨⟨HC, HK⟩, ⟨HG, HE⟩, HQ⟩
    ihave HK := (kvEnd_leave A c) $$ HK
    icases HK with ⟨HS, HD, HO⟩
    isplitl [HC HE HO]
    · isplitl [HC]; · iexact HC
      isplitl [HE]; · iexact HE
      iexact HO
    isplitl [HG HS HD]
    · isplitl [HG]; · iexact HG
      isplitl [HS]; · iexact HS
      iexact HD
    iexact HQ
  refine chain (pair_if A κ c 0 (cond39_iff c) (fun h => congrArg SemLoc.dma (rsS_of 0 ![0] rfl inb_S8_S1_0)) (fun h => congrArg SemLoc.dma (agS_of 0 ![0] rfl inb_S8_S1_0))
    (fun h => credit_of (chunk_of 0 ![0, 0, 0] rfl inb_S2x256x512_S2x32x512_0_0_0) (credit_chunk 0))
    (fun h => credit_of (slot_of gM c (k0_off35 c) (k0_off35_eq c) (k0_off35_inb c h)) (credit_gM c)) 0 1 rfl rfl) ?_
  refine chain (pair_if A κ c 1 (cond40_iff c) (fun h => congrArg SemLoc.dma (rsS_of 1 ![1] rfl inb_S8_S1_1)) (fun h => congrArg SemLoc.dma (agS_of 1 ![1] rfl inb_S8_S1_1))
    (fun h => credit_of (chunk_of 1 ![0, 32, 0] rfl inb_S2x256x512_S2x32x512_0_32_0) (credit_chunk 1))
    (fun h => credit_of (slot_of gM c (k0_off36 c) (k0_off36_eq c) (k0_off36_inb c h)) (credit_gM c)) 1 2 rfl rfl) ?_
  iintro ⟨⟨-, HE, HO⟩, ⟨HG, HS⟩, HQ⟩
  iapply (wp_done c _ Q)
  iapply HQ
  isplitl [HG]; · iexact HG
  isplitl [HS]; · iexact HS
  isplitl [HE]; · iexact HE
  iexact HO

end Cert.KernelIdeal.Hand

end
-- ==== Proof.I.Body.lean ====
/-
  THE BODY WHOLE: its parts one after the other.
-/
module

public import proofs.«01_k».proof.Proof.I.Collect

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

variable (A : In F) (κ : GSem nD τ sig → ℕ)

/-- What the two exchanges of the partial outputs owe. -/
def remR (c : Dev nD) : CellTallies nD τ sig Unit := rem (sT (rsF A c)) 0 + (rem (sT (agF A c)) 0 + 0)

theorem above_remR (c : Dev nD) : Above 2 (remR A c) :=
  above_add (above_sum _ _ fun d => above_Trs c d) (above_add (above_sum _ _ fun d => above_mono (above_Tag c d) (by decide)) (above_zero _))
theorem above_remG (c : Dev nD) : Above 3 (rem (sT (agF A c)) 0 + 0) :=
  above_add (above_sum _ _ fun d => above_Tag c d) (above_zero _)
theorem above_kvO (c : Dev nD) : Above 1 (kvO c (remR A c)) :=
  above_add (above_sum _ _ fun d => above_Tkv c 0 d) (above_add (above_sum _ _ fun d => above_Tkv c 1 d) (above_mono (above_remR A c) (by decide)))

/-- What a device holds for each stage of its body. -/
def start (c : Dev nD) : sProp 𝕄 :=
  iprop((prg (bPre (F := F) c) (bPost (F := F)) 1 ∗ owesX (F := F) c (rem (Tb c) 1 + kvO c (remR A c)))
    ∗ (barIn (F := F) c ∗ (kvTok (F := F) c ∗ src A c ∗ KD (F := F) c c) ∗ ins A c) ∗ (kvIn (F := F) 0 c ∗ kvIn (F := F) 1 c) ∗ anyPt (F := F) c pM
    ∗ (rsTok (F := F) c ∗ anyPt (F := F) c (slot rM c) ∗ rsW A c 0) ∗ (anyPt (F := F) c (oChunk c) ∗ anyPt (F := F) c (slot gM c))
    ∗ (agTok (F := F) c ∗ agW A c 0) ∗ kvSPos (F := F) c
    ∗ (bigSep Finset.univ (fun d : Dev nD => posn (F := F) c (kRsS d)) ∗ bigSep Finset.univ (fun d : Dev nD => posn (F := F) c (kAgS d))))

/-- All its cells of the kernel's semaphores at the end, by exchange. -/
def doneAll (c : Dev nD) : sProp 𝕄 :=
  iprop(kvSDone (F := F) c ∗ kvDone (F := F) c ∗ bigSep Finset.univ (fun d : Dev nD => done (F := F) c (kRsS d)) ∗ bigSep Finset.univ (fun d : Dev nD => done (F := F) c (kRsR d))
    ∗ bigSep Finset.univ (fun d : Dev nD => done (F := F) c (kAgS d)) ∗ bigSep Finset.univ (fun d : Dev nD => done (F := F) c (kAgR d)))

/-- What it holds at the end. -/
def finish (c : Dev nD) : sProp 𝕄 :=
  iprop((ins A c ∗ src A c) ∗ (KVp A c ∗ pt c pM fullShare (PART A c) ∗ pt c rM fullShare (RS A c) ∗ pt c gM fullShare (AG A)) ∗ pt c oM fullShare (OUT A c)
    ∗ atPos ER (barCell c) 1 ∅ 0 ∗ doneAll (F := F) c ∗ owesX (F := F) c 0)

theorem gPost_all (c : Dev nD) : bigSep Finset.univ (gPost A c) = iprop(bigSep Finset.univ (fun d : Dev nD => done (F := F) c (kAgR d))
    ∗ (bigSep (Finset.univ.erase c) (fun d => pt c (slot gM d) fullShare (AG A)) ∗ bigSep (Finset.univ.erase c) (fun d => pt c (oChunk d) fullShare (OUT A c)))) := by
  unfold gPost
  rw [bigSep_sep', bigSep_but, bigSep_sep']

/-- The buffers whole again. -/
theorem tidy (c : Dev nD) : iprop(endW A c 8 ∗ bigSep Finset.univ (gPost A c) ∗ pt c (chunk c) fullShare (PART A c) ∗ pt c (oChunk c) fullShare (OUT A c))
    ⊢ iprop((pt c pM fullShare (PART A c) ∗ pt c gM fullShare (AG A) ∗ pt c oM fullShare (OUT A c))
      ∗ bigSep Finset.univ (fun d : Dev nD => done (F := F) c (kRsS d)) ∗ bigSep Finset.univ (fun d : Dev nD => done (F := F) c (kAgS d))
      ∗ bigSep Finset.univ (fun d : Dev nD => done (F := F) c (kAgR d))) := by
  unfold endW
  rw [prg_last, bigSep_sep', fam_got A c kRsS (fun _ => rfl), fam_got A c kAgS (fun _ => rfl), gPost_all, p_eq, g_eq, o_eq,
    bigSep_take (Φ := fun d => pt c (chunk d) fullShare (PART A c)) c, bigSep_take (Φ := fun d => pt c (slot gM d) fullShare (AG A)) c,
    bigSep_take (Φ := fun d => pt c (oChunk d) fullShare (OUT A c)) c, ag_deal]
  iintro ⟨⟨⟨HD, HP⟩, ⟨HD', HG⟩⟩, ⟨HD'', HGs, HOs⟩, Hc, Ho⟩
  isplitl [HP HG HGs HOs Hc Ho]
  · isplitl [HP Hc]
    · isplitl [Hc]; · iexact Hc
      iexact HP
    isplitl [HG HGs]
    · isplitl [HG]; · iexact HG
      iexact HGs
    isplitl [Ho]; · iexact Ho
    iexact HOs
  isplitl [HD]; · iexact HD
  isplitl [HD']; · iexact HD'
  iexact HD''

theorem part20_bind (c : Dev nD) {R : CellTallies nD τ sig Unit} (hR : Above 1 (kvO c R)) {β : Type} {k : _ → Prog (TpuEff nD τ sig (Elt F) Λ₀ .tc) β} {Q : β → sProp 𝕄} :
    iprop((C0 A κ c ∗ st20 (F := F) c R) ∗ fr20 A c
      ∗ (CC A κ -∗ barOut (F := F) c -∗ kvMid A c -∗ owesX (F := F) c R -∗ ins A c
        -∗ WP c (k ⟨k0_pay5 (xld0 A c) (wqld A c), k0_pay6 (xld1 A c) (wqld A c), Scalar.extui (Scalar.cmpi .ne (wd c) 0#32), 0#32⟩) Q))
    ⊢ WP c (k0_part20 xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10 c (wd c) (SemArray.scalar (sig.barrier 0 rfl)) (Scalar.addi (wd c) 6#32) 8#32 >>= k) Q := by
  rw [WP_bind]; exact part20 A κ c R hR fun a => WP c (k a) Q

/-- The waits for the copies of the exchanges, ready. -/
theorem endW_enter (c : Dev nD) : iprop((bigSep Finset.univ (sPost (rsF A c)) ∗ bigSep Finset.univ (sPost (agF A c)))
    ∗ bigSep Finset.univ (fun d : Dev nD => posn (F := F) c (kRsS d)) ∗ bigSep Finset.univ (fun d : Dev nD => posn (F := F) c (kAgS d))) ⊢ endW A c 0 := by
  unfold endW wPre
  rw [prg_zero, bigSep_sep', bigSep_sep', bigSep_sep']
  iintro ⟨⟨HA, HB⟩, HC, HD⟩
  isplitl [HA HC]
  · isplitl [HA]; · iexact HA
    iexact HC
  isplitl [HB]; · iexact HB
  iexact HD

set_option maxHeartbeats 2000000 in
theorem body_core (c : Dev nD) (Q : PUnit → sProp 𝕄) :
    iprop(C0 A κ c ∗ start A c ∗ (finish A c -∗ Q ⟨⟩)) ⊢ WP c (cc0_body xM (Memref.isWhole_whole _) wqM (Memref.isWhole_whole _) kfM (Memref.isWhole_whole _) vfM (Memref.isWhole_whole _) woM (Memref.isWhole_whole _) oM (Memref.isWhole_whole _) kM (Memref.isWhole_whole _) vM (Memref.isWhole_whole _) pM (Memref.isWhole_whole _) rM (Memref.isWhole_whole _) gM (Memref.isWhole_whole _) cc0_scratch5 cc0_scratch6 cc0_scratch7 cc0_scratch8 cc0_scratch9 cc0_scratch10) Q := by
  rw [cc0_body_eq_skeleton]
  unfold cc0_body_skel start
  iintro ⟨#H0, ⟨⟨Hb, HO⟩, ⟨Hbar, Hkv, Hins⟩, Hin, ⟨%f, Hp⟩, ⟨Hrt, Hr, Hrw⟩, ⟨Ho, Hg⟩, ⟨Hat, Haw⟩, Hks, ⟨He, He'⟩⟩, HQ⟩
  iapply (part_bind (fun Q' => part19 A κ c (kvO c (remR A c)) Q'))
  isplitl [Hb HO]
  · isplitr; · iexact H0
    isplitl [Hb]; · iexact Hb
    iexact HO
  iintro H
  iapply (part20_bind A κ c (above_kvO A c))
  isplitl [H]
  · isplitr; · iexact H0
    unfold st20; iexact H
  isplitl [Hbar Hkv Hins]
  · unfold fr20
    isplitl [Hbar]; · iexact Hbar
    isplitl [Hkv]; · iexact Hkv
    iexact Hins
  iintro #HC Hbo Hmid HO Hins
  unfold barOut ins
  icases Hbo with ⟨Hbar, HlR, HlG⟩
  icases Hins with ⟨Hx, Hwq, Hwo⟩
  iapply (part_bind (fun Q' => part21 A κ c (remR A c) (above_remR A c) _ Q'))
  isplitl [Hmid HO Hin]
  · isplitr; · iexact HC
    isplitl [Hmid]; · iexact Hmid
    icases Hin with ⟨H0i, H1i⟩
    isplitl [H0i]; · iexact H0i
    isplitl [H1i]; · iexact H1i
    iexact HO
  iintro ⟨Hback, Hkd, HKV, HO⟩
  iapply (part_bind (fun Q' => part22 A κ c f _ _ _ _ Q'))
  isplitl [HKV Hwo Hp]
  · isplitr; · iexact HC
    unfold att KVp
    icases HKV with ⟨HK, HV⟩
    isplitl [HK]; · iexact HK
    isplitl [HV]; · iexact HV
    isplitl [Hwo]; · iexact Hwo
    iexact Hp
  iintro Ha
  iapply (part_bind (fun Q' => part23 A κ c f _ _ _ _ _ _ _ Q'))
  isplitl [Ha]
  · isplitr; · iexact HC
    iexact Ha
  iintro Ha
  iapply (part_bind (fun Q' => part24 A κ c f _ _ _ rfl Q'))
  isplitl [Ha]
  · isplitr; · iexact HC
    iexact Ha
  iintro Ha
  iapply (part_bind (fun Q' => part25 A κ c (half0 A c f) _ _ _ _ _ Q'))
  isplitl [Ha]
  · isplitr; · iexact HC
    iexact Ha
  iintro Ha
  iapply (part_bind (fun Q' => part26 A κ c f (rem (sT (agF A c)) 0 + 0) _ _ _ _ _ _ rfl Q'))
  isplitl [Ha HlR Hrt HO]
  · isplitr; · iexact HC
    isplitl [Ha]; · iexact Ha
    isplitl [HlR Hrt]
    · isplitl [HlR]; · iexact HlR
      iexact Hrt
    unfold remR
    iexact HO
  iintro ⟨⟨HKV, Hwo, Hc⟩, Hrs, HO⟩
  iapply (part_bind (fun Q' => part27 A κ c (rem (sT (agF A c)) 0 + 0) (above_remG A c) Q'))
  isplitl [Hrs HO Hc Hr Hrw]
  · isplitr; · iexact HC
    isplitl [Hrs HO]
    · isplitl [Hrs]; · iexact Hrs
      iexact HO
    isplitl [Hc]; · iexact Hc
    isplitl [Hr]; · iexact Hr
    iexact Hrw
  iintro ⟨Hrs, Hc, Hr, Hrw, HO⟩
  iapply (part_bind (fun Q' => part28 A κ c (rem (sT (agF A c)) 0 + 0) (above_remG A c) Q'))
  isplitl [HO Hr Hrw]
  · isplitr; · iexact HC
    isplitl [Hrw]; · iexact Hrw
    isplitl [Hr]; · iexact Hr
    iexact HO
  iintro ⟨Hrd, Hr, HO⟩
  iapply (part_bind (fun Q' => part29 A κ c Q'))
  isplitl [Hr Ho Hg]
  · isplitr; · iexact HC
    isplitl [Hr]; · iexact Hr
    isplitl [Ho]; · iexact Ho
    iexact Hg
  iintro ⟨Hr, Ho, Hg⟩
  iapply (part_bind (fun Q' => part30 A κ c Q'))
  isplitl [Hg HlG Hat Haw HO]
  · isplitr; · iexact HC
    isplitl [Hg HlG Hat]
    · isplitl [Hg]; · iexact Hg
      isplitl [HlG]; · iexact HlG
      iexact Hat
    isplitl [Haw]; · iexact Haw
    iexact HO
  iintro ⟨Hag, Haw, HO⟩
  iapply (part_bind (fun Q' => part31 A κ c Q'))
  isplitl [Haw Hback Hks Hrs Hag He He' HO]
  · isplitr; · iexact HC
    isplitl [Haw]; · iexact Haw
    isplitl [Hback Hks]
    · isplitl [Hback]; · iexact Hback
      iexact Hks
    isplitr [HO]
    · iapply (endW_enter A c)
      isplitl [Hrs Hag]
      · isplitl [Hrs]; · iexact Hrs
        iexact Hag
      isplitl [He]; · iexact He
      iexact He'
    iexact HO
  iintro ⟨HGp, ⟨Hsrc, Hksd⟩, HE, HO⟩
  iapply (pair_if A κ c 2 (cond41_iff c) (fun h => congrArg SemLoc.dma (rsS_of 2 ![2] rfl inb_S8_S1_2)) (fun h => congrArg SemLoc.dma (agS_of 2 ![2] rfl inb_S8_S1_2))
    (fun h => credit_of (chunk_of 2 ![0, 64, 0] rfl inb_S2x256x512_S2x32x512_0_64_0) (credit_chunk 2))
    (fun h => credit_of (slot_of gM c (k0_off37 c) (k0_off37_eq c) (k0_off37_inb c h)) (credit_gM c)) 2 3 rfl rfl)
  isplitl [HE HO]
  · isplitr; · iexact HC
    isplitl [HE]; · iexact HE
    iexact HO
  iintro ⟨HE, HO⟩
  iapply (pair_if A κ c 3 (cond42_iff c) (fun h => congrArg SemLoc.dma (rsS_of 3 ![3] rfl inb_S8_S1_3)) (fun h => congrArg SemLoc.dma (agS_of 3 ![3] rfl inb_S8_S1_3))
    (fun h => credit_of (chunk_of 3 ![0, 96, 0] rfl inb_S2x256x512_S2x32x512_0_96_0) (credit_chunk 3))
    (fun h => credit_of (slot_of gM c (k0_off38 c) (k0_off38_eq c) (k0_off38_inb c h)) (credit_gM c)) 3 4 rfl rfl)
  isplitl [HE HO]
  · isplitr; · iexact HC
    isplitl [HE]; · iexact HE
    iexact HO
  iintro ⟨HE, HO⟩
  iapply (pair_if A κ c 4 (cond43_iff c) (fun h => congrArg SemLoc.dma (rsS_of 4 ![4] rfl inb_S8_S1_4)) (fun h => congrArg SemLoc.dma (agS_of 4 ![4] rfl inb_S8_S1_4))
    (fun h => credit_of (chunk_of 4 ![0, 128, 0] rfl inb_S2x256x512_S2x32x512_0_128_0) (credit_chunk 4))
    (fun h => credit_of (slot_of gM c (k0_off39 c) (k0_off39_eq c) (k0_off39_inb c h)) (credit_gM c)) 4 5 rfl rfl)
  isplitl [HE HO]
  · isplitr; · iexact HC
    isplitl [HE]; · iexact HE
    iexact HO
  iintro ⟨HE, HO⟩
  iapply (pair_if A κ c 5 (cond44_iff c) (fun h => congrArg SemLoc.dma (rsS_of 5 ![5] rfl inb_S8_S1_5)) (fun h => congrArg SemLoc.dma (agS_of 5 ![5] rfl inb_S8_S1_5))
    (fun h => credit_of (chunk_of 5 ![0, 160, 0] rfl inb_S2x256x512_S2x32x512_0_160_0) (credit_chunk 5))
    (fun h => credit_of (slot_of gM c (k0_off40 c) (k0_off40_eq c) (k0_off40_inb c h)) (credit_gM c)) 5 6 rfl rfl)
  isplitl [HE HO]
  · isplitr; · iexact HC
    isplitl [HE]; · iexact HE
    iexact HO
  iintro ⟨HE, HO⟩
  iapply (pair_if A κ c 6 (cond45_iff c) (fun h => congrArg SemLoc.dma (rsS_of 6 ![6] rfl inb_S8_S1_6)) (fun h => congrArg SemLoc.dma (agS_of 6 ![6] rfl inb_S8_S1_6))
    (fun h => credit_of (chunk_of 6 ![0, 192, 0] rfl inb_S2x256x512_S2x32x512_0_192_0) (credit_chunk 6))
    (fun h => credit_of (slot_of gM c (k0_off41 c) (k0_off41_eq c) (k0_off41_inb c h)) (credit_gM c)) 6 7 rfl rfl)
  isplitl [HE HO]
  · isplitr; · iexact HC
    isplitl [HE]; · iexact HE
    iexact HO
  iintro ⟨HE, HO⟩
  iapply (pair_if A κ c 7 (cond46_iff c) (fun h => congrArg SemLoc.dma (rsS_of 7 ![7] rfl inb_S8_S1_7)) (fun h => congrArg SemLoc.dma (agS_of 7 ![7] rfl inb_S8_S1_7))
    (fun h => credit_of (chunk_of 7 ![0, 224, 0] rfl inb_S2x256x512_S2x32x512_0_224_0) (credit_chunk 7))
    (fun h => credit_of (slot_of gM c (k0_off42 c) (k0_off42_eq c) (k0_off42_inb c h)) (credit_gM c)) 7 8 rfl rfl)
  isplitl [HE HO]
  · isplitr; · iexact HC
    isplitl [HE]; · iexact HE
    iexact HO
  iintro ⟨HE, HO⟩
  iapply (wp_done c _ Q)
  iapply HQ
  ihave HT := (tidy A c) $$ [HE HGp Hc Ho]
  · isplitl [HE]; · iexact HE
    isplitl [HGp]; · iexact HGp
    isplitl [Hc]; · iexact Hc
    iexact Ho
  icases HT with ⟨⟨Hp, Hg, Ho⟩, Hd1, Hd2, Hd3⟩
  unfold finish doneAll ins
  isplitl [Hx Hwq Hwo Hsrc]
  · isplitl [Hx Hwq Hwo]
    · isplitl [Hx]; · iexact Hx
      isplitl [Hwq]; · iexact Hwq
      iexact Hwo
    iexact Hsrc
  isplitl [HKV Hp Hr Hg]
  · isplitl [HKV]; · iexact HKV
    isplitl [Hp]; · iexact Hp
    isplitl [Hr]; · iexact Hr
    iexact Hg
  isplitl [Ho]; · iexact Ho
  isplitl [Hbar]; · iexact Hbar
  isplitr [HO]
  · isplitl [Hksd]; · iexact Hksd
    isplitl [Hkd]; · iexact Hkd
    isplitl [Hd1]; · iexact Hd1
    isplitl [Hrd]; · iexact Hrd
    isplitl [Hd2]; · iexact Hd2
    iexact Hd3
  iexact HO

end Cert.KernelIdeal.Hand

end
-- ==== Proof.I.Enter.lean ====
/-
  THE ENTRY of the kernel's body from what a device holds when its region starts, and its exit: the counters back at zero.
-/
module

public import proofs.«01_k».proof.Proof.I.Body

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (A : In F) (κ : GSem nD τ sig → ℕ)

/-! ## All cells of the kernel's own semaphores, by exchange -/

theorem bigSep_f2 (Φ : Fin 2 → sProp 𝕄) : bigSep Finset.univ Φ = iprop(Φ 0 ∗ Φ 1) := BI.bigSep_fin_two Φ

theorem bigSep_KK (Φ : KK → sProp 𝕄) : bigSep Finset.univ Φ
    = iprop((bigSep Finset.univ (fun d : Dev nD => Φ (.inl (d, 0))) ∗ bigSep Finset.univ (fun d : Dev nD => Φ (.inl (d, 1))))
      ∗ ((Φ (kr 0 0) ∗ Φ (kr 0 1)) ∗ (Φ (kr 1 0) ∗ Φ (kr 1 1)))
      ∗ bigSep Finset.univ (fun d : Dev nD => Φ (kRsS d)) ∗ bigSep Finset.univ (fun d : Dev nD => Φ (kRsR d))
      ∗ bigSep Finset.univ (fun d : Dev nD => Φ (kAgS d)) ∗ bigSep Finset.univ (fun d : Dev nD => Φ (kAgR d))) := by
  rw [bigSep_univ_sum, bigSep_univ_sum, bigSep_univ_sum, bigSep_univ_sum, bigSep_univ_sum, bigSep_univ_prod, bigSep_univ_prod,
    bigSep_congr (Φ := fun a : Dev nD => bigSep Finset.univ fun b : Fin 2 => Φ (.inl (a, b))) (fun a _ => bigSep_f2 fun b => Φ (.inl (a, b))),
    bigSep_f2, bigSep_f2, bigSep_f2, bigSep_sep']
  rfl

/-- The invariants of the cells other than the barriers'. -/
def ownInvs : sProp 𝕄 := bigSep Finset.univ fun p : Dev nD × KK => cellInv ER (sched A) (κ (cell p.1 (osem p.2))) (cell p.1 (osem p.2))
instance ownInvs_persistent : BI.Persistent (ownInvs A κ) := by unfold ownInvs; infer_instance

theorem ownInvs_at (c : Dev nD) (k : KK) : ownInvs A κ ⊢ cellInv ER (sched A) (κ (cell c (osem k))) (cell c (osem k)) :=
  big_at (Φ := fun p : Dev nD × KK => (cellInv ER (sched A) (κ (cell p.1 (osem p.2))) (cell p.1 (osem p.2)) : sProp 𝕄)) (c, k)

/-- Opening every cell of a device: its counters are handed in. -/
theorem open_all (c : Dev nD) :
    iprop(ownInvs A κ ∗ bigSep Finset.univ (fun k : KK => (openTok ER (cell c (osem k)) : sProp 𝕄)) ∗ bigSep Finset.univ (fun k : KK => (semVal (cell c (osem k)) 0 : sProp 𝕄)))
      ⊢ (|={Set.univ}=> (bigSep Finset.univ (fun k : KK => posn (F := F) c k) ∗ reachAll (F := F) c) : sProp 𝕄) := by
  unfold reachAll
  rw [← bigSep_sep', ← bigSep_sep']
  refine BI.Entails.trans (bigSep_with_persistent (R := ownInvs A κ) (Ψ := fun k : KK => iprop(|={Set.univ}=> (posn (F := F) c k ∗ reached ER (cell c (osem k)) 0))) fun k _ => ?_)
    (bigSep_fupd _ _)
  unfold posn
  iintro ⟨#H, Ho, Hs⟩
  iapply (Rounds.cell_open ER (sched A) (g := cell c (osem k)) (Set.mem_univ (κ (cell c (osem k)))))
  isplitr; · iapply (ownInvs_at A κ c k); iexact H
  isplitl [Ho]; · iexact Ho
  iexact Hs

theorem close_one (c : Dev nD) (k : KK) : iprop(Ctx A κ ∗ done (F := F) c k) ⊢ (|={Set.univ}=> semVal (cell c (osem k)) 0 : sProp 𝕄) := by
  unfold done
  iintro ⟨#H, Hd⟩
  iapply (Rounds.cell_close ER (sched A) (g := cell c (osem k)) (κ := κ (cell c (osem k))) (Set.mem_univ _) id
    (R := if act c (kdOf k) then 1 else 0) (fun r hr => by
      by_cases h : act c (kdOf k) = true
      · rw [if_pos h] at hr; exact duties_later A _ r hr
      · exact duties_inact A c k (Bool.not_eq_true _ ▸ h) r))
  isplitr; · iapply (Ctx_dma A κ c k); iexact H
  iexact Hd

/-- Closing every cell of a device at the end: its counters come back at zero. -/
theorem close_all (c : Dev nD) : iprop(Ctx A κ ∗ doneAll (F := F) c)
    ⊢ (|={Set.univ}=> bigSep Finset.univ (fun k : KK => (semVal (cell c (osem k)) 0 : sProp 𝕄)) : sProp 𝕄) := by
  unfold doneAll kvSDone kvDone
  rw [← bigSep_KK (fun k => done (F := F) c k)]
  exact BI.Entails.trans (bigSep_with_persistent (R := Ctx A κ) (Ψ := fun k : KK => iprop(|={Set.univ}=> semVal (cell c (osem k)) 0)) fun k _ => close_one A κ c k)
    (bigSep_fupd _ _)

theorem close_bar (c : Dev nD) : iprop(Ctx A κ ∗ atPos ER (barCell c) 1 ∅ 0) ⊢ (|={Set.univ}=> semVal (barCell c) 0 : sProp 𝕄) := by
  iintro ⟨#H, Hd⟩
  iapply (Rounds.cell_close ER (sched A) (g := barCell c) (κ := κ (barCell c)) (Set.mem_univ _) id (R := 1) (fun r hr => duties_later A _ r hr))
  isplitr
  · ihave H' := (Ctx_bar A κ c) $$ H
    icases H' with ⟨H', -⟩
    iexact H'
  iexact Hd

/-! ## The rights to pay, by the device that pays -/

abbrev dtok (d : Dev nD) (k : KK) : sProp 𝕄 := dutyTok ER (cell d (osem k)) 0 0

theorem dtok_tok (d : Dev nD) (k : KK) : dtok (F := F) d k ⊢ tok (F := F) d k := by
  unfold tok
  split
  · iintro H; iexact H
  · iintro -; iempintro

def toks (c : Dev nD) : sProp 𝕄 :=
  iprop(bigSep Finset.univ (fun e : Dev nD => (dutyTok ER (barCell e) 0 c : sProp 𝕄))
    ∗ (bigSep Finset.univ (fun d : Dev nD => dtok (F := F) c (.inl (d, 0))) ∗ bigSep Finset.univ (fun d : Dev nD => dtok (F := F) c (.inl (d, 1))))
    ∗ kvSt c iprop(bigSep Finset.univ (fun d : Dev nD => dtok (F := F) d (kr 0 0)) ∗ bigSep Finset.univ (fun d : Dev nD => dtok (F := F) d (kr 0 1)))
        iprop(bigSep Finset.univ (fun d : Dev nD => dtok (F := F) d (kr 1 0)) ∗ bigSep Finset.univ (fun d : Dev nD => dtok (F := F) d (kr 1 1))) iprop(emp)
    ∗ bigSep Finset.univ (fun d : Dev nD => dtok (F := F) c (kRsS d)) ∗ bigSep Finset.univ (fun d : Dev nD => dtok (F := F) d (kRsR c))
    ∗ bigSep Finset.univ (fun d : Dev nD => dtok (F := F) c (kAgS d)) ∗ bigSep Finset.univ (fun d : Dev nD => dtok (F := F) d (kAgR c)))

theorem drop_own (Φ Ψ : Dev nD → sProp 𝕄) (c : Dev nD) (h : ∀ d, Φ d ⊢ Ψ d) : bigSep Finset.univ Φ ⊢ bigSep (Finset.univ.erase c) Ψ :=
  BI.Entails.trans (bigSep_subset (Finset.erase_subset c _)) (bigSep_mono fun d _ => h d)

theorem kvTok_of (c : Dev nD) :
    iprop((bigSep Finset.univ (fun d : Dev nD => dtok (F := F) c (.inl (d, 0))) ∗ bigSep Finset.univ (fun d : Dev nD => dtok (F := F) c (.inl (d, 1))))
    ∗ kvSt c iprop(bigSep Finset.univ (fun d : Dev nD => dtok (F := F) d (kr 0 0)) ∗ bigSep Finset.univ (fun d : Dev nD => dtok (F := F) d (kr 0 1)))
        iprop(bigSep Finset.univ (fun d : Dev nD => dtok (F := F) d (kr 1 0)) ∗ bigSep Finset.univ (fun d : Dev nD => dtok (F := F) d (kr 1 1))) iprop(emp))
      ⊢ kvTok (F := F) c := by
  unfold kvTok
  by_cases h0 : c = 0
  on_goal 2 => by_cases h1 : c = 1
  · subst h0
    rw [kvSt_0, kvSt_0, bigSep_sep', bigSep_sep', bigSep_sep']
    iintro ⟨⟨Ha, Hb⟩, Hc, Hd⟩
    isplitl [Ha Hc]
    · isplitl [Ha]; · iapply (drop_own _ _ 0 fun d => dtok_tok 0 (.inl (d, 0))); iexact Ha
      iapply (drop_own _ _ 0 fun d => dtok_tok d (kr 0 0)); iexact Hc
    isplitl [Hb]; · iapply (drop_own _ _ 0 fun d => dtok_tok 0 (.inl (d, 1))); iexact Hb
    iapply (drop_own _ _ 0 fun d => dtok_tok d (kr 0 1)); iexact Hd
  · subst h1
    rw [kvSt_1, kvSt_1, bigSep_sep', bigSep_sep', bigSep_sep']
    iintro ⟨⟨Ha, Hb⟩, Hc, Hd⟩
    isplitl [Ha Hc]
    · isplitl [Ha]; · iapply (drop_own _ _ 1 fun d => dtok_tok 1 (.inl (d, 0))); iexact Ha
      iapply (drop_own _ _ 1 fun d => dtok_tok d (kr 1 0)); iexact Hc
    isplitl [Hb]; · iapply (drop_own _ _ 1 fun d => dtok_tok 1 (.inl (d, 1))); iexact Hb
    iapply (drop_own _ _ 1 fun d => dtok_tok d (kr 1 1)); iexact Hd
  · rw [kvSt_n h0 h1 (bigSep _ _)]
    iintro -; iempintro

theorem exTok_of (c : Dev nD) (k k' : Dev nD → KK) :
    iprop(bigSep Finset.univ (fun d : Dev nD => dtok (F := F) c (k d)) ∗ bigSep Finset.univ (fun d : Dev nD => dtok (F := F) d (k' c)))
      ⊢ bigSep (Finset.univ.erase c) fun d => iprop(tok (F := F) c (k d) ∗ tok (F := F) d (k' c)) := by
  rw [bigSep_sep']
  iintro ⟨Ha, Hb⟩
  isplitl [Ha]
  · iapply (drop_own _ _ c fun d => dtok_tok c (k d)); iexact Ha
  iapply (drop_own _ _ c fun d => dtok_tok d (k' c)); iexact Hb

/-! ## What the signals to the others hand over -/

theorem KD_all (c : Dev nD) : iprop(anyPt (F := F) c kM ∗ anyPt (F := F) c vM) ⊢ bigSep Finset.univ fun e : Dev nD => KD (F := F) c e := by
  rw [bigSep_take 0, ← Finset.insert_erase (show (1 : Dev nD) ∈ Finset.univ.erase 0 from by decide), bigSep_insert (Finset.notMem_erase _ _),
    KD_0, KD_1, bigSep_congr (s := (Finset.univ.erase (0 : Dev nD)).erase 1) (Ψ := fun _ => (BI.emp : sProp 𝕄)) fun e he => ?_, BI.bigSep_emp_const]
  · iintro ⟨Hk, Hv⟩
    ihave Hk := (k_dst_any c) $$ Hk
    ihave Hv := (v_dst_any c) $$ Hv
    icases Hk with ⟨Hk0, Hk1⟩
    icases Hv with ⟨Hv0, Hv1⟩
    isplitl [Hk0 Hv0]
    · isplitl [Hk0]; · iexact Hk0
      iexact Hv0
    iapply (Entails.of_eq (sep_emp_eq _).symm)
    isplitl [Hk1]; · iexact Hk1
    iexact Hv1
  · have h := Finset.mem_erase.mp he
    have h' := Finset.mem_erase.mp h.2
    exact (if_neg fun hv => h'.1 (Fin.ext hv)).trans (if_neg fun hv => h.1 (Fin.ext hv))

theorem bPre_all (c : Dev nD) : iprop(bigSep (Finset.univ.erase c) (fun e : Dev nD => iprop(dutyTok ER (barCell e) 0 c ∗ Share (F := F) c e)))
    ⊢ prg (bPre (F := F) c) (bPost (F := F)) 1 := by
  have h1 : prg (bPre (F := F) c) (bPost (F := F)) 0 ⊢ prg (bPre (F := F) c) (bPost (F := F)) 1 := by
    iintro H
    ihave H := (prg_step (bPre (F := F) c) (bPost (F := F)) 0 0 1 rfl rfl) $$ H
    icases H with ⟨-, H⟩
    iapply H
    unfold bPost
    iempintro
  refine BI.Entails.trans ?_ h1
  rw [prg_zero, ← bigSep_but, bigSep_univ_equiv (Equiv.addLeft c)]
  refine bigSep_mono fun k _ => ?_
  show (if c = c + k then _ else _) ⊢ bPre (F := F) c k
  by_cases h : k = 0
  · subst h
    rw [if_pos (add_zero c).symm]
    exact Entails.of_eq (if_pos rfl).symm
  · rw [if_neg (ne_add c k h), bPre_ne c k h]
    exact BI.Entails.refl _

/-- A device's landing buffers, by the device that fills them; its own part is left. -/
theorem shares (c : Dev nD) : iprop((anyPt (F := F) c rM ∗ anyPt (F := F) c gM) ∗ (anyPt (F := F) c kM ∗ anyPt (F := F) c vM))
    ⊢ iprop(Share (F := F) c c ∗ bigSep (Finset.univ.erase c) fun e : Dev nD => Share (F := F) c e) := by
  rw [← bigSep_take (Φ := fun e => Share (F := F) c e) c,
    bigSep_congr (Φ := fun e : Dev nD => Share (F := F) c e) (fun e _ => Share_eq c e), bigSep_sep', bigSep_sep']
  iintro ⟨⟨Hr, Hg⟩, Hkv⟩
  isplitl [Hr]; · iapply (r_any c); iexact Hr
  isplitl [Hg]; · iapply (g_any c); iexact Hg
  iapply (KD_all c); iexact Hkv

/-! ## The entry -/

/-- What device `c` owes at launch, as its body pays it. -/
theorem O₀_eq (c : Dev nD) : O₀ c = rem (Tb c) 1 + kvO c (remR A c) := by
  have h : rem (Tb c) 0 = rem (Tb c) 1 := by
    have := rem_step (Tb c) 0
    rw [show Tb c 0 = 0 from if_pos (add_zero c).symm, zero_add] at this
    exact this
  unfold O₀ kvO remR
  rw [← h, add_zero]
  rfl

/-- The credit a device is launched with. -/
def creds (c : Dev nD) : sProp 𝕄 :=
  iprop(cred (tallyAt (barCell c) () 7) ∗ ((crd (F := F) c (kr 0 0) ∗ crd (F := F) c (kr 0 1)) ∗ (crd (F := F) c (kr 1 0) ∗ crd (F := F) c (kr 1 1)))
    ∗ bigSep Finset.univ (fun d : Dev nD => crd (F := F) c (kRsR d)) ∗ bigSep Finset.univ (fun d : Dev nD => crd (F := F) c (kAgR d)))

/-- A device's buffers when its body starts. -/
def bufsIn (c : Dev nD) : sProp 𝕄 :=
  iprop(ins A c ∗ src A c ∗ anyPt (F := F) c oM ∗ anyPt (F := F) c kM ∗ anyPt (F := F) c vM ∗ anyPt (F := F) c pM ∗ anyPt (F := F) c rM ∗ anyPt (F := F) c gM)

theorem gPre_all (c : Dev nD) : bigSep Finset.univ (gPre (F := F) c) = iprop((bigSep Finset.univ (fun d : Dev nD => crd (F := F) c (kAgR d)) ∗ bigSep Finset.univ (fun d : Dev nD => posn (F := F) c (kAgR d)))
    ∗ bigSep (Finset.univ.erase c) fun d : Dev nD => anyPt (F := F) c (oChunk d)) := by
  unfold gPre wPre
  rw [bigSep_sep', bigSep_sep', bigSep_but]

set_option maxHeartbeats 1000000 in
theorem entry (c : Dev nD) :
    iprop(toks (F := F) c ∗ creds (F := F) c ∗ atPos ER (barCell c) 0 ∅ 0 ∗ bigSep Finset.univ (fun k : KK => posn (F := F) c k) ∗ bufsIn A c ∗ owesX (F := F) c (O₀ c))
      ⊢ start A c := by
  rw [O₀_eq A c, bigSep_KK (fun k => posn (F := F) c k)]
  unfold toks creds bufsIn start
  iintro ⟨⟨Htb, HtS, HtR, Ht1, Ht2, Ht3, Ht4⟩, ⟨Hcb, ⟨⟨Hc00, Hc01⟩, ⟨Hc10, Hc11⟩⟩, Hc1, Hc2⟩, Hbar, ⟨HpS, ⟨⟨⟨Hp00, Hp01⟩, ⟨Hp10, Hp11⟩⟩, Hp1, Hp2, Hp3, Hp4⟩⟩,
    ⟨Hins, Hsrc, Ho, Hk, Hv, Hp, Hr, Hg⟩, HO⟩
  ihave Hsh := (shares c) $$ [Hr Hg Hk Hv]
  · isplitl [Hr Hg]
    · isplitl [Hr]; · iexact Hr
      iexact Hg
    isplitl [Hk]; · iexact Hk
    iexact Hv
  icases Hsh with ⟨Hown, Hsh⟩
  ihave Hown := (Entails.of_eq (Share_eq c c)) $$ Hown
  icases Hown with ⟨Hrs, Hgs, HKD⟩
  ihave Ho := (o_any c) $$ Ho
  ihave Ho := (Entails.of_eq (bigSep_take (Φ := fun d => anyPt (F := F) c (oChunk d)) c)) $$ Ho
  icases Ho with ⟨Hoc, Ho⟩
  isplitl [Htb Hsh HO]
  · isplitr [HO]
    · iapply (bPre_all c)
      rw [bigSep_sep']
      isplitl [Htb]; · iapply (drop_own _ _ c fun e => BI.Entails.refl _); iexact Htb
      iexact Hsh
    iexact HO
  isplitl [Hcb Hbar HtS HtR Hsrc HKD Hins]
  · isplitl [Hcb Hbar]
    · unfold barIn
      isplitl [Hcb]; · iexact Hcb
      iexact Hbar
    isplitl [HtS HtR Hsrc HKD]
    · isplitl [HtS HtR]
      · iapply (kvTok_of c)
        isplitl [HtS]; · iexact HtS
        iexact HtR
      isplitl [Hsrc]; · iexact Hsrc
      iexact HKD
    iexact Hins
  isplitl [Hc00 Hc01 Hc10 Hc11 Hp00 Hp01 Hp10 Hp11]
  · unfold kvIn wPre
    isplitl [Hc00 Hc01 Hp00 Hp01]
    · isplitl [Hc00 Hp00]
      · isplitl [Hc00]; · iexact Hc00
        iexact Hp00
      isplitl [Hc01]; · iexact Hc01
      iexact Hp01
    isplitl [Hc10 Hp10]
    · isplitl [Hc10]; · iexact Hc10
      iexact Hp10
    isplitl [Hc11]; · iexact Hc11
    iexact Hp11
  isplitl [Hp]; · iexact Hp
  isplitl [Ht1 Ht2 Hrs Hc1 Hp2]
  · isplitl [Ht1 Ht2]
    · unfold rsTok
      iapply (exTok_of c kRsS kRsR)
      isplitl [Ht1]; · iexact Ht1
      iexact Ht2
    isplitl [Hrs]; · iexact Hrs
    unfold rsW wPre
    rw [prg_zero, bigSep_sep']
    isplitl [Hc1]; · iexact Hc1
    iexact Hp2
  isplitl [Hoc Hgs]
  · isplitl [Hoc]; · iexact Hoc
    iexact Hgs
  isplitl [Ht3 Ht4 Hc2 Hp4 Ho]
  · isplitl [Ht3 Ht4]
    · unfold agTok
      iapply (exTok_of c kAgS kAgR)
      isplitl [Ht3]; · iexact Ht3
      iexact Ht4
    unfold agW
    rw [prg_zero, gPre_all]
    isplitr [Ho]
    · isplitl [Hc2]; · iexact Hc2
      iexact Hp4
    iexact Ho
  isplitl [HpS]
  · unfold kvSPos; iexact HpS
  isplitl [Hp1]; · iexact Hp1
  iexact Hp3

/-- A device's buffers when its body has ended. -/
def bufsOut (c : Dev nD) : sProp 𝕄 :=
  iprop(ins A c ∗ src A c ∗ pt c oM fullShare (OUT A c) ∗ anyPt (F := F) c kM ∗ anyPt (F := F) c vM ∗ anyPt (F := F) c pM ∗ anyPt (F := F) c rM ∗ anyPt (F := F) c gM)

/-- The exit: the counters at zero, nothing owed. -/
theorem leave_all (c : Dev nD) : iprop(C0 A κ c ∗ finish A c)
    ⊢ (|={Set.univ}=> (semVal (barCell c) 0 ∗ bigSep Finset.univ (fun k : KK => (semVal (cell c (osem k)) 0 : sProp 𝕄)) ∗ bufsOut A c ∗ owesX (F := F) c 0) : sProp 𝕄) := by
  unfold C0 finish bufsOut KVp
  iintro ⟨⟨#HC, -⟩, ⟨Hins, Hsrc⟩, ⟨⟨Hk, Hv⟩, Hp, Hr, Hg⟩, Ho, Hbar, Hd, HO⟩
  imod (close_bar A κ c) $$ [Hbar] with Hb
  · isplitr; · iexact HC
    iexact Hbar
  imod (close_all A κ c) $$ [Hd] with Hs
  · isplitr; · iexact HC
    iexact Hd
  imodintro
  isplitl [Hb]; · iexact Hb
  isplitl [Hs]; · iexact Hs
  isplitr [HO]
  · isplitl [Hins]; · iexact Hins
    isplitl [Hsrc]; · iexact Hsrc
    isplitl [Ho]; · iexact Ho
    isplitl [Hk]; · iexists _; iexact Hk
    isplitl [Hv]; · iexists _; iexact Hv
    isplitl [Hp]; · iexists _; iexact Hp
    isplitl [Hr]; · iexists _; iexact Hr
    iexists _; iexact Hg
  iexact HO

end Cert.KernelIdeal.Hand

end
-- ==== Proof.I.Deal.lean ====
/-
  WHAT THE LAUNCH DEALS: the tokens of every duty, each to the device that pays it, and every device's credit.
-/
module

public import proofs.«01_k».proof.Proof.I.Enter

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## The tokens -/

theorem osem_ne_bar (k : KK) : osem k ≠ .reg barrier0 := fun h => by
  have := (kind_osem k).symm.trans (congrArg kind h)
  rw [kind_bar] at this
  rcases k with ⟨d, t⟩ | ⟨s, t⟩ | d | d | d | d <;> simp [kdOf] at this

def barEmb : Dev nD ↪ GSem nD τ sig := ⟨fun c => barCell c, fun _ _ h => congrArg (fun g : GSem nD τ sig => g.1.1) h⟩
def ownEmb : Dev nD × KK ↪ GSem nD τ sig :=
  ⟨fun p => cell p.1 (osem p.2), fun _ _ h => Prod.ext (congrArg (fun g : GSem nD τ sig => g.1.1) h) (osem_inj (congrArg Prod.snd h))⟩
def barTok : Dev nD × Dev nD ↪ GSem nD τ sig × ℕ × Dev nD :=
  ⟨fun p => (barCell p.1, 0, p.2), fun _ _ h => Prod.ext (congrArg (fun g : GSem nD τ sig × ℕ × Dev nD => g.1.1.1) h) (congrArg (fun g : GSem nD τ sig × ℕ × Dev nD => g.2.2) h)⟩
def ownTok : Dev nD × KK ↪ GSem nD τ sig × ℕ × Dev nD :=
  ⟨fun p => (cell p.1 (osem p.2), 0, 0), fun _ _ h => ownEmb.injective (congrArg (fun g : GSem nD τ sig × ℕ × Dev nD => g.1) h)⟩

abbrev barCells : Finset (GSem nD τ sig) := Finset.univ.map barEmb
abbrev ownCells : Finset (GSem nD τ sig) := Finset.univ.map ownEmb
abbrev allToks : Finset (GSem nD τ sig × ℕ × Dev nD) := Finset.univ.map barTok ∪ Finset.univ.map ownTok

theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem disjoint_toks : Disjoint (Finset.univ.map barTok) (Finset.univ.map ownTok : Finset (GSem nD τ sig × ℕ × Dev nD)) := by
  rw [Finset.disjoint_left]
  rintro g h₁ h₂
  obtain ⟨c, -, rfl⟩ := Finset.mem_map.mp h₁
  obtain ⟨p, -, h⟩ := Finset.mem_map.mp h₂
  exact osem_ne_bar p.2 (congrArg (fun g : GSem nD τ sig × ℕ × Dev nD => g.1.2) h)

theorem kvSt_all (X0 X1 : sProp 𝕄) : bigSep Finset.univ (fun c : Dev nD => kvSt c X0 X1 iprop(emp)) = iprop(X0 ∗ X1) := by
  rw [bigSep_take 0, ← Finset.insert_erase (show (1 : Dev nD) ∈ Finset.univ.erase 0 from by decide), bigSep_insert (Finset.notMem_erase _ _),
    bigSep_congr (s := (Finset.univ.erase (0 : Dev nD)).erase 1) (Ψ := fun _ => (BI.emp : sProp 𝕄)) fun e he => ?_, BI.bigSep_emp_const]
  · rw [show kvSt 0 X0 X1 iprop(emp) = X0 from rfl, show kvSt 1 X0 X1 iprop(emp) = X1 from rfl]
    exact congrArg (fun Y => BI.sep X0 Y) (sep_emp_eq X1)
  · have h := Finset.mem_erase.mp he
    have h' := Finset.mem_erase.mp h.2
    exact (if_neg fun hv => h'.1 (Fin.ext hv)).trans (if_neg fun hv => h.1 (Fin.ext hv))

theorem dtoks_eq : bigSep Finset.univ (fun p : Dev nD × KK => dtok (F := F) p.1 p.2)
    = iprop((bigSep Finset.univ (fun c : Dev nD => bigSep Finset.univ fun d : Dev nD => dtok (F := F) c (.inl (d, 0)))
        ∗ bigSep Finset.univ (fun c : Dev nD => bigSep Finset.univ fun d : Dev nD => dtok (F := F) c (.inl (d, 1))))
      ∗ ((bigSep Finset.univ (fun c : Dev nD => dtok (F := F) c (kr 0 0)) ∗ bigSep Finset.univ (fun c : Dev nD => dtok (F := F) c (kr 0 1)))
        ∗ (bigSep Finset.univ (fun c : Dev nD => dtok (F := F) c (kr 1 0)) ∗ bigSep Finset.univ (fun c : Dev nD => dtok (F := F) c (kr 1 1))))
      ∗ bigSep Finset.univ (fun c : Dev nD => bigSep Finset.univ fun d : Dev nD => dtok (F := F) c (kRsS d))
      ∗ bigSep Finset.univ (fun c : Dev nD => bigSep Finset.univ fun d : Dev nD => dtok (F := F) d (kRsR c))
      ∗ bigSep Finset.univ (fun c : Dev nD => bigSep Finset.univ fun d : Dev nD => dtok (F := F) c (kAgS d))
      ∗ bigSep Finset.univ (fun c : Dev nD => bigSep Finset.univ fun d : Dev nD => dtok (F := F) d (kAgR c))) := by
  rw [bigSep_univ_prod, bigSep_congr (fun c _ => bigSep_KK fun k => dtok (F := F) c k), bigSep_sep', bigSep_sep', bigSep_sep', bigSep_sep', bigSep_sep', bigSep_sep',
    bigSep_sep', bigSep_sep', bigSep_sep', BI.bigSep_univ_comm (fun (c d : Dev nD) => dtok (F := F) c (kRsR d)),
    BI.bigSep_univ_comm (fun (c d : Dev nD) => dtok (F := F) c (kAgR d))]

/-- Every duty's token, dealt to the device that pays it. -/
theorem deal_toks : bigSep allToks (fun x => (dutyTok ER x.1 x.2.1 x.2.2 : sProp 𝕄)) ⊢ bigSep Finset.univ fun c : Dev nD => toks (F := F) c := by
  unfold toks
  rw [SparseCore.bigSep_union' disjoint_toks, bigSep_map, bigSep_map, bigSep_univ_prod, BI.bigSep_univ_comm (fun e c : Dev nD => (dutyTok ER (barTok (e, c)).1 (barTok (e, c)).2.1 (barTok (e, c)).2.2 : sProp 𝕄)),
    show bigSep Finset.univ (fun p : Dev nD × KK => (dutyTok ER (ownTok p).1 (ownTok p).2.1 (ownTok p).2.2 : sProp 𝕄))
      = bigSep Finset.univ (fun p : Dev nD × KK => dtok (F := F) p.1 p.2) from rfl, dtoks_eq,
    bigSep_sep', bigSep_sep', bigSep_sep', bigSep_sep', bigSep_sep', bigSep_sep', bigSep_sep', kvSt_all]
  exact BI.Entails.refl _

/-! ## The credit -/

theorem tally_cell (e c : Dev nD) (sm sm' : SemLoc sig) (n : ℕ) :
    (tallyAt (cell e sm') () n : CellTallies nD τ sig Unit) (cell c sm) () = if e = c then (if sm' = sm then n else 0) else 0 := by
  rw [tallyAt_apply]
  by_cases h : e = c
  · subst h
    by_cases h' : sm' = sm
    · subst h'; rw [if_pos ⟨rfl, rfl⟩, if_pos rfl, if_pos rfl]
    · rw [if_neg (fun hh => h' (congrArg Prod.snd hh.1).symm), if_pos rfl, if_neg h']
  · rw [if_neg (fun hh => h (congrArg (fun g : GSem nD τ sig => g.1.1) hh.1).symm), if_neg h]

theorem ne_of_kind {sm sm' : SemLoc sig} {k k' : Kd} (h : kind sm = k) (h' : kind sm' = k') (hk : k ≠ k') : sm ≠ sm' := fun e => hk (by rw [← h, ← h', e])

theorem rem_at (T : Dev nD → CellTallies nD τ sig Unit) (g : GSem nD τ sig) : rem T 0 g () = ∑ e, T e g () := by
  rw [rem_zero, Finset.sum_apply, Finsupp.finset_sum_apply]

theorem sum_at (f : Dev nD → ℕ) (c : Dev nD) : (∑ e : Dev nD, if e = c then f e else 0) = f c := by
  rw [Finset.sum_ite_eq' Finset.univ c f, if_pos (Finset.mem_univ _)]

theorem Tbar_at (d e c : Dev nD) (sm : SemLoc sig) : Tbar d e (cell c sm) () = if e = c then (if d = c then 0 else if .reg barrier0 = sm then 1 else 0) else 0 := by
  unfold Tbar
  by_cases h : d = e
  · subst h; rw [if_pos rfl]; by_cases h' : d = c
    · rw [if_pos h', if_pos h']; rfl
    · rw [if_neg h']; rfl
  · rw [if_neg h]
    refine (tally_cell e c sm (.reg barrier0) 1).trans ?_
    by_cases h' : e = c
    · rw [if_pos h', if_pos h', if_neg (show ¬ d = c from fun x => h (x.trans h'.symm))]
    · rw [if_neg h', if_neg h']
theorem Trs_at (d e c : Dev nD) (sm : SemLoc sig) : Trs d e (cell c sm) () = if e = c then (if d = c then 0 else if .dma (rsR d) = sm then N2 else 0) else 0 := by
  unfold Trs
  by_cases h : d = e
  · subst h; rw [if_pos rfl]; by_cases h' : d = c
    · rw [if_pos h', if_pos h']; rfl
    · rw [if_neg h']; rfl
  · rw [if_neg h]
    refine (tally_cell e c sm _ N2).trans ?_
    by_cases h' : e = c
    · rw [if_pos h', if_pos h', if_neg (show ¬ d = c from fun x => h (x.trans h'.symm))]
    · rw [if_neg h', if_neg h']
theorem Tag_at (d e c : Dev nD) (sm : SemLoc sig) : Tag d e (cell c sm) () = if e = c then (if d = c then 0 else if .dma (agR d) = sm then N2 else 0) else 0 := by
  unfold Tag
  by_cases h : d = e
  · subst h; rw [if_pos rfl]; by_cases h' : d = c
    · rw [if_pos h', if_pos h']; rfl
    · rw [if_neg h']; rfl
  · rw [if_neg h]
    refine (tally_cell e c sm _ N2).trans ?_
    by_cases h' : e = c
    · rw [if_pos h', if_pos h', if_neg (show ¬ d = c from fun x => h (x.trans h'.symm))]
    · rw [if_neg h', if_neg h']
theorem Tkv_at (d : Dev nD) (t : Fin 2) (e c : Dev nD) (sm : SemLoc sig) : Tkv d t e (cell c sm) ()
    = if e = c then (if d = c then 0 else if d = 0 then (if .dma (kvR 0 t) = sm then N0 else 0) else if d = 1 then (if .dma (kvR 1 t) = sm then N1 else 0) else 0) else 0 := by
  unfold Tkv
  by_cases h : d = e
  · subst h; rw [if_pos rfl, if_pos rfl, ite_self, ite_self]
    by_cases h' : d = c
    · rw [if_pos h', if_pos h']; rfl
    · rw [if_neg h']; rfl
  · rw [if_neg h, if_neg h]
    by_cases h0 : d.val = 0
    · rw [if_pos h0]
      refine (tally_cell e c sm _ N0).trans ?_
      by_cases h' : e = c
      · rw [if_pos h', if_pos h', if_neg (show ¬ d = c from fun x => h (x.trans h'.symm)), if_pos (show d = 0 from Fin.ext h0)]
      · rw [if_neg h', if_neg h']
    · rw [if_neg h0, if_neg (show ¬ d = 0 from fun x => h0 (congrArg Fin.val x))]
      by_cases h1 : d.val = 1
      · rw [if_pos h1, if_pos (show d = 1 from Fin.ext h1)]
        refine (tally_cell e c sm _ N1).trans ?_
        by_cases h' : e = c
        · rw [if_pos h', if_pos h', if_neg (show ¬ d = c from fun x => h (x.trans h'.symm))]
        · rw [if_neg h', if_neg h']
      · rw [if_neg h1, if_neg (show ¬ d = 1 from fun x => h1 (congrArg Fin.val x)), ite_self, ite_self]
        rfl

/-- What device `d` owes at launch to one cell of device `c`. -/
theorem O₀_at (d c : Dev nD) (sm : SemLoc sig) : O₀ d (cell c sm) ()
    = (if d = c then 0 else if .reg barrier0 = sm then 1 else 0)
      + ((if d = c then 0 else if d = 0 then (if .dma (kvR 0 0) = sm then N0 else 0) else if d = 1 then (if .dma (kvR 1 0) = sm then N1 else 0) else 0)
      + ((if d = c then 0 else if d = 0 then (if .dma (kvR 0 1) = sm then N0 else 0) else if d = 1 then (if .dma (kvR 1 1) = sm then N1 else 0) else 0)
      + ((if d = c then 0 else if .dma (rsR d) = sm then N2 else 0) + (if d = c then 0 else if .dma (agR d) = sm then N2 else 0)))) := by
  unfold O₀
  rw [Pi.add_apply, Finsupp.add_apply, Pi.add_apply, Finsupp.add_apply, Pi.add_apply, Finsupp.add_apply, Pi.add_apply, Finsupp.add_apply,
    rem_at, rem_at, rem_at, rem_at, rem_at,
    show (∑ e : Dev nD, Tbar d (d + e) (cell c sm) ()) = ∑ e : Dev nD, Tbar d e (cell c sm) () from Equiv.sum_comp (Equiv.addLeft d) (fun e => Tbar d e (cell c sm) ()),
    Finset.sum_congr rfl (fun e _ => Tbar_at d e c sm), Finset.sum_congr rfl (fun e _ => Tkv_at d 0 e c sm), Finset.sum_congr rfl (fun e _ => Tkv_at d 1 e c sm),
    Finset.sum_congr rfl (fun e _ => Trs_at d e c sm), Finset.sum_congr rfl (fun e _ => Tag_at d e c sm)]
  rw [sum_at (fun _ => _), sum_at (fun _ => _), sum_at (fun _ => _), sum_at (fun _ => _), sum_at (fun _ => _)]

theorem launch_at (c : Dev nD) (sm : SemLoc sig) (n : ℕ) (h : ∑ d : Dev nD, O₀ d (cell c sm) () = n) :
    tallyOn (cell c sm) (launchCredit (Pipeline.owing O₀) 0 (cell c sm)) = (tallyAt (cell c sm) () n : CellTallies nD τ sig Unit) := by
  unfold tallyAt; refine congrArg _ (Finsupp.ext fun u => ?_); cases u
  rw [Pipeline.launchCredit_owing, Finsupp.single_eq_same, h]

theorem owed_bar (c : Dev nD) : ∑ d : Dev nD, O₀ d (cell c (.reg barrier0)) () = 7 := by
  have h (d : Dev nD) : O₀ d (cell c (.reg barrier0)) () = if d = c then 0 else 1 := by
    rw [O₀_at, if_pos (rfl : (.reg barrier0 : SemLoc sig) = .reg barrier0)]
    have n (m : DmaSem sig) : ¬ (.dma m : SemLoc sig) = .reg barrier0 := fun h => by cases h
    simp only [n, if_false, ite_self, add_zero]
  rw [Finset.sum_congr rfl fun d _ => h d]
  clear h; revert c; decide

theorem one_at {c : Dev nD} (j : Dev nD) (f : Dev nD → ℕ) (n : ℕ) (h : ∀ d, f d = if d = c then 0 else if d = j then n else 0) : ∑ d, f d = if c = j then 0 else n := by
  rw [Finset.sum_congr rfl fun d _ => h d, Finset.sum_eq_single j]
  · rw [if_pos rfl]; by_cases hc : c = j
    · rw [if_pos hc, if_pos hc.symm]
    · rw [if_neg hc, if_neg (fun x => hc x.symm)]
  · intro d _ hd; rw [if_neg hd, ite_self]
  · intro h'; exact absurd (Finset.mem_univ _) h'

theorem kvR_iff (s t s' t' : Fin 2) : (.dma (kvR s t) : SemLoc sig) = .dma (kvR s' t') ↔ s = s' ∧ t = t' := by revert s t s' t'; decide
theorem rsR_iff (d j : Dev nD) : (.dma (rsR d) : SemLoc sig) = .dma (rsR j) ↔ d = j := by revert d j; decide
theorem agR_iff (d j : Dev nD) : (.dma (agR d) : SemLoc sig) = .dma (agR j) ↔ d = j := by revert d j; decide
theorem bar_dma (m : DmaSem sig) : ((.reg barrier0 : SemLoc sig) = .dma m) ↔ False := ⟨(fun h => by cases h), False.elim⟩
theorem kvR_rsR (s t : Fin 2) (j : Dev nD) : ((.dma (kvR s t) : SemLoc sig) = .dma (rsR j)) ↔ False := ⟨ne_of_kind (kind_kvR s t) (kind_rsR j) (by simp), False.elim⟩
theorem kvR_agR (s t : Fin 2) (j : Dev nD) : ((.dma (kvR s t) : SemLoc sig) = .dma (agR j)) ↔ False := ⟨ne_of_kind (kind_kvR s t) (kind_agR j) (by simp), False.elim⟩
theorem rsR_kvR (s t : Fin 2) (j : Dev nD) : ((.dma (rsR j) : SemLoc sig) = .dma (kvR s t)) ↔ False := ⟨ne_of_kind (kind_rsR j) (kind_kvR s t) (by simp), False.elim⟩
theorem agR_kvR (s t : Fin 2) (j : Dev nD) : ((.dma (agR j) : SemLoc sig) = .dma (kvR s t)) ↔ False := ⟨ne_of_kind (kind_agR j) (kind_kvR s t) (by simp), False.elim⟩
theorem rsR_agR (d j : Dev nD) : ((.dma (rsR d) : SemLoc sig) = .dma (agR j)) ↔ False := ⟨ne_of_kind (kind_rsR d) (kind_agR j) (by simp), False.elim⟩
theorem agR_rsR (d j : Dev nD) : ((.dma (agR d) : SemLoc sig) = .dma (rsR j)) ↔ False := ⟨ne_of_kind (kind_agR d) (kind_rsR j) (by simp), False.elim⟩

theorem owed_rsR (c j : Dev nD) : ∑ d : Dev nD, O₀ d (cell c (.dma (rsR j))) () = if c = j then 0 else N2 :=
  one_at j _ N2 fun d => by
    rw [O₀_at]
    simp only [bar_dma, kvR_rsR, agR_rsR, rsR_iff, if_false, ite_self, add_zero, zero_add]
theorem owed_agR (c j : Dev nD) : ∑ d : Dev nD, O₀ d (cell c (.dma (agR j))) () = if c = j then 0 else N2 :=
  one_at j _ N2 fun d => by
    rw [O₀_at]
    simp only [bar_dma, kvR_agR, rsR_agR, agR_iff, if_false, ite_self, add_zero, zero_add]
theorem owed_kvR (c : Dev nD) (s t : Fin 2) : ∑ d : Dev nD, O₀ d (cell c (.dma (kvR s t))) () = if c = dv s then 0 else (if s.val = 0 then N0 else N1) :=
  one_at (dv s) _ _ fun d => by
    rw [O₀_at]
    simp only [bar_dma, rsR_kvR, agR_kvR, kvR_iff, if_false, ite_self, add_zero, zero_add]
    by_cases hd : d = c
    · simp only [hd, if_true, add_zero]
    · simp only [hd, if_false]
      obtain rfl | rfl : s = 0 ∨ s = 1 := by revert s; decide
      · rw [show dv 0 = 0 from rfl]
        by_cases h0 : d = 0
        · obtain rfl | rfl : t = 0 ∨ t = 1 := by revert t; decide
          all_goals simp [h0]
        · simp [h0]
      · rw [show dv 1 = 1 from rfl]
        by_cases h0 : d = 0
        · simp [h0]
        · by_cases h1 : d = 1
          · obtain rfl | rfl : t = 0 ∨ t = 1 := by revert t; decide
            all_goals simp [h1]
          · simp [h0, h1]

theorem crd_of (c : Dev nD) (k : KK) (h : ∑ d : Dev nD, O₀ d (cell c (osem k)) () = if act c (kdOf k) then amt c (kdOf k) else 0) :
    (cred (tallyOn (cell c (osem k)) (launchCredit (Pipeline.owing O₀) 0 (cell c (osem k)))) : sProp 𝕄) ⊢ crd (F := F) c k := by
  rw [launch_at c (osem k) _ h]
  unfold crd
  by_cases ha : act c (kdOf k) = true
  · rw [if_pos ha, if_pos ha]
  · rw [if_neg ha, if_neg ha]; iintro -; iempintro

theorem crd_kvR (c : Dev nD) (s t : Fin 2) : (cred (tallyOn (cell c (osem (kr s t))) (launchCredit (Pipeline.owing O₀) 0 (cell c (osem (kr s t))))) : sProp 𝕄) ⊢ crd (F := F) c (kr s t) :=
  crd_of c (kr s t) ((owed_kvR c s t).trans (by
    show _ = if decide (c ≠ dv s) = true then (if s.val = 0 then N0 else N1) else 0
    by_cases h : c = dv s
    · simp [h]
    · simp [h]))
theorem crd_rsR (c j : Dev nD) : (cred (tallyOn (cell c (osem (kRsR j))) (launchCredit (Pipeline.owing O₀) 0 (cell c (osem (kRsR j))))) : sProp 𝕄) ⊢ crd (F := F) c (kRsR j) :=
  crd_of c (kRsR j) ((owed_rsR c j).trans (by
    show _ = if decide (c ≠ j) = true then N2 else 0
    by_cases h : c = j
    · simp [h]
    · simp [h]))
theorem crd_agR (c j : Dev nD) : (cred (tallyOn (cell c (osem (kAgR j))) (launchCredit (Pipeline.owing O₀) 0 (cell c (osem (kAgR j))))) : sProp 𝕄) ⊢ crd (F := F) c (kAgR j) :=
  crd_of c (kAgR j) ((owed_agR c j).trans (by
    show _ = if decide (c ≠ j) = true then N2 else 0
    by_cases h : c = j
    · simp [h]
    · simp [h]))

theorem deal_own (c : Dev nD) : bigSep Finset.univ (fun k : KK => (cred (tallyOn (cell c (osem k)) (launchCredit (Pipeline.owing O₀) 0 (cell c (osem k)))) : sProp 𝕄))
    ⊢ iprop(((crd (F := F) c (kr 0 0) ∗ crd (F := F) c (kr 0 1)) ∗ (crd (F := F) c (kr 1 0) ∗ crd (F := F) c (kr 1 1)))
    ∗ bigSep Finset.univ (fun d : Dev nD => crd (F := F) c (kRsR d)) ∗ bigSep Finset.univ (fun d : Dev nD => crd (F := F) c (kAgR d))) := by
  rw [bigSep_KK]
  iintro ⟨-, ⟨⟨H00, H01⟩, ⟨H10, H11⟩⟩, -, Hr, -, Hg⟩
  isplitl [H00 H01 H10 H11]
  · isplitl [H00 H01]
    · isplitl [H00]; · iapply (crd_kvR c 0 0); iexact H00
      iapply (crd_kvR c 0 1); iexact H01
    isplitl [H10]; · iapply (crd_kvR c 1 0); iexact H10
    iapply (crd_kvR c 1 1); iexact H11
  isplitl [Hr]
  · iapply (show _ ⊢ _ from bigSep_mono fun d _ => crd_rsR (F := F) c d) $$ Hr
  iapply (show _ ⊢ _ from bigSep_mono fun d _ => crd_agR (F := F) c d) $$ Hg

/-- The credit of a device, from the launch's. -/
theorem deal_creds (c : Dev nD) : (Pipeline.launchCred O₀ c : sProp 𝕄) ⊢ creds (F := F) c := by
  unfold Pipeline.launchCred creds
  rw [bigSep_univ_at _ (SemLoc.reg barrier0), launch_at c (.reg barrier0) 7 (owed_bar c)]
  refine sep_mono_right ?_
  have hs : (Finset.univ.map ⟨osem, osem_inj⟩ : Finset (SemLoc sig)) ⊆ Finset.univ.erase (SemLoc.reg barrier0) := fun x hx => by
    obtain ⟨k, -, rfl⟩ := Finset.mem_map.mp hx
    exact Finset.mem_erase.mpr ⟨osem_ne_bar k, Finset.mem_univ _⟩
  exact BI.Entails.trans (bigSep_subset hs) (BI.Entails.trans (Entails.of_eq (bigSep_map _)) (deal_own c))

end Cert.KernelIdeal.Hand

end
-- ==== Proof.I.Region.lean ====
/-
  THE REGION's proof data: what each staging buffer holds, what the body is entered with and what it leaves.
-/
module

public import proofs.«01_k».proof.Proof.I.Deal
public import proofs.«01_k».proof.Proof.Gen.KernelIdeal.Frame
public import Idealize.ShloMosaic.Lib.Pipeline.ValueKit

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-- What the region's arrays hold when it is entered. -/
def AA : In F where
  x c := V m c main_arg0
  wq c := V m c main_arg1
  kf c := V m c main_v7
  vf c := V m c main_v14
  wo c := V m c main_arg4

theorem idx_x : ∀ a, win0_0.index t0_0 a = 0 := by decide +kernel
theorem iblk_x (c : Dev nD) : iblk m c 0 t0_0 = (AA m).x c := funext fun j => by
  show iblk m c 0 t0_0 j = V m c main_arg0 j
  blk_ext [iblk, idx_x, Nat.zero_mul, Nat.zero_add]
theorem idx_wq : ∀ a, win0_1.index t0_0 a = 0 := by decide +kernel
theorem iblk_wq (c : Dev nD) : iblk m c 1 t0_0 = (AA m).wq c := funext fun j => by
  show iblk m c 1 t0_0 j = V m c main_arg1 j
  blk_ext [iblk, idx_wq, Nat.zero_mul, Nat.zero_add]
theorem idx_kf : ∀ a, win0_2.index t0_0 a = 0 := by decide +kernel
theorem iblk_kf (c : Dev nD) : iblk m c 2 t0_0 = (AA m).kf c := funext fun j => by
  show iblk m c 2 t0_0 j = V m c main_v7 j
  blk_ext [iblk, idx_kf, Nat.zero_mul, Nat.zero_add]
theorem idx_vf : ∀ a, win0_3.index t0_0 a = 0 := by decide +kernel
theorem iblk_vf (c : Dev nD) : iblk m c 3 t0_0 = (AA m).vf c := funext fun j => by
  show iblk m c 3 t0_0 j = V m c main_v14 j
  blk_ext [iblk, idx_vf, Nat.zero_mul, Nat.zero_add]
theorem idx_wo : ∀ a, win0_4.index t0_0 a = 0 := by decide +kernel
theorem iblk_wo (c : Dev nD) : iblk m c 4 t0_0 = (AA m).wo c := funext fun j => by
  show iblk m c 4 t0_0 j = V m c main_arg4 j
  blk_ext [iblk, idx_wo, Nat.zero_mul, Nat.zero_add]

/-! ## What the region is entered with -/

/-- What a device keeps of the launch for the region. -/
def Tk (c : Dev nD) : sProp 𝕄 :=
  iprop(∃ κ : GSem nD τ sig → ℕ, ((bigSep Finset.univ fun e : Dev nD => cellInv ER (sched (AA m)) (κ (barCell e)) (barCell e)) ∗ ownInvs (AA m) κ
      ∗ (bigSep Finset.univ fun e : Dev nD => reached ER (barCell e) 0))
    ∗ bigSep Finset.univ (fun k : KK => (openTok ER (cell c (osem k)) : sProp 𝕄)) ∗ atPos ER (barCell c) 0 ∅ 0 ∗ toks (F := F) c ∗ creds (F := F) c)

/-- The same once its cells are open. -/
def Xk (c : Dev nD) : sProp 𝕄 :=
  iprop(∃ κ : GSem nD τ sig → ℕ, C0 (AA m) κ c ∗ bigSep Finset.univ (fun k : KK => posn (F := F) c k) ∗ atPos ER (barCell c) 0 ∅ 0 ∗ toks (F := F) c ∗ creds (F := F) c)

/-- The barrier's counter after the region. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  unfold Tk Xk Pipeline.ownSems0
  iintro ⟨⟨%κ, ⟨#HIb, #HIo, #HRb⟩, Hop, Hat, Htk, Hcr⟩, Hs, #Hlev⟩
  imod (open_all (AA m) κ c) $$ [Hop Hs] with ⟨Hpos, #Hre⟩
  · isplitr; · iexact HIo
    isplitl [Hop]; · iexact Hop
    iexact Hs
  imodintro
  iexists κ
  isplitr
  · unfold C0 Ctx
    isplitr
    · isplitr; · iexact HIb
      isplitr; · unfold ownInvs; iexact HIo
      isplitr; · iexact HRb
      iexact Hlev
    iexact Hre
  isplitl [Hpos]; · iexact Hpos
  isplitl [Hat]; · iexact Hat
  isplitl [Htk]; · iexact Htk
  iexact Hcr

/-- The buffers of the body that no window stages. -/
def scr (c : Dev nD) : sProp 𝕄 := iprop(anyPt (F := F) c kM ∗ anyPt (F := F) c vM ∗ anyPt (F := F) c pM ∗ anyPt (F := F) c rM ∗ anyPt (F := F) c gM)

theorem anyPt_whole (c : Dev nD) (b : Ref sig .tc) {s : Shape} {e : EltTy} (v : Memref sig .tc .vmem s e) (hv : v.view.ref = b) (h : v.view.set = Finset.univ) :
    anyPt (F := F) c v = iprop(∃ f, v.view.loc (c : Thread nD τ) ↦{fullShare} f) := by
  unfold anyPt pt; rw [h]

theorem scr_eq (c : Dev nD) : (Pipeline.scopedRest spec0 c : sProp 𝕄) = scr (F := F) c := by
  rw [scopedRest0_eq]
  unfold scr
  rw [anyPt_whole c cc0_scratch0 kM rfl (View.set_whole _), anyPt_whole c cc0_scratch1 vM rfl (View.set_whole _), anyPt_whole c cc0_scratch2 pM rfl (View.set_whole _),
    anyPt_whole c cc0_scratch3 rM rfl (View.set_whole _), anyPt_whole c cc0_scratch4 gM rfl (View.set_whole _)]

/-- Before the body, and after it. -/
def Φ₀ (c : Dev nD) : sProp 𝕄 := iprop(Xk m c ∗ scr (F := F) c ∗ ∃ r, prngReg c r)
def Φ₁ (c : Dev nD) : sProp 𝕄 := iprop((Yk (F := F) c ∗ Pipeline.ownSems0 osem c) ∗ scr (F := F) c ∗ ∃ r, prngReg c r)

def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (AA m) c
  Φ t := if t.val = 0 then Φ₀ m c else Φ₁ (F := F) c
  q _ := fullShare
  owed t := if t.val = 0 then O₀ c else 0

theorem bef0 (c : Dev nD) (t : Fin cfg0.N) (d) : (dat m c).before 0 t d = iblk m c 0 t :=
  ((dat m c).before_in_eq_fetched 0 rfl (fun _ => rfl) (fun _ _ _ => rfl) (fun _ => rfl) t d).trans rfl
theorem bef1 (c : Dev nD) (t : Fin cfg0.N) (d) : (dat m c).before 1 t d = iblk m c 1 t :=
  ((dat m c).before_in_eq_fetched 1 rfl (fun _ => rfl) (fun _ _ _ => rfl) (fun _ => rfl) t d).trans rfl
theorem bef2 (c : Dev nD) (t : Fin cfg0.N) (d) : (dat m c).before 2 t d = iblk m c 2 t :=
  ((dat m c).before_in_eq_fetched 2 rfl (fun _ => rfl) (fun _ _ _ => rfl) (fun _ => rfl) t d).trans rfl
theorem bef3 (c : Dev nD) (t : Fin cfg0.N) (d) : (dat m c).before 3 t d = iblk m c 3 t :=
  ((dat m c).before_in_eq_fetched 3 rfl (fun _ => rfl) (fun _ _ _ => rfl) (fun _ => rfl) t d).trans rfl
theorem bef4 (c : Dev nD) (t : Fin cfg0.N) (d) : (dat m c).before 4 t d = iblk m c 4 t :=
  ((dat m c).before_in_eq_fetched 4 rfl (fun _ => rfl) (fun _ _ _ => rfl) (fun _ => rfl) t d).trans rfl

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem Φ_first (c : Dev nD) : (dat m c).Φ t0_0.castSucc = Φ₀ m c := by
  show (if (t0_0.castSucc : Fin (cfg0.N + 1)).val = 0 then Φ₀ m c else Φ₁ (F := F) c) = Φ₀ m c; exact if_pos rfl
theorem Φ_last (c : Dev nD) : (dat m c).Φ (Fin.last _) = Φ₁ (F := F) c := by
  show (if (Fin.last cfg0.N).val = 0 then Φ₀ m c else Φ₁ (F := F) c) = Φ₁ (F := F) c
  rw [Fin.val_last, if_neg (by rw [show cfg0.N = 1 from N_0]; decide)]
theorem succ_last : (t0_0.succ : Fin (cfg0.N + 1)) = Fin.last _ := Fin.ext (by rw [Fin.val_succ, Fin.val_last]; exact N_0.symm)

theorem owesAt_intro (c : Dev nD) (t : Fin (cfg0.N + 1)) (O : CellTallies nD τ sig Unit) (h0 : (dat m c).owed t = O) :
    owesX (F := F) c O ⊢ ((dat m c).owesAt () t : sProp 𝕄) := by
  unfold owesX Dat.owesAt Pipeline.owesWithin Dat.bound
  rw [h0]
  iintro ⟨%W, HO⟩
  iexists W
  isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ owesX (F := F) c O := by
  unfold owesX Dat.owesAt Pipeline.owesWithin; rw [h0]
  iintro ⟨%W, -, HO⟩; iexists W; iexact HO

/-- The staged arrays beside what the result's buffer holds. -/
def stg (c : Dev nD) (o : sProp 𝕄) : sProp 𝕄 := iprop(ins (AA m) c ∗ src (AA m) c ∗ o)

theorem bodyRun (c : Dev nD) (Q : sProp 𝕄) :
    iprop((Φ₀ m c ∗ owesX (F := F) c (O₀ c) ∗ stg m c (anyPt (F := F) c oM))
        ∗ ((Φ₁ (F := F) c ∗ owesX (F := F) c 0 ∗ stg m c (pt c oM fullShare (OUT (AA m) c))) -∗ Q))
      ⊢ WP (F := F) c (cc0_body xM (Memref.isWhole_whole _) wqM (Memref.isWhole_whole _) kfM (Memref.isWhole_whole _) vfM (Memref.isWhole_whole _) woM (Memref.isWhole_whole _)
          oM (Memref.isWhole_whole _) kM (Memref.isWhole_whole _) vM (Memref.isWhole_whole _) pM (Memref.isWhole_whole _) rM (Memref.isWhole_whole _) gM (Memref.isWhole_whole _)
          cc0_scratch5 cc0_scratch6 cc0_scratch7 cc0_scratch8 cc0_scratch9 cc0_scratch10) (fun _ => iprop(|={Set.univ}=> Q)) := by
  unfold Φ₀ Xk scr stg
  iintro ⟨⟨⟨⟨%κ, #HC, Hpos, Hat, Htk, Hcr⟩, ⟨Hk, Hv, Hp, Hr, Hg⟩, Hrg⟩, HO, ⟨Hins, Hsrc, Ho⟩⟩, HQ⟩
  iapply (body_core (AA m) κ c (fun _ => iprop(|={Set.univ}=> Q)))
  isplitr; · iexact HC
  isplitr [HQ Hrg]
  · iapply (entry (AA m) c)
    isplitl [Htk]; · iexact Htk
    isplitl [Hcr]; · iexact Hcr
    isplitl [Hat]; · iexact Hat
    isplitl [Hpos]; · iexact Hpos
    isplitr [HO]
    · unfold bufsIn
      isplitl [Hins]; · iexact Hins
      isplitl [Hsrc]; · iexact Hsrc
      isplitl [Ho]; · iexact Ho
      isplitl [Hk]; · iexact Hk
      isplitl [Hv]; · iexact Hv
      isplitl [Hp]; · iexact Hp
      isplitl [Hr]; · iexact Hr
      iexact Hg
    iexact HO
  iintro Hf
  imod (leave_all (AA m) κ c) $$ [Hf] with ⟨Hb, Hs, Hbufs, HO⟩
  · isplitr; · iexact HC
    iexact Hf
  imodintro
  iapply HQ
  unfold bufsOut Φ₁ Yk Pipeline.ownSems0 scr
  icases Hbufs with ⟨Hins, Hsrc, Ho, Hk, Hv, Hp, Hr, Hg⟩
  isplitl [Hb Hs Hk Hv Hp Hr Hg Hrg]
  · isplitl [Hb Hs]
    · isplitl [Hb]; · iexact Hb
      iexact Hs
    isplitr [Hrg]
    · isplitl [Hk]; · iexact Hk
      isplitl [Hv]; · iexact Hv
      isplitl [Hp]; · iexact Hp
      isplitl [Hr]; · iexact Hr
      iexact Hg
    iexact Hrg
  isplitl [HO]; · iexact HO
  isplitl [Hins]; · iexact Hins
  isplitl [Hsrc]; · iexact Hsrc
  iexact Ho

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ ((Memref.whole b).view.loc (c : Thread nD τ) ↦[(Memref.whole b).view.set]{fullShare} f)) := by
  unfold owns; simp only [Memref.view_whole, View.read_whole]

theorem owns_out (c : Dev nD) (b : Ref sig .tc) (X : b.ty.Contents (Elt F)) :
    (owns (Ix := Unit) (Name := ℕ) (U := UU) (Lvl := ℕ) (c : Thread nD τ) (Memref.whole b) fullShare X : sProp 𝕄)
      ⊢ ((Memref.whole b).view.loc (c : Thread nD τ) ↦[(Memref.whole b).view.set]{fullShare} X) := by
  rw [owns_whole]
  iintro ⟨%f, %hf, H⟩
  subst hf
  iexact H
theorem owns_in (c : Dev nD) (b : Ref sig .tc) (X : b.ty.Contents (Elt F)) :
    ((Memref.whole b).view.loc (c : Thread nD τ) ↦[(Memref.whole b).view.set]{fullShare} X)
      ⊢ (owns (Ix := Unit) (Name := ℕ) (U := UU) (Lvl := ℕ) (c : Thread nD τ) (Memref.whole b) fullShare X : sProp 𝕄) := by
  rw [owns_whole]
  iintro H
  iexists X
  isplitr; · ipureintro; rfl
  iexact H

/-- The staging buffers, as the pipeline states them. -/
theorem stg_of (c : Dev nD) (X : (cc0_stg5_0 : Ref sig .tc).ty.Contents (Elt F)) :
    iprop(owns (c : Thread nD τ) (Memref.whole cc0_stg0_0) fullShare ((AA m).x c) ∗ owns (c : Thread nD τ) (Memref.whole cc0_stg1_0) fullShare ((AA m).wq c)
        ∗ owns (c : Thread nD τ) (Memref.whole cc0_stg2_0) fullShare ((AA m).kf c) ∗ owns (c : Thread nD τ) (Memref.whole cc0_stg3_0) fullShare ((AA m).vf c)
        ∗ owns (c : Thread nD τ) (Memref.whole cc0_stg4_0) fullShare ((AA m).wo c) ∗ owns (c : Thread nD τ) (Memref.whole cc0_stg5_0) fullShare X)
      ⊢ (stg m c (pt c oM fullShare X) : sProp 𝕄) := by
  unfold stg ins src pt
  iintro ⟨H0, H1, H2, H3, H4, H5⟩
  isplitl [H0 H1 H4]
  · isplitl [H0]; · iapply (owns_out c cc0_stg0_0 _); iexact H0
    isplitl [H1]; · iapply (owns_out c cc0_stg1_0 _); iexact H1
    iapply (owns_out c cc0_stg4_0 _); iexact H4
  isplitl [H2 H3]
  · isplitl [H2]; · iapply (owns_out c cc0_stg2_0 _); iexact H2
    iapply (owns_out c cc0_stg3_0 _); iexact H3
  iapply (owns_out c cc0_stg5_0 _); iexact H5
theorem stg_to (c : Dev nD) (X : (cc0_stg5_0 : Ref sig .tc).ty.Contents (Elt F)) :
    (stg m c (pt c oM fullShare X) : sProp 𝕄)
      ⊢ iprop(owns (c : Thread nD τ) (Memref.whole cc0_stg0_0) fullShare ((AA m).x c) ∗ owns (c : Thread nD τ) (Memref.whole cc0_stg1_0) fullShare ((AA m).wq c)
        ∗ owns (c : Thread nD τ) (Memref.whole cc0_stg2_0) fullShare ((AA m).kf c) ∗ owns (c : Thread nD τ) (Memref.whole cc0_stg3_0) fullShare ((AA m).vf c)
        ∗ owns (c : Thread nD τ) (Memref.whole cc0_stg4_0) fullShare ((AA m).wo c) ∗ owns (c : Thread nD τ) (Memref.whole cc0_stg5_0) fullShare X) := by
  unfold stg ins src pt
  iintro ⟨⟨H0, H1, H4⟩, ⟨H2, H3⟩, H5⟩
  isplitl [H0]; · iapply (owns_in c cc0_stg0_0 _); iexact H0
  isplitl [H1]; · iapply (owns_in c cc0_stg1_0 _); iexact H1
  isplitl [H2]; · iapply (owns_in c cc0_stg2_0 _); iexact H2
  isplitl [H3]; · iapply (owns_in c cc0_stg3_0 _); iexact H3
  isplitl [H4]; · iapply (owns_in c cc0_stg4_0 _); iexact H4
  iapply (owns_in c cc0_stg5_0 _); iexact H5

theorem stg_any (c : Dev nD) (X : (cc0_stg5_0 : Ref sig .tc).ty.Contents (Elt F)) : (stg m c (pt c oM fullShare X) : sProp 𝕄) ⊢ stg m c (anyPt (F := F) c oM) := by
  unfold stg
  iintro ⟨H0, H1, H2⟩
  isplitl [H0]; · iexact H0
  isplitl [H1]; · iexact H1
  iexists X; iexact H2

theorem bodyRun' (c : Dev nD) (Q : sProp 𝕄) :
    iprop((Φ₀ m c ∗ owesX (F := F) c (O₀ c) ∗ stg m c (anyPt (F := F) c oM))
        ∗ ((Φ₁ (F := F) c ∗ owesX (F := F) c 0 ∗ stg m c (pt c oM fullShare (OUT (AA m) c))) -∗ Q))
      ⊢ wp frame (wpE (defs₀ (F := F)) 𝒱₀ (c : Thread nD τ) none) Set.univ (defs₀ Proc.tc 0 (t0_0, cfg0.slots t0_0)) (fun _ => Q) :=
  (bodyRun m c Q).trans ((Entails.of_eq (WP_eq c _ _)).trans (wp_fupd _ _ _ _ _))

set_option maxHeartbeats 1000000 in
/-- The body's obligation at the one point. -/
theorem body (c : Dev nD) : BodyObligation (dat m c) defs₀ 𝒱₀ () Set.univ := fun t => by
  obtain rfl := fin_N0 t
  rw [bigSep_W0, bigSep_W0]
  simp only [bef0, bef1, bef2, bef3, bef4]
  rw [Φ_first, succ_last, Φ_last]
  rw [show (dat m c).after 0 t0_0 = (AA m).x c from iblk_x m c, show (dat m c).after 1 t0_0 = (AA m).wq c from iblk_wq m c, show (dat m c).after 2 t0_0 = (AA m).kf c from iblk_kf m c,
    show (dat m c).after 3 t0_0 = (AA m).vf c from iblk_vf m c, show (dat m c).after 4 t0_0 = (AA m).wo c from iblk_wo m c, show (dat m c).after 5 t0_0 = OUT (AA m) c from rfl,
    iblk_x, iblk_wq, iblk_kf, iblk_vf, iblk_wo]
  iintro ⟨HΦ, HO, ⟨%d0, H0⟩, ⟨%d1, H1⟩, ⟨%d2, H2⟩, ⟨%d3, H3⟩, ⟨%d4, H4⟩, ⟨%d5, H5⟩⟩
  ihave HO := (owesAt_elim m c _ (O₀ c) (owed_first m c)) $$ HO
  iapply (bodyRun' m c _)
  isplitr []
  · isplitl [HΦ]; · iexact HΦ
    isplitl [HO]; · iexact HO
    iapply (stg_any m c _)
    iapply (stg_of m c _)
    isplitl [H0]; · iexact H0
    isplitl [H1]; · iexact H1
    isplitl [H2]; · iexact H2
    isplitl [H3]; · iexact H3
    isplitl [H4]; · iexact H4
    iexact H5
  iintro ⟨HΦ, HO, Hst⟩
  isplitl [HΦ]; · iexact HΦ
  isplitl [HO]; · iapply (owesAt_intro m c _ 0 (owed_last m c)); iexact HO
  iapply (stg_to m c _)
  iexact Hst

end Cert.KernelIdeal.Hand

end
-- ==== Proof.I.Launch.lean ====
/-
  THE LAUNCH: @main as a stretch of host operations and the region, everything the launch deals given out, and the run:
  every fair execution ends with the result at `OUT`, the arguments as launched and every counter at zero.
-/
module

public import proofs.«01_k».proof.Proof.I.Region
public import Idealize.ShloMosaic.Lib.Pipeline.RegionTalk
public import Idealize.ShloMosaic.Lib.Pipeline.RegionArraysS

@[expose] public section

set_option maxRecDepth 16384

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

abbrev adm : ∀ p : Fin 1, (pcfgs (F := F) p).Adm := fun p => (cfgs p).toPCfg_adm
abbrev pdats : (p : Fin 1) → (c : Dev nD) → Dat τ (Elt F) Unit ℕ UU ℕ (Pipeline.pin (pcfgs (F := F)) adm p) c := fun _ c => dat m c

/-- The host operations before the region. -/
abbrev opss : List (List (HloOp τ sig (Elt F))) := [hostOps0, hostOps0_1, hostOps0_2, hostOps0_3, hostOps0_4, hostOps0_5, hostOps0_6, hostOps0_7, hostOps0_8]
theorem opss_sub : ∀ op ∈ (opss (F := F)).flatten, op.bufs ⊆ Pipeline.ucRefs τ sig := fun op h => by
  obtain ⟨l, hl, ho⟩ := List.mem_flatten.mp h
  have H : (opss (F := F)).Forall fun ops => ops.Forall fun op => op.bufs ⊆ StableHlo.tcRefs τ sig := by
    simp only [List.Forall]
    exact ⟨hostOps0_sub, hostOps0_1_sub, hostOps0_2_sub, hostOps0_3_sub, hostOps0_4_sub, hostOps0_5_sub, hostOps0_6_sub, hostOps0_7_sub, hostOps0_8_sub⟩
  exact Pipeline.sub_ucRefs op (List.forall_iff_forall_mem.mp (List.forall_iff_forall_mem.mp H l hl) op ho)
theorem opss_fresh : ∀ op ∈ (opss (F := F)).flatten, op.fresh = ∅ := fun op h => by
  obtain ⟨l, hl, ho⟩ := List.mem_flatten.mp h
  have H : (opss (F := F)).Forall fun ops => ops.Forall fun op => op.fresh = ∅ := by
    simp only [List.Forall]
    exact ⟨hostOps0_fresh, hostOps0_1_fresh, hostOps0_2_fresh, hostOps0_3_fresh, hostOps0_4_fresh, hostOps0_5_fresh, hostOps0_6_fresh, hostOps0_7_fresh, hostOps0_8_fresh⟩
  exact List.forall_iff_forall_mem.mp (List.forall_iff_forall_mem.mp H l hl) op ho

/-- What the unscoped buffers hold at the launch, when the region is entered, and after it. -/
def V₀ (c : Dev nD) : Valuation τ sig (Elt F) := fun b => m (c, b)
def V₁ (c : Dev nD) : Valuation τ sig (Elt F) := StableHlo.after (opss (F := F)).flatten (V₀ m c)
def V₂ (c : Dev nD) : Valuation τ sig (Elt F) := Pipeline.afterRegion (dat m c) (V₁ m c)

theorem V₂_keeps (c : Dev nD) (r : Ref sig .tc) (h : ∀ w, Pipeline.arrRef spec0 w = r → (cfg0.win w).isOut = false) :
    V₂ m c (Proc.devRef .tc r) = V m c r :=
  Pipeline.afterRegion_keeps (dat m c) (V₁ m c) winFacts0.arr_inj (fun _ => rfl) r h
theorem V₂_out (c : Dev nD) : V₂ m c (Proc.devRef .tc main_v15) = OUT (AA m) c := by
  refine (Pipeline.afterRegion_arr (dat m c) (V₁ m c) winFacts0.arr_inj 5).trans (funext fun j => ?_)
  refine ((dat m c).arrAt_eq_of_after_last 5 t0_0 (by decide +kernel) (OUT (AA m) c) (fun j => ?_) ▸ rfl)
  blk_simp
  rfl

/-! ## The region -/

theorem ownFacts : Pipeline.OwnSemFacts spec0 osem where
  isScoped := by decide
  inj := osem_inj
  disj := by decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ (c : Dev nD) : Above 0 (O₀ c) := by
  have hb (d : Dev nD) : Above 0 (Tbar c d) := by
    unfold Tbar
    split
    · exact above_zero _
    · exact above_tally _ _ _ (by rw [kind_bar]; decide)
  exact above_add (above_sum _ _ fun d => hb _) (above_add (above_sum _ _ fun d => above_mono (above_Tkv c 0 d) (by decide))
    (above_add (above_sum _ _ fun d => above_mono (above_Tkv c 1 d) (by decide))
      (above_add (above_sum _ _ fun d => above_mono (above_Trs c d) (by decide)) (above_sum _ _ fun d => above_mono (above_Tag c d) (by decide)))))

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · have := above_O₀ c g i h
    exact ⟨by unfold L; rw [if_pos this.1]; exact Finset.mem_singleton_self _, this.2⟩
  · exact absurd h (Nat.lt_irrefl 0)

theorem stage_lv : ∀ (w : Fin 6) (s : Fin (spec0 w).nbuf), lvK (kind (.dma ((spec0 w).sem s))) = 0 := by decide

theorem held_none (c : Dev nD) (W : Valuation τ sig (Elt F)) : (StableHlo.held (c : Thread nD τ) ∅ W : sProp 𝕄) = BI.emp := BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = Φ₀ m c from Φ_first m c, show (Pipeline.scopedRest (Pipeline.pin (pcfgs (F := F)) adm 0).spec c : sProp 𝕄) = scr c from scr_eq c]
  unfold Φ₀
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk (F := F) c) := by
  rw [show (pdats m 0 c).Φ (Fin.last _) = Φ₁ (F := F) c from Φ_last m c, show (Pipeline.scopedRest (Pipeline.pin (pcfgs (F := F)) adm 0).spec c : sProp 𝕄) = scr c from scr_eq c, held_none]
  unfold Φ₁
  iintro ⟨⟨HY, Ho⟩, Hs, Hp⟩
  isplitl [Hs]; · iexact Hs
  isplitl [Hp]; · iexact Hp
  isplitr; · iempintro
  isplitl [Ho]; · iexact Ho
  iexact HY

/-- The unscoped buffers that no window names. -/
abbrev offRefs : Finset (DevRef τ sig) := Pipeline.ucRefs τ sig \ Pipeline.arrRefs (τ := τ) spec0

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ offRefs (Finset.empty_subset _) kitP rfl (fun c => (body m c).loose)
    (fun _ => 0) O₀ (fun c => (owed_first m c).trans (zero_add _).symm) (owed_last m) (fun _ => rfl) (fun _ _ => by unfold Dat.share; split <;> rfl)
    (V₁ m) (V₂ m) (fun c b hb => Pipeline.afterRegion_off (dat m c) (V₁ m c) _ b (Finset.sdiff_empty.subset hb))
    (Tk m) (Yk (F := F)) (Xk m) (Yk (F := F)) (hopen m) (hin m) (hout m)
    (fun c => by iintro H; imodintro; iexact H)
    (fun _ => 0)
    ⟨fun c w s => Finset.mem_singleton_self _, fun c w s => Nat.le_of_eq (stage_lv w s), fun c t g i h => cutD m c t g i h⟩
    (fun _ => iprop(emp))
    (fun c w => rfl) (fun c w => (Pipeline.afterRegion_arr (dat m c) (V₁ m c) winFacts0.arr_inj w).symm)

/-! ## @main -/

/-- What rides along beside the unscoped buffers until the region. -/
def R (c : Dev nD) : sProp 𝕄 := iprop(Tk m c ∗ (∃ r, prngReg c r) ∗ ∃ W, owes (c : Thread nD τ) (O₀ c) W)

def seg0 : Pipeline.HostSeg (Name := ℕ) (U := UU) (pcfgs (F := F)) defs₀ 𝒱₀ L lv :=
  Pipeline.HostSeg.ofOps _ _ _ _ _ (Pipeline.ucRefs τ sig) (opss (F := F)).flatten opss_sub opss_fresh (V₀ m) (R m)

def segs : List (Pipeline.Seg (pcfgs (F := F)) adm (pdats m) () defs₀ 𝒱₀ L lv) := [.host (seg0 m), .region (reg m)]

theorem main_eq (c : Dev nD) : main (F := F) c = Pipeline.Seg.run (segs m) := by
  rw [main_chain]
  exact (StableHlo.chain_map_seq_append (opss (F := F)) [Prog.lift (.customCall (Pipeline.entry 0) ())]).trans rfl

theorem arr_sub : Pipeline.arrRefs (τ := τ) spec0 ⊆ Pipeline.ucRefs τ sig := Pipeline.arrRefs_sub_ucRefs spec0 (by decide)

theorem reg_pre (c : Dev nD) : iprop(StableHlo.held (c : Thread nD τ) (Pipeline.ucRefs τ sig) (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) offRefs (V₁ m c) ∗ emp) ∗ Tk m c ∗ ∃ Wd, owes (c : Thread nD τ) (0 + O₀ c) Wd)
  rw [StableHlo.held_sub_split _ arr_sub, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop((StableHlo.held (c : Thread nD τ) (Pipeline.ucRefs τ sig) (V₂ m c) ∗ Yk (F := F) c) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) offRefs (V₂ m c) ∗ emp) ∗ Yk (F := F) c ∗ ∃ Wd, owes (c : Thread nD τ) (0 : CellTallies nD τ sig Unit) Wd) ⊢ _
  rw [StableHlo.held_sub_split _ arr_sub]
  iintro ⟨Ha, -, ⟨Hr, -⟩, HY, HO⟩
  isplitr [HO]
  · isplitl [Ha Hr]
    · isplitl [Ha]; · iexact Ha
      iexact Hr
    iexact HY
  iexact HO

/-! ## What the launch deals -/

/-- The element the ghost state starts from: the pipeline library's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- `X` on device `d` alone. -/
def onDev (d : Dev nD) (X : sProp 𝕄) (c : Dev nD) : sProp 𝕄 := if c = d then X else iprop(emp)
theorem bigSep_onDev (d : Dev nD) (X : sProp 𝕄) : bigSep Finset.univ (onDev d X) = X := by
  rw [bigSep_univ_at _ d, bigSep_congr (s := Finset.univ.erase d) (Ψ := fun _ => (BI.emp : sProp 𝕄))
      fun c hc => by unfold onDev; rw [if_neg (Finset.ne_of_mem_erase hc)]; rfl, BI.bigSep_emp_const]
  unfold onDev; rw [if_pos rfl]
  exact sep_emp_eq X

def G : Dev nD → sProp 𝕄 := onDev 0 (BI.own (ER (launchOf barCells ownCells allToks)))

/-- What every device may consult. -/
def records (κ : GSem nD τ sig → ℕ) : sProp 𝕄 :=
  iprop((bigSep (barCells ∪ ownCells) fun g => cellInv ER (sched (AA m)) (κ g) g) ∗ bigSep barCells fun g => reached ER g 0)
instance records_persistent (κ : GSem nD τ sig → ℕ) : BI.Persistent (records m κ) := by unfold records; infer_instance

theorem records_use (κ : GSem nD τ sig → ℕ) : records m κ
    ⊢ iprop((bigSep Finset.univ fun e : Dev nD => cellInv ER (sched (AA m)) (κ (barCell e)) (barCell e)) ∗ ownInvs (AA m) κ
      ∗ (bigSep Finset.univ fun e : Dev nD => reached ER (barCell e) 0)) := by
  unfold records ownInvs
  rw [SparseCore.bigSep_union' disjoint_cells, bigSep_map, bigSep_map, bigSep_map]
  iintro ⟨⟨H1, H2⟩, H3⟩
  isplitl [H1]; · iexact H1
  isplitl [H2]; · iexact H2
  iexact H3

/-- What of the ghost state stays with a device. -/
def linear (c : Dev nD) : sProp 𝕄 :=
  iprop(atPos ER (barCell c) 0 ∅ 0 ∗ bigSep Finset.univ (fun k : KK => (openTok ER (cell c (osem k)) : sProp 𝕄)) ∗ toks (F := F) c)
/-- What of its launch holdings is not the protocol's ghost state. -/
def bundle (c : Dev nD) : sProp 𝕄 :=
  iprop(StableHlo.held (c : Thread nD τ) (Pipeline.ucRefs τ sig) (V₀ m c) ∗ creds (F := F) c ∗ owes (c : Thread nD τ) (O₀ c) ∅ ∗ ∃ r, prngReg c r)

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ Yk (F := F) c)

theorem T₀_intro (κ : GSem nD τ sig → ℕ) (c : Dev nD) : iprop(records m κ ∗ (linear (F := F) c ∗ bundle m c)) ⊢ T₀ m c := by
  unfold bundle T₀ R Tk linear
  iintro ⟨HR, ⟨Ha, Ho, Ht⟩, Hh, Hc, HO, Hp⟩
  isplitl [Hh]; · iexact Hh
  isplitr [HO Hp]
  · iexists κ
    isplitl [HR]; · iapply (records_use m κ); iexact HR
    isplitl [Ho]; · iexact Ho
    isplitl [Ha]; · iexact Ha
    isplitl [Ht]; · iexact Ht
    iexact Hc
  isplitl [Hp]; · iexact Hp
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

theorem both_of {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem of_both {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
    rw [show (unscopedBufs c (fun b => m ((c : Thread nD τ).loc b)) : sProp 𝕄) = StableHlo.held (c : Thread nD τ) (Pipeline.ucRefs τ sig) (V₀ m c) from
      Pipeline.unscopedBufs_held c (V₀ m c), unscopedSems0_eq]
    unfold bundle
    iintro ⟨Hh, Hus, HO, Hcr, Hp, HG⟩
    isplitl [Hh Hcr HO Hp]
    · isplitl [Hh]; · iexact Hh
      isplitl [Hcr]; · iapply (deal_creds (F := F) c); iexact Hcr
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : KK => (openTok ER (cell c (osem k)) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from bigSep_mono fun c _ => hcore c) $$ H
  ihave H2 := both_of $$ H'; icases H2 with ⟨HB, H3⟩
  ihave H4 := both_of $$ H3; icases H4 with ⟨Hv, HG⟩
  ihave Hu := (show bigSep Finset.univ (G (F := F)) ⊢ BI.own (ER (launchOf barCells ownCells allToks)) from
    Entails.of_eq (bigSep_onDev (F := F) 0 (BI.own (ER (launchOf barCells ownCells allToks))))) $$ HG
  imod (fund_launch ER (sched (AA m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear (F := F) c ∗ bundle m c)) fun c _ => T₀_intro m κ c)
  isplitr
  · unfold records
    isplitr; · iexact Hinv
    iexact Hr
  iapply of_both
  isplitr [HB]
  · unfold linear
    iapply of_both; isplitl [Hat]; · iapply hat $$ Hat
    iapply of_both; isplitl [Hopen]; · iapply hop $$ Hopen
    iapply (deal_toks (F := F)) $$ Htok
  · iexact HB

/-! ## The run -/

theorem unscoped_eq : ∀ sm : SemLoc sig, sm.isScoped .tc = false → sm = .reg barrier0 := by decide

theorem held_at (c : Dev nD) (W : Valuation τ sig (Elt F)) (b : Ref sig .tc) (h : Proc.devRef .tc b ∈ Pipeline.ucRefs τ sig) (s' : Phys nD τ sig (Elt F)) :
    iprop(StableHlo.held (c : Thread nD τ) (Pipeline.ucRefs τ sig) W ∗ SI s') ⊢ (⌜s'.mem.mem ((c : Thread nD τ).loc b) = W (Proc.devRef .tc b)⌝ : sProp 𝕄) := by
  have hb : (StableHlo.held (c : Thread nD τ) (Pipeline.ucRefs τ sig) W : sProp 𝕄) ⊢ ((c : Thread nD τ).loc b) ↦{fullShare} (W (Proc.devRef .tc b)) := by
    unfold StableHlo.held
    exact bigSep_elim h
  iintro ⟨H, HSI⟩
  ihave H := hb $$ H
  icombine HSI H gives %hx
  ipureintro
  exact Buf.eq_of_forall_mem_univ hx

/-- What a final state is read for. -/
def Fin₁ (c : Dev nD) (s : MemSt nD τ sig (Elt F)) : Prop :=
  ((s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)) ∧ s.mem ((c : Thread nD τ).loc main_v15) = OUT (AA m) c) ∧ s.sem (barCell c) = 0

theorem read_fin (c : Dev nD) (s' : Phys nD τ sig (Elt F)) : iprop(Tₙ m c ∗ SI s') ⊢ (⌜Fin₁ m c s'.mem⌝ : sProp 𝕄) := by
  have hk (r : Ref sig .tc) (h : Proc.devRef .tc r ∈ Pipeline.ucRefs τ sig) (hw : ∀ w, Pipeline.arrRef spec0 w = r → (cfg0.win w).isOut = false)
      (hV : V m c r = m ((c : Thread nD τ).loc r)) :
      iprop(StableHlo.held (c : Thread nD τ) (Pipeline.ucRefs τ sig) (V₂ m c) ∗ SI s') ⊢ (⌜s'.mem.mem ((c : Thread nD τ).loc r) = m ((c : Thread nD τ).loc r)⌝ : sProp 𝕄) :=
    (held_at c (V₂ m c) r h s').trans (BI.pure_mono fun e => e.trans ((V₂_keeps m c r hw).trans hV))
  have h0 := hk main_arg0 (by decide) (by decide) (V_main_arg0 m c)
  have h1 := hk main_arg1 (by decide) (by decide) (V_main_arg1 m c)
  have h2 := hk main_arg2 (by decide) (by decide) (V_main_arg2 m c)
  have h3 := hk main_arg3 (by decide) (by decide) (V_main_arg3 m c)
  have h4 := hk main_arg4 (by decide) (by decide) (V_main_arg4 m c)
  have h5 : iprop(StableHlo.held (c : Thread nD τ) (Pipeline.ucRefs τ sig) (V₂ m c) ∗ SI s') ⊢ (⌜s'.mem.mem ((c : Thread nD τ).loc main_v15) = OUT (AA m) c⌝ : sProp 𝕄) :=
    (held_at c (V₂ m c) main_v15 (by decide) s').trans (BI.pure_mono fun e => e.trans (V₂_out m c))
  unfold Tₙ Yk
  iintro ⟨⟨H, Hb⟩, HSI⟩
  icombine HSI Hb gives %hb
  ihave %e0 := h0 $$ [H HSI]
  · isplitl [H]; · iexact H
    iexact HSI
  ihave %e1 := h1 $$ [H HSI]
  · isplitl [H]; · iexact H
    iexact HSI
  ihave %e2 := h2 $$ [H HSI]
  · isplitl [H]; · iexact H
    iexact HSI
  ihave %e3 := h3 $$ [H HSI]
  · isplitl [H]; · iexact H
    iexact HSI
  ihave %e4 := h4 $$ [H HSI]
  · isplitl [H]; · iexact H
    iexact HSI
  ihave %e5 := h5 $$ [H HSI]
  · isplitl [H]; · iexact H
    iexact HSI
  ipureintro
  exact ⟨⟨⟨e0, e1, e2, e3, e4⟩, e5⟩, by simpa using hb⟩

set_option backward.isDefEq.respectTransparency.types false in
/-- THE RUN: from any memory with every counter at zero, every fair execution of @main on the eight devices ends with the
    five arguments as they were, the result at `OUT`, and every counter at zero. -/
theorem run_main : θ_run defs (onTc (τ := τ) (main (F := F))) ⟨m, fun _ => 0, ρ⟩ (fun r => (∀ c : Dev nD, Fin₁ m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := ⟨fun c => .rfl, fun c => reg_pre m c, fun c => reg_post m c⟩)
    (hinit := init m ρ)
    (QY := Fin₁ m)
    (hfin := fun c s' => by
      iintro ⟨HT, HSI⟩
      ihave %h := (read_fin m c s') $$ [HT HSI]
      · isplitl [HT]; · iexact HT
        iexact HSI
      imodintro
      isplitr
      · ipureintro; exact h
      iexact HSI)
    (hQ := fun s h hs => ⟨h, sem_eq_zero hs fun c sm hsm => by
        obtain rfl := unscoped_eq sm hsm
        exact (h c).2⟩)

end Cert.KernelIdeal.Hand

end
-- ==== Proof.Frames.lean ====
/-
  THE FRAMES: the run of Launch.lean read as the two kernels' frame claims. The printed kernel is the idealized one with
  its named constant read at its bits.
-/
module

public import proofs.«01_k».proof.Defs
public import proofs.«01_k».proof.Proof.Gen.Kernel
public import proofs.«01_k».proof.Proof.I.Launch
public import Idealize.ShloMosaic.Lib.Pipeline.Regions

@[expose] public section

noncomputable section

namespace Cert.Frames

open Idealize.ShloMosaic Idealize.SL.Sem

/-- A named constant read at its bits. -/
@[instance_reducible] def atBits : Named Bits := ⟨fun _ _ {φ} bits => Scalar.ofBits φ bits⟩

/-- What the frame says of the idealized kernel's text at an instance `F`. -/
def FrameAt (F : FTy → Type) [FloatOps F] [Named F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frameAt (F : FTy → Type) [FloatOps F] [Named F] : FrameAt F := fun m g _ =>
  θ_run_mono (Cert.KernelIdeal.Hand.run_main m g) fun r h => ⟨fun c => (h.1 c).1.1, h.2⟩

/-- The idealized kernel's frame. -/
theorem frame_ideal : Cert.quiescent_KernelIdeal (hKernelIdeal := Cert.KernelIdeal.Gen.facts) := frameAt Ideal

/-- The printed kernel's frame: at `Bits`, its text is the idealized one's with the constant read at its bits. -/
theorem frame_bits_eq : (Cert.quiescent_Kernel (hKernel := Cert.Kernel.Gen.facts)) = @FrameAt Bits _ atBits := by chain_rfl
theorem frame_bits : Cert.quiescent_Kernel (hKernel := Cert.Kernel.Gen.facts) := frame_bits_eq.mpr (@frameAt Bits _ atBits)

end Cert.Frames

end
-- ==== Proof.V.Math.lean ====
/-
  THE ARITHMETIC of one attention row over the extended reals, with no vector in it: a row's weights, that keys scored at
  minus infinity weigh nothing, and that a positive factor moves out of a sum.
-/
module

public import Idealize.ShloMosaic.Lib.Pointwise

@[expose] public section

noncomputable section

namespace Cert.Attn

open Idealize.ShloMosaic

/-- The dequantiser's step and the scores' scales: the words as the programs spell them. -/
def c4 : EReal := Ideal.ofBits .f32 0x3D010204#32
def c8 : EReal := Ideal.ofBits .f32 0x3B810204#32
def e8 : EReal := Ideal.ofBits .f32 0x3E000000#32

/-- The greatest of a row's scores, the weight of one key, and the row's sum of weights. -/
def top {n : ℕ} (s : Fin n → EReal) : EReal := Finset.univ.fold max ⊥ s
def wgt {n : ℕ} (s : Fin n → EReal) (j : Fin n) : EReal := Ideal.exp (s j - top s)
def tot {n : ℕ} (s : Fin n → EReal) : EReal := ∑ j, wgt s j

theorem exp_nonneg (x : EReal) : 0 ≤ Ideal.exp x := by
  induction x with
  | bot => simp
  | top => simp
  | coe r => simpa using (Real.exp_pos r).le

theorem wgt_nonneg {n : ℕ} (s : Fin n → EReal) (j : Fin n) : 0 ≤ wgt s j := exp_nonneg _
theorem wgt_of_bot {n : ℕ} {s : Fin n → EReal} {j : Fin n} (h : s j = ⊥) : wgt s j = 0 := by
  unfold wgt
  rw [h, sub_eq_add_neg, EReal.bot_add, Ideal.exp_bot]

/-- A positive real factor moves out of a sum, infinite terms or not. -/
theorem sum_mul_pos {ι : Type} (t : Finset ι) (f : ι → EReal) {c : ℝ} (hc : 0 < c) :
    ∑ x ∈ t, f x * (c : EReal) = (∑ x ∈ t, f x) * (c : EReal) := by
  classical
  induction t using Finset.induction_on with
  | empty => simp
  | insert a t ha ih =>
    rw [Finset.sum_insert ha, Finset.sum_insert ha, ih,
      EReal.right_distrib_of_nonneg_of_ne_top (by exact_mod_cast hc.le) (EReal.coe_ne_top c)]

theorem c4_val : c4 = ((8454660 * (2 : ℝ) ^ (-28 : Int) : ℝ) : EReal) := by
  unfold c4
  simp [Ideal.ofBits, Ideal.ieee, -EReal.coe_mul]
theorem c8_val : c8 = ((8454660 * (2 : ℝ) ^ (-31 : Int) : ℝ) : EReal) := by
  unfold c8
  simp [Ideal.ofBits, Ideal.ieee, -EReal.coe_mul]
theorem e8_val : e8 = ((1 / 8 : ℝ) : EReal) := by
  unfold e8
  simp [Ideal.ofBits, Ideal.ieee, -EReal.coe_mul]; norm_num
theorem ninf_val : Ideal.ofBits .f32 0xFF800000#32 = ⊥ := by
  simp [Ideal.ofBits, Ideal.ieee, -EReal.coe_mul]
theorem c4_real : ∃ r : ℝ, 0 < r ∧ c4 = (r : EReal) := ⟨_, by positivity, c4_val⟩
theorem c4_mul_e8 : c4 * e8 = c8 := by
  rw [c4_val, c8_val, e8_val, ← EReal.coe_mul]
  norm_num

/-- The scores: the reference scales each key and then the product, the kernel the product by both factors at once. -/
theorem score_eq {n : ℕ} (q k : Fin n → EReal) : (∑ x, q x * (k x * c4)) * e8 = (∑ x, q x * k x) * c8 := by
  obtain ⟨r, hr, e⟩ := c4_real
  rw [← c4_mul_e8, e, ← mul_assoc, ← sum_mul_pos _ _ hr]
  simp only [mul_assoc]

/-- The first 384 of 2048 keys. -/
abbrev lo (j : Fin 384) : Fin 2048 := ⟨j.val, by omega⟩

theorem sum_lo (f : Fin 2048 → EReal) (h : ∀ j : Fin 2048, 384 ≤ j.val → f j = 0) : ∑ j, f j = ∑ j : Fin 384, f (lo j) := by
  have e := Fin.sum_univ_add (a := 384) (b := 1664) f
  refine e.trans ?_
  rw [Finset.sum_eq_zero (s := (Finset.univ : Finset (Fin 1664))) fun j _ => h _ (by simp), add_zero]
  rfl

theorem top_lo (s : Fin 2048 → EReal) (h : ∀ j : Fin 2048, 384 ≤ j.val → s j = ⊥) : top s = top fun j : Fin 384 => s (lo j) := by
  unfold top
  refine le_antisymm ?_ ?_
  · rw [Finset.fold_max_le]
    refine ⟨bot_le, fun j _ => ?_⟩
    by_cases hj : 384 ≤ j.val
    · rw [h j hj]; exact bot_le
    · exact Finset.le_fold_max _ |>.mpr (.inr ⟨⟨j.val, by omega⟩, Finset.mem_univ _, le_rfl⟩)
  · rw [Finset.fold_max_le]
    exact ⟨bot_le, fun j _ => Finset.le_fold_max _ |>.mpr (.inr ⟨lo j, Finset.mem_univ _, le_rfl⟩)⟩

theorem wgt_lo (s : Fin 2048 → EReal) (h : ∀ j : Fin 2048, 384 ≤ j.val → s j = ⊥) (j : Fin 384) :
    wgt s (lo j) = wgt (fun j : Fin 384 => s (lo j)) j := by
  unfold wgt
  rw [top_lo s h]
theorem tot_lo (s : Fin 2048 → EReal) (h : ∀ j : Fin 2048, 384 ≤ j.val → s j = ⊥) : tot s = tot fun j : Fin 384 => s (lo j) := by
  unfold tot
  rw [sum_lo _ fun j hj => wgt_of_bot (h j hj)]
  exact Finset.sum_congr rfl fun j _ => wgt_lo s h j

/-- One weight's share of the context: where the row's sum is zero so is every weight. -/
theorem share_eq {n : ℕ} (s : Fin n → EReal) (j : Fin n) (v : EReal) :
    (v * c4) * (wgt s j * Ideal.div 1 (tot s)) = wgt s j * Ideal.div c4 (tot s) * v := by
  by_cases h : tot s = 0
  · have hw : wgt s j = 0 := (Finset.sum_eq_zero_iff_of_nonneg fun j _ => wgt_nonneg s j).mp h j (Finset.mem_univ j)
    rw [hw]; simp
  · unfold Ideal.div
    rw [if_neg h, if_neg h, one_mul]
    ac_rfl

/-- The context: over all 2048 keys as the reference sums it, over the first 384 as the kernel does. -/
theorem ctx_eq (s v : Fin 2048 → EReal) (h : ∀ j : Fin 2048, 384 ≤ j.val → s j = ⊥) :
    ∑ j, (v j * c4) * (wgt s j * Ideal.div 1 (tot s))
      = ∑ j : Fin 384, wgt (fun j : Fin 384 => s (lo j)) j * Ideal.div c4 (tot fun j : Fin 384 => s (lo j)) * v (lo j) := by
  rw [sum_lo _ fun j hj => by rw [wgt_of_bot (h j hj)]; simp]
  refine Finset.sum_congr rfl fun j _ => ?_
  rw [share_eq, wgt_lo s h, tot_lo s h]

end Cert.Attn

end
-- ==== Proof.V.Head.lean ====
/-
  ONE HEAD of the kernel at the ideal instance: its scores, weights and context at an index, and the eight heads of the two
  batches as this one function.
-/
module

public import proofs.«01_k».proof.Proof.I.Contents
public import proofs.«01_k».proof.Proof.V.Math

@[expose] public section

set_option maxRecDepth 16384

noncomputable section

namespace Cert.KernelIdeal.Val

open Cert.KernelIdeal.Hand

open Idealize.ShloMosaic
open Idealize.ShloMosaic.TcCoe
open Idealize.SL
open Cert.KernelIdeal Cert.KernelIdeal.Gen

section
variable {F : FTy → Type} [FloatOps F] [Named F]

/-- The masked, scaled scores of a head: its queries against its 384 keys. -/
def hscore (q : FVec F S256x64 .bf16) (k : Vec F S1x384x64 .i8) : FVec F S256x384 .f32 :=
  select k0_pay7 (mulf (matmul dot_S256x64_S384x64_S256x384_1_1_0_0_n_n none q (k0_pay10 k) (constant S256x384 .f32 0x00000000#32))
    (broadcast S256x384 (Scalar.ofBits .f32 0x3B810204#32))) k0_pay20

/-- A head's context from its scores and values. -/
def hctx (s : FVec F S256x384 .f32) (v : Vec F S1x384x64 .i8) : FVec F S256x64 .f32 :=
  have w : FVec F S256x384 .f32 := exp (subf s (broadcastTo S256x384 (shapeCast S256x1 (multiReduction .maximumf [1] S256 s 0xFF800000#32 reduces_S256x384_S256 (.inl rfl) rfl) shapeCasts_S256_S256x1) broadcasts_S256x1_S256x384))
  matmul dot_S256x384_S384x64_S256x64_1_0_0_1_n_n none
    (truncf .bf16 (mulf w (broadcastTo S256x384 (divf (broadcast S256x1 (Scalar.ofBits .f32 0x3D010204#32))
      (shapeCast S256x1 (multiReduction .add [1] S256 w 0x00000000#32 reduces_S256x384_S256 (.inl rfl) rfl) shapeCasts_S256_S256x1)) broadcasts_S256x1_S256x384)) bitsLt_bf16_f32)
    (k0_pay10 v) (constant S256x64 .f32 0x00000000#32)

/-- A batch's output from its four heads' contexts. -/
def hout (a b c d : FVec F S256x64 .f32) (wo : Vec F S256x512 .f32) : FVec F S1x256x512 .bf16 :=
  shapeCast S1x256x512 (truncf .bf16 (matmul dot_S256x256_S256x512_S256x512_1_0_0_1_n_n none
    (concatenate S256x256 1 [⟨S256x64, a⟩, ⟨S256x64, b⟩, ⟨S256x64, c⟩, ⟨S256x64, d⟩] concatenates_S256x64_S256x64_S256x64_S256x64_S256x256_d1)
    (shapeCast S256x512 wo shapeCasts_S256x512_S256x512) (constant S256x512 .f32 0x00000000#32)) bitsLt_bf16_f32) shapeCasts_S256x512_S1x256x512

abbrev qs0 (q : FVec F S256x256 .bf16) : FVec F S256x64 .bf16 := extractStridedSlice S256x64 ![0, 0] q slices_S256x256_o0_0_S256x64
abbrev qs1 (q : FVec F S256x256 .bf16) : FVec F S256x64 .bf16 := extractStridedSlice S256x64 ![0, 64] q slices_S256x256_o0_64_S256x64
abbrev qs2 (q : FVec F S256x256 .bf16) : FVec F S256x64 .bf16 := extractStridedSlice S256x64 ![0, 128] q slices_S256x256_o0_128_S256x64
abbrev qs3 (q : FVec F S256x256 .bf16) : FVec F S256x64 .bf16 := extractStridedSlice S256x64 ![0, 192] q slices_S256x256_o0_192_S256x64

variable (A : In F)

theorem tile0_heads (c : Dev nD) : tile0 A c = hout
    (hctx (hscore (qs0 (q0 A c)) (kld A c kvR00)) (vld A c kvR00)) (hctx (hscore (qs1 (q0 A c)) (kld A c kvR01)) (vld A c kvR01))
    (hctx (hscore (qs2 (q0 A c)) (kld A c kvR02)) (vld A c kvR02)) (hctx (hscore (qs3 (q0 A c)) (kld A c kvR03)) (vld A c kvR03)) (wold A c) := rfl
theorem tile1_heads (c : Dev nD) : tile1 A c = hout
    (hctx (hscore (qs0 (q1 A c)) (kld A c kvR10)) (vld A c kvR10)) (hctx (hscore (qs1 (q1 A c)) (kld A c kvR11)) (vld A c kvR11))
    (hctx (hscore (qs2 (q1 A c)) (kld A c kvR12)) (vld A c kvR12)) (hctx (hscore (qs3 (q1 A c)) (kld A c kvR13)) (vld A c kvR13)) (wold A c) := rfl
end

/-! ## At the ideal instance -/

open Cert.Attn

/-- The keys a query row may see: those within 128 rows of it. -/
abbrev near (i : Fin 256) {n : ℕ} (j : Fin n) : BitVec 1 :=
  IntOp.cmpi CmpIPredicate.sle (IntOp.absi (IntOp.subi (BitVec.ofNat 32 i.val) (BitVec.ofNat 32 j.val))) 128#32

/-- A byte as a number. -/
abbrev num (b : BitVec 8) : EReal := ((b.toInt : ℝ) : EReal)

theorem mask_val : Named.named (F := Ideal) κ "mask" (φ := .f32) 0xCE6E6B28#32 = (⊥ : EReal) := rfl

/-- A head's scores. -/
theorem hscore_apply (q : FVec Ideal S256x64 .bf16) (k : Vec Ideal S1x384x64 .i8) (i : Fin 256) (j : Fin 384) :
    hscore (F := Ideal) q k (ix2 i j) = Scalar.select (near i j) ((∑ x : Fin 64, q (ix2 i x) * num (k (ix3 0 j x))) * c8) (⊥ : EReal) := by
  unfold hscore k0_pay7 k0_pay20 k0_pay10
  pointwise
  rfl

/-- A head's context. -/
theorem hctx_apply (s : FVec Ideal S256x384 .f32) (v : Vec Ideal S1x384x64 .i8) (i : Fin 256) (d : Fin 64) :
    hctx (F := Ideal) s v (ix2 i d)
      = ∑ j : Fin 384, wgt (fun j => s (ix2 i j)) j * Ideal.div c4 (tot fun j => s (ix2 i j)) * num (v (ix3 0 j d)) := by
  unfold hctx k0_pay10
  pointwise
  rw [ninf_val]
  rfl

/-- A batch's output: the contexts' lanes against the output projection's rows, head by head. -/
theorem hout_apply (f : Fin 4 → FVec Ideal S256x64 .f32) (wo : Vec Ideal S256x512 .f32) (i : Fin 256) (n : Fin 512) :
    hout (F := Ideal) (f 0) (f 1) (f 2) (f 3) wo (ix3 0 i n)
      = ∑ e : Fin 256, f ⟨e.val / 64, by omega⟩ (ix2 i ⟨e.val % 64, by omega⟩) * wo (ix2 e n) := by
  unfold hout
  pointwise
  refine Finset.sum_congr rfl fun e _ => ?_
  congr 1
  have he := e.isLt
  have key : ∀ (h : Fin 4) (x : Fin 64), e.val = 64 * h.val + x.val →
      f ⟨e.val / 64, by omega⟩ (ix2 i ⟨e.val % 64, by omega⟩) = f h (ix2 i x) := by
    intro h x hx
    have e1 : (⟨e.val / 64, by omega⟩ : Fin 4) = h := Fin.ext (by simp; omega)
    have e2 : (⟨e.val % 64, by omega⟩ : Fin 64) = x := Fin.ext (by simp; omega)
    rw [e1, e2]
  split
  · exact (key 0 ⟨e.val, _⟩ (by simp)).symm
  · split
    · exact (key 1 ⟨e.val - 64, _⟩ (by simp; omega)).symm
    · split
      · exact (key 2 ⟨e.val - 64 - 64, _⟩ (by simp; omega)).symm
      · exact (key 3 ⟨e.val - 64 - 64 - 64, _⟩ (by simp; omega)).symm

end Cert.KernelIdeal.Val

end
-- ==== Proof.V.Part.lean ====
/-
  WHAT A DEVICE COMPUTES at the ideal instance, index by index: its partial output from what it stages, and the result as the
  sum of the eight partial outputs.
-/
module

public import proofs.«01_k».proof.Proof.V.Head

@[expose] public section

set_option maxRecDepth 16384

noncomputable section

namespace Cert.KernelIdeal.Val

open Cert.KernelIdeal.Hand

open Idealize.ShloMosaic
open Idealize.ShloMosaic.TcCoe
open Idealize.SL
open Cert.KernelIdeal Cert.KernelIdeal.Gen
open Cert.Attn

/-- Where a box of stride one puts an index. -/
theorem unit_at {s : Shape} (off size : Fin s.rank → ℕ) (inb : ∀ a, off a + size a ≤ s.size a) (i : (Rect.unit off size inb).shape.Idx)
    (a : Fin s.rank) : ((Rect.unit off size inb).idx i a).val = off a + (i a).val :=
  congrArg (off a + ·) (Nat.one_mul _)

variable (A : In Ideal)

/-- Lane `x` of head `h` among a device's 256. -/
abbrev lane (h : Fin 4) (x : Fin 64) : Fin 256 := ⟨64 * h.val + x.val, by omega⟩

/-- A device's projected queries, its scores and its contexts. -/
def QV (c : Dev nD) (b : Fin 2) (i e : Fin 256) : EReal := ∑ t : Fin 512, A.x c (ix3 b i t) * A.wq c (ix2 t e)
def SV (c : Dev nD) (b : Fin 2) (h : Fin 4) (i : Fin 256) : Fin 384 → EReal := fun j =>
  Scalar.select (near i j) ((∑ x : Fin 64, QV A c b i (lane h x) * num (KB A c (ix3 b j (lane h x)))) * c8) (⊥ : EReal)
def CV (c : Dev nD) (b : Fin 2) (h : Fin 4) (i : Fin 256) (d : Fin 64) : EReal :=
  ∑ j : Fin 384, wgt (SV A c b h i) j * Ideal.div c4 (tot (SV A c b h i)) * num (VB A c (ix3 b j (lane h d)))

theorem q0_apply (c : Dev nD) (i e : Fin 256) : q0 A c (ix2 i e) = QV A c 0 i e := by
  unfold q0 k0_pay5 QV
  pointwise
  refine Finset.sum_congr rfl fun t _ => ?_
  congr 1
  · exact congrArg (A.x c) (funext fun a => Fin.ext ((unit_at _ _ _ _ a).trans (by fin_cases a <;> first | rfl | exact Nat.zero_add _)))
  · exact congrArg (A.wq c) (funext fun a => Fin.ext ((unit_at _ _ _ _ a).trans (by fin_cases a <;> first | rfl | exact Nat.zero_add _)))
theorem q1_apply (c : Dev nD) (i e : Fin 256) : q1 A c (ix2 i e) = QV A c 1 i e := by
  unfold q1 k0_pay6 QV
  pointwise
  refine Finset.sum_congr rfl fun t _ => ?_
  congr 1
  · exact congrArg (A.x c) (funext fun a => Fin.ext ((unit_at _ _ _ _ a).trans (by fin_cases a <;> first | rfl | exact Nat.zero_add _)))
  · exact congrArg (A.wq c) (funext fun a => Fin.ext ((unit_at _ _ _ _ a).trans (by fin_cases a <;> first | rfl | exact Nat.zero_add _)))

/-- A head's context from what its loads hold. -/
theorem head_apply (c : Dev nD) (b : Fin 2) (h : Fin 4) (q : FVec Ideal S256x64 .bf16) (k v : Vec Ideal S1x384x64 .i8)
    (hq : ∀ i x, q (ix2 i x) = QV A c b i (lane h x)) (hk : ∀ (j : Fin 384) x, k (ix3 0 j x) = KB A c (ix3 b j (lane h x)))
    (hv : ∀ (j : Fin 384) x, v (ix3 0 j x) = VB A c (ix3 b j (lane h x))) (i : Fin 256) (d : Fin 64) :
    hctx (F := Ideal) (hscore (F := Ideal) q k) v (ix2 i d) = CV A c b h i d := by
  rw [hctx_apply]
  have e : (fun j : Fin 384 => hscore (F := Ideal) q k (ix2 i j)) = SV A c b h i := by
    funext j
    rw [hscore_apply]
    unfold SV
    simp only [hq, hk]
  rw [e]
  unfold CV
  simp only [hv]

theorem tile0_apply (c : Dev nD) (i : Fin 256) (n : Fin 512) :
    tile0 A c (ix3 0 i n) = ∑ e : Fin 256, CV A c 0 ⟨e.val / 64, by omega⟩ i ⟨e.val % 64, by omega⟩ * A.wo c (ix2 e n) := by
  rw [tile0_heads]
  refine (hout_apply ![hctx (hscore (qs0 (q0 A c)) (kld A c kvR00)) (vld A c kvR00), hctx (hscore (qs1 (q0 A c)) (kld A c kvR01)) (vld A c kvR01),
    hctx (hscore (qs2 (q0 A c)) (kld A c kvR02)) (vld A c kvR02), hctx (hscore (qs3 (q0 A c)) (kld A c kvR03)) (vld A c kvR03)] (wold A c) i n).trans ?_
  refine Finset.sum_congr rfl fun e _ => ?_
  have hw : wold A c (ix2 e n) = A.wo c (ix2 e n) :=
    congrArg (A.wo c) (funext fun a => Fin.ext ((unit_at _ _ _ _ a).trans (by fin_cases a <;> first | rfl | exact Nat.zero_add _)))
  rw [hw]
  congr 1
  generalize (⟨e.val / 64, by omega⟩ : Fin 4) = h
  generalize (⟨e.val % 64, by omega⟩ : Fin 64) = d
  have hl : ∀ i x (h : Fin 4), QV A c 0 i (lane h x) = q0 A c (ix2 i (lane h x)) := fun i x h => (q0_apply A c i _).symm
  fin_cases h <;> refine head_apply A c 0 _ _ _ _ (fun i x => ?_) (fun j x => ?_) (fun j x => ?_) i d
  all_goals first
    | exact congrArg (KB A c) (funext fun a => Fin.ext ((unit_at _ _ _ _ a).trans (by fin_cases a <;> first | rfl | exact Nat.zero_add _)))
    | exact congrArg (VB A c) (funext fun a => Fin.ext ((unit_at _ _ _ _ a).trans (by fin_cases a <;> first | rfl | exact Nat.zero_add _)))
    | (rw [hl]; exact congrArg (q0 A c) (funext fun a => Fin.ext (by fin_cases a <;> first | rfl | exact Nat.zero_add _)))

theorem tile1_apply (c : Dev nD) (i : Fin 256) (n : Fin 512) :
    tile1 A c (ix3 0 i n) = ∑ e : Fin 256, CV A c 1 ⟨e.val / 64, by omega⟩ i ⟨e.val % 64, by omega⟩ * A.wo c (ix2 e n) := by
  rw [tile1_heads]
  refine (hout_apply ![hctx (hscore (qs0 (q1 A c)) (kld A c kvR10)) (vld A c kvR10), hctx (hscore (qs1 (q1 A c)) (kld A c kvR11)) (vld A c kvR11),
    hctx (hscore (qs2 (q1 A c)) (kld A c kvR12)) (vld A c kvR12), hctx (hscore (qs3 (q1 A c)) (kld A c kvR13)) (vld A c kvR13)] (wold A c) i n).trans ?_
  refine Finset.sum_congr rfl fun e _ => ?_
  have hw : wold A c (ix2 e n) = A.wo c (ix2 e n) :=
    congrArg (A.wo c) (funext fun a => Fin.ext ((unit_at _ _ _ _ a).trans (by fin_cases a <;> first | rfl | exact Nat.zero_add _)))
  rw [hw]
  congr 1
  generalize (⟨e.val / 64, by omega⟩ : Fin 4) = h
  generalize (⟨e.val % 64, by omega⟩ : Fin 64) = d
  have hl : ∀ i x (h : Fin 4), QV A c 1 i (lane h x) = q1 A c (ix2 i (lane h x)) := fun i x h => (q1_apply A c i _).symm
  fin_cases h <;> refine head_apply A c 1 _ _ _ _ (fun i x => ?_) (fun j x => ?_) (fun j x => ?_) i d
  all_goals first
    | exact congrArg (KB A c) (funext fun a => Fin.ext ((unit_at _ _ _ _ a).trans (by fin_cases a <;> first | rfl | exact Nat.zero_add _)))
    | exact congrArg (VB A c) (funext fun a => Fin.ext ((unit_at _ _ _ _ a).trans (by fin_cases a <;> first | rfl | exact Nat.zero_add _)))
    | (rw [hl]; exact congrArg (q1 A c) (funext fun a => Fin.ext (by fin_cases a <;> first | rfl | exact Nat.zero_add _)))

/-- A device's partial output at an index. -/
theorem PART_apply (c : Dev nD) (b : Fin 2) (i : Fin 256) (n : Fin 512) :
    PART A c (ix3 b i n) = ∑ e : Fin 256, CV A c b ⟨e.val / 64, by omega⟩ i ⟨e.val % 64, by omega⟩ * A.wo c (ix2 e n) := by
  fin_cases b
  · exact tile0_apply A c i n
  · exact tile1_apply A c i n

theorem rld_apply (c j : Dev nD) (b : Fin 2) (r : Fin 32) (n : Fin 512) :
    rld A c j (ix4 0 b r n) = PART A j (ix3 b (rowOf c r) n) := by
  have h : (slotR j).idx (ix4 (0 : Fin 1) b r n) = ix4 j b r n :=
    funext fun a => Fin.ext ((unit_at _ _ _ _ a).trans (by fin_cases a <;> first | rfl | exact Nat.zero_add _))
  exact congrArg (RS A c) h

/-- The chunk a device sums: over the eight partial outputs, in any order. -/
theorem TILE_apply (c : Dev nD) (b : Fin 2) (r : Fin 32) (n : Fin 512) :
    TILE A c (ix3 b r n) = ∑ j : Dev nD, PART A j (ix3 b (rowOf c r) n) := by
  unfold TILE k0_pay28 k0_pay26 k0_pay27
  pointwise
  simp only [rld_apply]
  exact (Fin.sum_univ_eight (fun j : Fin 8 => PART A j (ix3 b (rowOf c r) n))).symm

theorem TILEB_apply (c : Dev nD) (b : Fin 2) (r : Fin 32) (n : Fin 512) :
    TILEB A c (ix4 0 b r n) = TILE A c (ix3 b r n) := by
  unfold TILEB k0_pay29
  pointwise
  rfl

theorem gld_apply (j : Dev nD) (b : Fin 2) (r : Fin 32) (n : Fin 512) : gld A j (ix4 0 b r n) = TILE A j (ix3 b r n) := by
  have h : (slotR j).idx (ix4 (0 : Fin 1) b r n) = ix4 j b r n :=
    funext fun a => Fin.ext ((unit_at _ _ _ _ a).trans (by fin_cases a <;> first | rfl | exact Nat.zero_add _))
  exact (congrArg (AG A) h).trans (TILEB_apply A j b r n)

/-- The result is the sum of the eight partial outputs, on every device. -/
theorem OUT_apply (c : Dev nD) (b : Fin 2) (i : Fin 256) (n : Fin 512) :
    OUT A c (ix3 b i n) = ∑ j : Dev nD, PART A j (ix3 b i n) := by
  have hr : rowOf (chOf i) (inCh i) = i := Fin.ext (Nat.div_add_mod i.val 32)
  have key : TILE A (chOf i) (ix3 b (inCh i) n) = ∑ j : Dev nD, PART A j (ix3 b i n) := by rw [TILE_apply, hr]
  by_cases h : chOf i = c
  · refine (if_pos h).trans ?_
    rw [← h]
    exact key
  · refine (if_neg h).trans ?_
    refine Eq.trans ?_ key
    unfold k0_pay30
    show shapeCast S2x32x512 (gld A (chOf i)) shapeCasts_S1x2x32x512_S2x32x512 (ix3 b (inCh i) n) = _
    pointwise
    exact gld_apply A (chOf i) b (inCh i) n

end Cert.KernelIdeal.Val

end
-- ==== Proof.V.Near.lean ====
/-
  THE WINDOW as the two programs compute it: a row sees its own key, and no row of the 256 sees a key from the 384th on.
-/
module

public import proofs.«01_k».proof.Proof.V.Head
public import Idealize.ShloMosaic.Lib.Routing.OpsOrder

@[expose] public section

namespace Cert.KernelIdeal.Val

open Cert.KernelIdeal.Hand

open Idealize.ShloMosaic

/-- A row sees its own key. -/
theorem near_self (i : Fin 256) {n : ℕ} (j : Fin n) (h : j.val = i.val) : near i j = 1#1 := by
  unfold near
  rw [h]
  show BitVec.ofBool (BitVec.sle (IntOp.absi (BitVec.ofNat 32 i.val - BitVec.ofNat 32 i.val)) 128#32) = 1#1
  rw [BitVec.sub_self]
  decide

/-- A row does not see a key more than 128 rows later. -/
theorem near_far (i : Fin 256) (j : Fin 2048) (h : 384 ≤ j.val) : near i j = 0#1 := by
  have hi := i.isLt
  have hj := j.isLt
  have e : BitVec.ofNat 32 i.val - BitVec.ofNat 32 j.val = - BitVec.ofNat 32 (j.val - i.val) := by
    apply BitVec.eq_of_toNat_eq
    simp only [BitVec.toNat_sub, BitVec.toNat_neg, BitVec.toNat_ofNat]
    omega
  have m : (- BitVec.ofNat 32 (j.val - i.val)).msb = true := by
    rw [BitVec.msb_eq_decide, decide_eq_true_eq]
    simp only [BitVec.toNat_neg, BitVec.toNat_ofNat]
    omega
  show BitVec.ofBool (BitVec.sle (IntOp.absi (BitVec.ofNat 32 i.val - BitVec.ofNat 32 j.val)) 128#32) = 0#1
  unfold IntOp.absi
  rw [e, if_pos m, BitVec.neg_neg]
  have f : BitVec.sle (BitVec.ofNat 32 (j.val - i.val)) 128#32 = false := by
    rw [BitVec.sle_eq_decide, decide_eq_false_iff_not, BitVec.toInt_eq_toNat_cond, BitVec.toInt_eq_toNat_cond]
    simp only [BitVec.toNat_ofNat]
    split_ifs <;> omega
  rw [f]
  rfl

end Cert.KernelIdeal.Val

end
-- ==== Proof.V.Quant.lean ====
/-
  THE QUANTISER: the int8 keys and values the host hands the kernel, read back, are the reference's rounded and clipped numbers.
-/
module

public import proofs.«01_k».proof.Proof.I.Region
public import Idealize.ShloMosaic.Lib.Pointwise
public import Idealize.ShloMosaic.Lib.Claim
public import Idealize.ShloMosaic.Lib.StableHlo.ReadAt

@[expose] public section

set_option maxRecDepth 16384

noncomputable section

namespace Cert.Attn

open Idealize.ShloMosaic

/-- A number rounded to the nearest step of 4/127, in steps, and clipped to a signed byte without -128. -/
def quant (x : EReal) : EReal :=
  min (((127#32).toInt : ℝ) : EReal) (max (((4294967169#32).toInt : ℝ) : EReal) (Ideal.liftRound Ideal.roundHalfEven (x * Ideal.ofBits .f32 0x41FE0000#32)))

theorem byte_of_int (n : ℤ) (h1 : -127 ≤ n) (h2 : n ≤ 127) : ((BitVec.ofInt 32 n).truncate 8).toInt = n := by
  interval_cases n <;> decide

theorem clip_int (y : EReal) (hy : y = ⊥ ∨ y = ⊤ ∨ ∃ n : ℤ, y = ((n : ℝ) : EReal)) :
    ∃ n : ℤ, -127 ≤ n ∧ n ≤ 127 ∧ min (((127#32).toInt : ℝ) : EReal) (max (((4294967169#32).toInt : ℝ) : EReal) y) = ((n : ℝ) : EReal) := by
  have e1 : (127#32).toInt = 127 := by decide
  have e2 : (4294967169#32).toInt = -127 := by decide
  rw [e1, e2]
  rcases hy with rfl | rfl | ⟨n, rfl⟩
  · refine ⟨-127, by decide, by decide, ?_⟩
    rw [max_eq_left bot_le, min_eq_right]
    norm_cast
  · refine ⟨127, by decide, by decide, ?_⟩
    rw [max_eq_right le_top, min_eq_left le_top]
  · refine ⟨min 127 (max (-127) n), by omega, by omega, ?_⟩
    have m1 : ∀ a b : ℝ, ((max a b : ℝ) : EReal) = max (a : EReal) (b : EReal) := fun a b => EReal.coe_strictMono.monotone.map_max
    have m2 : ∀ a b : ℝ, ((min a b : ℝ) : EReal) = min (a : EReal) (b : EReal) := fun a b => EReal.coe_strictMono.monotone.map_min
    rw [← m1, ← m2]
    norm_cast

theorem fptosi_int (n : ℤ) (h1 : -127 ≤ n) (h2 : n ≤ 127) : Ideal.fptosi 32 ((n : ℝ) : EReal) = BitVec.ofInt 32 n := by
  unfold Ideal.fptosi
  rw [Ideal.toIntClamped_coe]
  congr 1
  have : (if (0 : ℝ) ≤ (n : ℝ) then ⌊(n : ℝ)⌋ else ⌈(n : ℝ)⌉) = n := by split <;> simp
  rw [this]
  norm_num
  omega

/-- The byte the host makes of a number, read as a number, is the quantiser's. -/
theorem byte_quant (x : EReal) : ((((Ideal.fptosi 32 (quant x)).truncate 8).toInt : ℝ) : EReal) = quant x := by
  have hy : ∀ z : EReal, Ideal.liftRound Ideal.roundHalfEven z = ⊥ ∨ Ideal.liftRound Ideal.roundHalfEven z = ⊤
      ∨ ∃ n : ℤ, Ideal.liftRound Ideal.roundHalfEven z = ((n : ℝ) : EReal) := by
    intro z
    induction z with
    | bot => exact .inl rfl
    | top => exact .inr (.inl rfl)
    | coe r => exact .inr (.inr ⟨_, rfl⟩)
  obtain ⟨n, h1, h2, e⟩ := clip_int _ (hy (x * Ideal.ofBits .f32 0x41FE0000#32))
  unfold quant
  rw [e, fptosi_int n h1 h2, byte_of_int n h1 h2]

end Cert.Attn

namespace Cert.KernelIdeal.Val

open Cert.KernelIdeal.Hand

open Idealize.ShloMosaic
open Idealize.ShloMosaic.TcCoe
open Idealize.SL
open Cert.KernelIdeal Cert.KernelIdeal.Gen

/-- The keys a device stages, as numbers. -/
theorem kf_apply (m : (ℓ : Loc nD τ sig) → Buf (Elt Ideal) ℓ) (c : Dev nD) (b : Fin 2) (r : Fin 256) (e : Fin 2048) :
    ((((AA (F := Ideal) m).kf c (ix3 b r e) : BitVec 8).toInt : ℝ) : EReal)
      = Attn.quant (m ((c.tc : Thread nD τ).loc main_arg2) (ix4 b r ⟨e.val / 64, by omega⟩ ⟨e.val % 64, by omega⟩)) := by
  show (((V m c main_v7 (ix3 b r e) : BitVec 8).toInt : ℝ) : EReal) = _
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  exact Attn.byte_quant _

/-- The values a device stages, as numbers. -/
theorem vf_apply (m : (ℓ : Loc nD τ sig) → Buf (Elt Ideal) ℓ) (c : Dev nD) (b : Fin 2) (r : Fin 256) (e : Fin 2048) :
    ((((AA (F := Ideal) m).vf c (ix3 b r e) : BitVec 8).toInt : ℝ) : EReal)
      = Attn.quant (m ((c.tc : Thread nD τ).loc main_arg3) (ix4 b r ⟨e.val / 64, by omega⟩ ⟨e.val % 64, by omega⟩)) := by
  show (((V m c main_v14 (ix3 b r e) : BitVec 8).toInt : ℝ) : EReal) = _
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_reads_at
  exact Attn.byte_quant _

end Cert.KernelIdeal.Val

end
-- ==== Proof.V.Ref.lean ====
/-
  THE REFERENCE AT AN INDEX: its result as sums over lanes and keys.
-/
module

public import proofs.«01_k».proof.Proof.Gen.ReferenceIdeal.Run
public import proofs.«01_k».proof.Proof.V.Near
public import proofs.«01_k».proof.Proof.V.Quant
public import Idealize.ShloMosaic.Lib.Tactic.CleanTypes

@[expose] public section

set_option maxRecDepth 16384

noncomputable section

namespace Cert.ReferenceIdeal.Hand

open Idealize.ShloMosaic
open Idealize.ShloMosaic.TcCoe
open Cert.ReferenceIdeal Cert.ReferenceIdeal.Gen
open Cert.Attn
open Cert.KernelIdeal.Val (near near_self)

/-- The reference's scores of row `i` in head `h`, from what its arguments hold. -/
def sref (x : (⟨3, ![2, 256, 512]⟩ : Shape).Idx → EReal) (wq : (⟨2, ![512, 2048]⟩ : Shape).Idx → EReal)
    (k : (⟨4, ![2, 2048, 32, 64]⟩ : Shape).Idx → EReal) (b : Fin 2) (h : Fin 32) (i : Fin 256) : Fin 2048 → EReal := fun j =>
  Scalar.select (near i j)
    ((∑ y : Fin 64, (∑ t : Fin 512, x (ix3 b i t) * wq (ix2 t ⟨h.val * 64 + y.val, by omega⟩)) * (quant (k (ix4 b j h y)) * c4)) * e8)
    (⊥ : EReal)

set_option maxHeartbeats 4000000 in
/-- The reference's result at an index. -/
theorem res_apply (m : (ℓ : Loc nD τ sig) → Buf (Elt Ideal) ℓ) (c : Dev nD) (b : Fin 2) (i : Fin 256) (n : Fin 512) :
    Value.res_main_v48 (F := Ideal) m c (ix3 b i n)
      = ∑ e : Fin 2048, (∑ j : Fin 2048,
          (quant (m ((c.tc : Thread nD τ).loc main_arg3) (ix4 b j ⟨e.val / 64, by omega⟩ ⟨e.val % 64, by omega⟩)) * c4)
            * (wgt (sref (m ((c.tc : Thread nD τ).loc main_arg0)) (m ((c.tc : Thread nD τ).loc main_arg1)) (m ((c.tc : Thread nD τ).loc main_arg2))
                  b ⟨e.val / 64, by omega⟩ i) j
              * Ideal.div 1 (tot (sref (m ((c.tc : Thread nD τ).loc main_arg0)) (m ((c.tc : Thread nD τ).loc main_arg1))
                  (m ((c.tc : Thread nD τ).loc main_arg2)) b ⟨e.val / 64, by omega⟩ i))))
          * m ((c.tc : Thread nD τ).loc main_arg4) (ix2 e n) := by
  unfold Value.res_main_v48
  clean_types
  pointwise
  have hor : Finset.fold IntOp.ori 0#1 (fun x : Fin 2048 => near i x) Finset.univ = 1#1 :=
    (Routing.fold_ori _ _).mpr ⟨⟨i.val, by omega⟩, Finset.mem_univ _, near_self i _ rfl⟩
  have sel : ∀ a b : EReal, Scalar.select 1#1 a b = a := fun a b => if_pos rfl
  refine Finset.sum_congr rfl fun e _ => ?_
  congr 1
  refine Finset.sum_congr rfl fun j _ => ?_
  congr 1
  have hc : (id (constant (F := Ideal) S_ .f32 0xFF800000#32) ix0 : EReal) = ⊥ := ninf_val
  have ht : Ideal.ofBits .f32 0xFF800000#32 = (⊥ : EReal) := ninf_val
  simp only [hor, sel, hc, ht]
  rfl

end Cert.ReferenceIdeal.Hand

end
-- ==== Proof.V.Eq.lean ====
/-
  THE VALUE: where the eight devices hold their blocks of the reference's arrays, the sum of their partial outputs is the
  reference's result.
-/
module

public import proofs.«01_k».proof.Proof.V.Part
public import proofs.«01_k».proof.Proof.V.Ref
public import Idealize.ShloMosaic.Lib.Layout

@[expose] public section

set_option maxRecDepth 16384

noncomputable section

namespace Cert.KernelIdeal.Val

open Cert.KernelIdeal.Hand

open Idealize.ShloMosaic
open Idealize.ShloMosaic.TcCoe
open Cert.KernelIdeal Cert.KernelIdeal.Gen
open Cert.Attn
open Cert.ReferenceIdeal.Hand (sref)

/-- The devices' arguments are their parts of whole arrays. -/
structure Cut (m : (ℓ : Loc nD τ sig) → Buf (Elt Ideal) ℓ) (X : (⟨3, ![2, 256, 512]⟩ : Shape).Idx → EReal)
    (Wq : (⟨2, ![512, 2048]⟩ : Shape).Idx → EReal) (K V : (⟨4, ![2, 2048, 32, 64]⟩ : Shape).Idx → EReal)
    (Wo : (⟨2, ![2048, 512]⟩ : Shape).Idx → EReal) : Prop where
  x : ∀ c : Dev nD, m ((c.tc : Thread nD τ).loc main_arg0) = X
  wq : ∀ c : Dev nD, m ((c.tc : Thread nD τ).loc main_arg1) = Layout.block ⟨2, ![512, 256]⟩ ⟨2, ![512, 2048]⟩ 1 8 c Wq
  k : ∀ c : Dev nD, m ((c.tc : Thread nD τ).loc main_arg2) = Layout.block ⟨4, ![2, 256, 32, 64]⟩ ⟨4, ![2, 2048, 32, 64]⟩ 1 8 c K
  v : ∀ c : Dev nD, m ((c.tc : Thread nD τ).loc main_arg3) = Layout.block ⟨4, ![2, 256, 32, 64]⟩ ⟨4, ![2, 2048, 32, 64]⟩ 1 8 c V
  wo : ∀ c : Dev nD, m ((c.tc : Thread nD τ).loc main_arg4) = Layout.block ⟨2, ![256, 512]⟩ ⟨2, ![2048, 512]⟩ 0 8 c Wo

variable {m : (ℓ : Loc nD τ sig) → Buf (Elt Ideal) ℓ} {X : (⟨3, ![2, 256, 512]⟩ : Shape).Idx → EReal}
  {Wq : (⟨2, ![512, 2048]⟩ : Shape).Idx → EReal} {K V : (⟨4, ![2, 2048, 32, 64]⟩ : Shape).Idx → EReal}
  {Wo : (⟨2, ![2048, 512]⟩ : Shape).Idx → EReal} (H : Cut m X Wq K V Wo)

theorem dev_lt (c : Dev nD) : c.val < 8 := c.isLt

/-- The number of device `c`'s head `h` among all thirty-two. -/
abbrev head (c : Dev nD) (h : Fin 4) : Fin 32 := ⟨4 * c.val + h.val, by have := dev_lt c; omega⟩

include H

theorem x_apply (c : Dev nD) (b : Fin 2) (i : Fin 256) (t : Fin 512) : (AA (F := Ideal) m).x c (ix3 b i t) = X (ix3 b i t) :=
  congrFun ((V_main_arg0 m c).trans (H.x c)) _

theorem wq_apply (c : Dev nD) (t : Fin 512) (e : Fin 256) :
    (AA (F := Ideal) m).wq c (ix2 t e) = Wq (ix2 t ⟨c.val * 256 + e.val, by have := dev_lt c; omega⟩) :=
  (congrFun ((V_main_arg1 m c).trans (H.wq c)) _).trans
    (congrArg Wq (funext fun a => Fin.ext (by fin_cases a <;> rfl)))

theorem wo_apply (c : Dev nD) (e : Fin 256) (n : Fin 512) :
    (AA (F := Ideal) m).wo c (ix2 e n) = Wo (ix2 ⟨c.val * 256 + e.val, by have := dev_lt c; omega⟩ n) :=
  (congrFun ((V_main_arg4 m c).trans (H.wo c)) _).trans
    (congrArg Wo (funext fun a => Fin.ext (by fin_cases a <;> rfl)))

theorem k_apply (c : Dev nD) (b : Fin 2) (r : Fin 256) (h : Fin 32) (y : Fin 64) :
    m ((c.tc : Thread nD τ).loc main_arg2) (ix4 b r h y) = K (ix4 b ⟨c.val * 256 + r.val, by have := dev_lt c; omega⟩ h y) :=
  (congrFun (H.k c) _).trans (congrArg K (funext fun a => Fin.ext (by fin_cases a <;> rfl)))

theorem v_apply (c : Dev nD) (b : Fin 2) (r : Fin 256) (h : Fin 32) (y : Fin 64) :
    m ((c.tc : Thread nD τ).loc main_arg3) (ix4 b r h y) = V (ix4 b ⟨c.val * 256 + r.val, by have := dev_lt c; omega⟩ h y) :=
  (congrFun (H.v c) _).trans (congrArg V (funext fun a => Fin.ext (by fin_cases a <;> rfl)))

/-- The gathered keys: row `j` is row `j` of the whole array. -/
theorem KB_apply (c : Dev nD) (b : Fin 2) (j : Fin 384) (h : Fin 4) (y : Fin 64) :
    num (KB (AA (F := Ideal) m) c (ix3 b j (lane h y))) = quant (K (ix4 b (lo j) (head c h) y)) := by
  have hc := dev_lt c
  show num (if j.val < 256 then kvAt ((AA (F := Ideal) m).kf 0) b.val j.val (256 * c.val + (64 * h.val + y.val))
    else kvAt ((AA (F := Ideal) m).kf 1) b.val (j.val - 256) (256 * c.val + (64 * h.val + y.val))) = _
  split_ifs with hj
  · unfold kvAt
    refine (kf_apply m 0 _ _ _).trans (congrArg quant ((k_apply H 0 _ _ _ _).trans (congrArg K ?_)))
    refine funext fun a => Fin.ext ?_
    fin_cases a <;> simp [lo] <;> omega
  · unfold kvAt
    refine (kf_apply m 1 _ _ _).trans (congrArg quant ((k_apply H 1 _ _ _ _).trans (congrArg K ?_)))
    refine funext fun a => Fin.ext ?_
    fin_cases a <;> simp [lo] <;> omega

/-- The gathered values: row `j` is row `j` of the whole array. -/
theorem VB_apply (c : Dev nD) (b : Fin 2) (j : Fin 384) (h : Fin 4) (y : Fin 64) :
    num (VB (AA (F := Ideal) m) c (ix3 b j (lane h y))) = quant (V (ix4 b (lo j) (head c h) y)) := by
  have hc := dev_lt c
  show num (if j.val < 256 then kvAt ((AA (F := Ideal) m).vf 0) b.val j.val (256 * c.val + (64 * h.val + y.val))
    else kvAt ((AA (F := Ideal) m).vf 1) b.val (j.val - 256) (256 * c.val + (64 * h.val + y.val))) = _
  split_ifs with hj
  · unfold kvAt
    refine (vf_apply m 0 _ _ _).trans (congrArg quant ((v_apply H 0 _ _ _ _).trans (congrArg V ?_)))
    refine funext fun a => Fin.ext ?_
    fin_cases a <;> simp [lo] <;> omega
  · unfold kvAt
    refine (vf_apply m 1 _ _ _).trans (congrArg quant ((v_apply H 1 _ _ _ _).trans (congrArg V ?_)))
    refine funext fun a => Fin.ext ?_
    fin_cases a <;> simp [lo] <;> omega

/-- A device's queries are the reference's, its lanes moved to its heads'. -/
theorem QV_eq (c : Dev nD) (b : Fin 2) (i : Fin 256) (h : Fin 4) (y : Fin 64) :
    QV (AA (F := Ideal) m) c b i (lane h y)
      = ∑ t : Fin 512, X (ix3 b i t) * Wq (ix2 t ⟨(head c h).val * 64 + y.val, by have := (head c h).isLt; omega⟩) := by
  unfold QV
  refine Finset.sum_congr rfl fun t _ => ?_
  rw [x_apply H, wq_apply H]
  exact congrArg (fun e => X (ix3 b i t) * Wq (ix2 t e)) (Fin.ext (by show c.val * 256 + (64 * h.val + y.val) = (4 * c.val + h.val) * 64 + y.val; omega))

/-- A device's scores are the reference's of the first 384 keys. -/
theorem SV_eq (c : Dev nD) (b : Fin 2) (h : Fin 4) (i : Fin 256) :
    SV (AA (F := Ideal) m) c b h i = fun j => sref X Wq K b (head c h) i (lo j) := by
  funext j
  unfold SV sref
  rw [score_eq]
  simp only [QV_eq H, KB_apply H]

/-- A device's contexts are the reference's, over all keys. -/
theorem CV_eq (c : Dev nD) (b : Fin 2) (h : Fin 4) (i : Fin 256) (d : Fin 64) :
    CV (AA (F := Ideal) m) c b h i d
      = ∑ j : Fin 2048, (quant (V (ix4 b j (head c h) d)) * c4)
          * (wgt (sref X Wq K b (head c h) i) j * Ideal.div 1 (tot (sref X Wq K b (head c h) i))) := by
  rw [ctx_eq (sref X Wq K b (head c h) i) (fun j => quant (V (ix4 b j (head c h) d)))
    fun j hj => by unfold sref; rw [near_far i j hj]; rfl]
  unfold CV
  rw [SV_eq H]
  simp only [VB_apply H]

/-- What every device ends with, in the whole arrays. -/
theorem OUT_eq (c : Dev nD) (b : Fin 2) (i : Fin 256) (n : Fin 512) :
    OUT (AA (F := Ideal) m) c (ix3 b i n)
      = ∑ e : Fin 2048, (∑ j : Fin 2048, (quant (V (ix4 b j ⟨e.val / 64, by omega⟩ ⟨e.val % 64, by omega⟩)) * c4)
          * (wgt (sref X Wq K b ⟨e.val / 64, by omega⟩ i) j * Ideal.div 1 (tot (sref X Wq K b ⟨e.val / 64, by omega⟩ i))))
          * Wo (ix2 e n) := by
  rw [OUT_apply]
  simp only [PART_apply]
  refine (Fintype.sum_prod_type' (fun (j : Fin 8) (e : Fin 256) =>
    CV (AA (F := Ideal) m) j b ⟨e.val / 64, by omega⟩ i ⟨e.val % 64, by omega⟩ * (AA (F := Ideal) m).wo j (ix2 e n))).symm.trans ?_
  refine Fintype.sum_equiv (finProdFinEquiv (m := 8) (n := 256)) _ _ fun p => ?_
  obtain ⟨j, e⟩ := p
  have hp : ((finProdFinEquiv (m := 8) (n := 256)) (j, e)).val = e.val + 256 * j.val := rfl
  have hj := j.isLt
  dsimp only
  rw [CV_eq H, wo_apply H]
  have hh : head j ⟨e.val / 64, by omega⟩ = ⟨(finProdFinEquiv (m := 8) (n := 256) (j, e)).val / 64, by omega⟩ :=
    Fin.ext (by show 4 * j.val + e.val / 64 = _ / 64; rw [hp]; omega)
  have hd : (⟨e.val % 64, by omega⟩ : Fin 64) = ⟨(finProdFinEquiv (m := 8) (n := 256) (j, e)).val % 64, by omega⟩ :=
    Fin.ext (by show e.val % 64 = _ % 64; rw [hp]; omega)
  have he : (⟨j.val * 256 + e.val, by omega⟩ : Fin 2048) = finProdFinEquiv (m := 8) (n := 256) (j, e) :=
    Fin.ext (by show j.val * 256 + e.val = _; rw [hp]; omega)
  rw [hh, hd]
  exact congrArg (fun e => _ * Wo (ix2 e n)) he

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.V.Eq
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference runs, keeps its arguments and leaves every semaphore at zero. -/
theorem frame_reference : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl r.2⟩

/-- The value: on every device the kernel's result is the reference's, and both keep their arguments. -/
theorem value : Cert.algebraic_KernelIdeal_ReferenceIdeal (hKernelIdeal := Cert.KernelIdeal.Gen.facts)
    (hReferenceIdeal := Cert.ReferenceIdeal.Gen.facts) := fun m g m' g' _ hl => by
  have cut : Cert.KernelIdeal.Val.Cut m _ _ _ _ _ :=
    ⟨fun c => (hl c).1, fun c => (hl c).2.1, fun c => (hl c).2.2.1, fun c => (hl c).2.2.2.1, fun c => (hl c).2.2.2.2⟩
  refine ⟨Cert.ReferenceIdeal.Value.res_main_v48 (F := Ideal) m' 0,
    θ_run_mono (Cert.KernelIdeal.Hand.run_main m g) fun r h c => ⟨?_, (h.1 c).1.1⟩,
    θ_run_mono (Cert.ReferenceIdeal.Value.run m' g') fun r h => h 0⟩
  refine (h.1 c).1.2.trans (funext fun x => ?_)
  have e : x = ix3 (x 0) (x 1) (x 2) := funext fun a => by fin_cases a <;> rfl
  rw [e]
  exact (Cert.KernelIdeal.Val.OUT_eq cut c _ _ _).trans (Cert.ReferenceIdeal.Hand.res_apply m' 0 _ _ _).symm

theorem claim : Cert.Claim :=
  ⟨Cert.Kernel.Gen.facts, Cert.KernelIdeal.Gen.facts, Cert.ReferenceIdeal.Gen.facts,
    Cert.Frames.frame_bits, Cert.Frames.frame_ideal, frame_reference,
    IdealRules.named_const.statement Cert.KernelIdeal.κ "mask" .f32 0xCE6E6B28#32 ⊥ rfl, value⟩

end Cert.Proof

end
